-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_states [hPre_finite_states : Cert.Pre_finite_states.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_states.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_states [hPre_finite_states : Cert.Pre_finite_states.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_states.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_mla_scores [hPre_finite_mla_scores : Cert.Pre_finite_mla_scores.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_mla_scores.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_mla_scores [hPre_finite_mla_scores : Cert.Pre_finite_mla_scores.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_mla_scores.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Kernel2Ideal_pre_finite_states [hKernel2Ideal : Cert.Kernel2Ideal.Facts] [hPre_finite_states : Cert.Pre_finite_states.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_states m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Reference2Ideal_pre_finite_states [hReference2Ideal : Cert.Reference2Ideal.Facts] [hPre_finite_states : Cert.Pre_finite_states.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_states m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite_mla_scores [hKernel5Ideal : Cert.Kernel5Ideal.Facts] [hPre_finite_mla_scores : Cert.Pre_finite_mla_scores.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_mla_scores m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite_mla_scores [hReference5Ideal : Cert.Reference5Ideal.Facts] [hPre_finite_mla_scores : Cert.Pre_finite_mla_scores.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_mla_scores m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_states [hKernel2Ideal : Cert.Kernel2Ideal.Facts] [hReference2Ideal : Cert.Reference2Ideal.Facts] [hPre_finite_states : Cert.Pre_finite_states.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_states m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v25)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v74) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)) (v2 : (c : Dev Cert.Kernel4Ideal.nD) → Buf (Elt Ideal) ((c.tc : Thread Cert.Kernel4Ideal.nD Cert.Kernel4Ideal.τ).loc Cert.Kernel4Ideal.main_v21)) (v3 : (c : Dev Cert.Kernel4Ideal.nD) → Buf (Elt Ideal) ((c.tc : Thread Cert.Kernel4Ideal.nD Cert.Kernel4Ideal.τ).loc Cert.Kernel4Ideal.main_v14_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_v21) = v2 c
          ∧ r.2.mem ((c.tc : Thread Cert.Kernel4Ideal.nD Cert.Kernel4Ideal.τ).loc Cert.Kernel4Ideal.main_v14_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_v28) = v2 c
          ∧ r.2.mem ((c.tc : Thread Cert.Reference4Ideal.nD Cert.Reference4Ideal.τ).loc Cert.Reference4Ideal.main_v29) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "scale" .f32 0x3E16C740#32 (((3424635 / 33554432) * (Real.log 2)⁻¹ : ℝ) : EReal)

def algebraic_Kernel5Ideal_Reference5Ideal_pre_finite_mla_scores [hKernel5Ideal : Cert.Kernel5Ideal.Facts] [hReference5Ideal : Cert.Reference5Ideal.Facts] [hPre_finite_mla_scores : Cert.Pre_finite_mla_scores.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_mla_scores m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v22)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts) (hPre_finite_states : Cert.Pre_finite_states.Facts) (hPre_finite_mla_scores : Cert.Pre_finite_mla_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_states (hKernel2Ideal := hKernel2Ideal) (hPre_finite_states := hPre_finite_states)
    ∧ quiescent_Reference2Ideal (hReference2Ideal := hReference2Ideal)
    ∧ quiescent_Reference2Ideal_pre_finite_states (hReference2Ideal := hReference2Ideal) (hPre_finite_states := hPre_finite_states)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_mla_scores (hKernel5Ideal := hKernel5Ideal) (hPre_finite_mla_scores := hPre_finite_mla_scores)
    ∧ quiescent_Reference5Ideal (hReference5Ideal := hReference5Ideal)
    ∧ quiescent_Reference5Ideal_pre_finite_mla_scores (hReference5Ideal := hReference5Ideal) (hPre_finite_mla_scores := hPre_finite_mla_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_states (hKernel2Ideal := hKernel2Ideal) (hReference2Ideal := hReference2Ideal) (hPre_finite_states := hPre_finite_states)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_mla_scores (hKernel5Ideal := hKernel5Ideal) (hReference5Ideal := hReference5Ideal) (hPre_finite_mla_scores := hPre_finite_mla_scores)
-- ==== Pre_finite_mla_scores.lean ====
abbrev S8x4096x4x1x96 : Shape := ⟨5, ![8, 4096, 4, 1, 96]⟩
abbrev S8x256x4x96 : Shape := ⟨4, ![8, 256, 4, 96]⟩
abbrev S8x256x4x64 : Shape := ⟨4, ![8, 256, 4, 64]⟩
abbrev S8x4096x4x96 : Shape := ⟨4, ![8, 4096, 4, 96]⟩
abbrev S8x4096x4x64 : Shape := ⟨4, ![8, 4096, 4, 64]⟩
abbrev S_ : Shape := ⟨0, ![]⟩

class Facts : Prop where
  bcast_S_S8x4096x4x1x96 : S_.BroadcastsInDim S8x4096x4x1x96 (![] : Fin 0 → Fin S8x4096x4x1x96.rank)
  reducesTo_S8x4096x4x1x96_S_d0_1_2_3_4 : S8x4096x4x1x96.ReducesTo [0, 1, 2, 3, 4] S_
  h_S_ : 0 < S_.numel
  bcast_S_S8x256x4x96 : S_.BroadcastsInDim S8x256x4x96 (![] : Fin 0 → Fin S8x256x4x96.rank)
  reducesTo_S8x256x4x96_S_d0_1_2_3 : S8x256x4x96.ReducesTo [0, 1, 2, 3] S_
  bcast_S_S8x4096x4x96 : S_.BroadcastsInDim S8x4096x4x96 (![] : Fin 0 → Fin S8x4096x4x96.rank)
  reducesTo_S8x4096x4x96_S_d0_1_2_3 : S8x4096x4x96.ReducesTo [0, 1, 2, 3] S_

variable [Facts]

def fn {F : FTy → Type} [FloatOps F] (main_arg0 : FVec F S8x4096x4x1x96 .f32) (main_arg1 : FVec F S8x256x4x96 .f32) (main_arg2 : FVec F S8x256x4x64 .f32) (main_arg3 : FVec F S8x4096x4x96 .f32) (main_arg4 : FVec F S8x4096x4x64 .f32) : IVec S_ 1 :=
  let main_v0 : FVec F S8x4096x4x1x96 .f32 := Host.absf main_arg0
  let main_cst : FVec F S_ .f32 := constant S_ .f32 0x7F800000#32
  let main_v1 : FVec F S8x4096x4x1x96 .f32 := broadcastInDim S8x4096x4x1x96 ![] bcast_S_S8x4096x4x1x96 main_cst
  let main_v2 : IVec S8x4096x4x1x96 1 := cmpf .olt main_v0 main_v1
  let main_c : IVec S_ 1 := constantI S_ 1 1#1
  let main_v3 : IVec S_ 1 := (fun x v => Host.reduce IntOp.andi x v reducesTo_S8x4096x4x1x96_S_d0_1_2_3_4 h_S_) main_v2 main_c
  let main_v4 : FVec F S8x256x4x96 .f32 := Host.absf main_arg1
  let main_cst_0 : FVec F S_ .f32 := constant S_ .f32 0x7F800000#32
  let main_v5 : FVec F S8x256x4x96 .f32 := broadcastInDim S8x256x4x96 ![] bcast_S_S8x256x4x96 main_cst_0
  let main_v6 : IVec S8x256x4x96 1 := cmpf .olt main_v4 main_v5
  let main_c_1 : IVec S_ 1 := constantI S_ 1 1#1
  let main_v7 : IVec S_ 1 := (fun x v => Host.reduce IntOp.andi x v reducesTo_S8x256x4x96_S_d0_1_2_3 h_S_) main_v6 main_c_1
  let main_v8 : IVec S_ 1 := andi main_v3 main_v7
  let main_v9 : FVec F S8x4096x4x96 .f32 := Host.absf main_arg3
  let main_cst_2 : FVec F S_ .f32 := constant S_ .f32 0x7F800000#32
  let main_v10 : FVec F S8x4096x4x96 .f32 := broadcastInDim S8x4096x4x96 ![] bcast_S_S8x4096x4x96 main_cst_2
  let main_v11 : IVec S8x4096x4x96 1 := cmpf .olt main_v9 main_v10
  let main_c_3 : IVec S_ 1 := constantI S_ 1 1#1
  let main_v12 : IVec S_ 1 := (fun x v => Host.reduce IntOp.andi x v reducesTo_S8x4096x4x96_S_d0_1_2_3 h_S_) main_v11 main_c_3
  let main_v13 : IVec S_ 1 := andi main_v8 main_v12
  main_v13
-- ==== Pre_finite_scores.lean ====
abbrev S8x4096x2x2x64 : Shape := ⟨5, ![8, 4096, 2, 2, 64]⟩
abbrev S8x256x2x64 : Shape := ⟨4, ![8, 256, 2, 64]⟩
abbrev S8x4096x2x64 : Shape := ⟨4, ![8, 4096, 2, 64]⟩
abbrev S_ : Shape := ⟨0, ![]⟩

class Facts : Prop where
  bcast_S_S8x4096x2x2x64 : S_.BroadcastsInDim S8x4096x2x2x64 (![] : Fin 0 → Fin S8x4096x2x2x64.rank)
  reducesTo_S8x4096x2x2x64_S_d0_1_2_3_4 : S8x4096x2x2x64.ReducesTo [0, 1, 2, 3, 4] S_
  h_S_ : 0 < S_.numel
  bcast_S_S8x256x2x64 : S_.BroadcastsInDim S8x256x2x64 (![] : Fin 0 → Fin S8x256x2x64.rank)
  reducesTo_S8x256x2x64_S_d0_1_2_3 : S8x256x2x64.ReducesTo [0, 1, 2, 3] S_
  bcast_S_S8x4096x2x64 : S_.BroadcastsInDim S8x4096x2x64 (![] : Fin 0 → Fin S8x4096x2x64.rank)
  reducesTo_S8x4096x2x64_S_d0_1_2_3 : S8x4096x2x64.ReducesTo [0, 1, 2, 3] S_

variable [Facts]

def fn {F : FTy → Type} [FloatOps F] (main_arg0 : FVec F S8x4096x2x2x64 .f32) (main_arg1 : FVec F S8x256x2x64 .f32) (main_arg2 : FVec F S8x256x2x64 .f32) (main_arg3 : FVec F S8x4096x2x64 .f32) (main_arg4 : FVec F S8x4096x2x64 .f32) : IVec S_ 1 :=
  let main_v0 : FVec F S8x4096x2x2x64 .f32 := Host.absf main_arg0
  let main_cst : FVec F S_ .f32 := constant S_ .f32 0x7F800000#32
  let main_v1 : FVec F S8x4096x2x2x64 .f32 := broadcastInDim S8x4096x2x2x64 ![] bcast_S_S8x4096x2x2x64 main_cst
  let main_v2 : IVec S8x4096x2x2x64 1 := cmpf .olt main_v0 main_v1
  let main_c : IVec S_ 1 := constantI S_ 1 1#1
  let main_v3 : IVec S_ 1 := (fun x v => Host.reduce IntOp.andi x v reducesTo_S8x4096x2x2x64_S_d0_1_2_3_4 h_S_) main_v2 main_c
  let main_v4 : FVec F S8x256x2x64 .f32 := Host.absf main_arg1
  let main_cst_0 : FVec F S_ .f32 := constant S_ .f32 0x7F800000#32
  let main_v5 : FVec F S8x256x2x64 .f32 := broadcastInDim S8x256x2x64 ![] bcast_S_S8x256x2x64 main_cst_0
  let main_v6 : IVec S8x256x2x64 1 := cmpf .olt main_v4 main_v5
  let main_c_1 : IVec S_ 1 := constantI S_ 1 1#1
  let main_v7 : IVec S_ 1 := (fun x v => Host.reduce IntOp.andi x v reducesTo_S8x256x2x64_S_d0_1_2_3 h_S_) main_v6 main_c_1
  let main_v8 : IVec S_ 1 := andi main_v3 main_v7
  let main_v9 : FVec F S8x4096x2x64 .f32 := Host.absf main_arg3
  let main_cst_2 : FVec F S_ .f32 := constant S_ .f32 0x7F800000#32
  let main_v10 : FVec F S8x4096x2x64 .f32 := broadcastInDim S8x4096x2x64 ![] bcast_S_S8x4096x2x64 main_cst_2
  let main_v11 : IVec S8x4096x2x64 1 := cmpf .olt main_v9 main_v10
  let main_c_3 : IVec S_ 1 := constantI S_ 1 1#1
  let main_v12 : IVec S_ 1 := (fun x v => Host.reduce IntOp.andi x v reducesTo_S8x4096x2x64_S_d0_1_2_3 h_S_) main_v11 main_c_3
  let main_v13 : IVec S_ 1 := andi main_v8 main_v12
  main_v13
-- ==== Pre_finite_states.lean ====
abbrev S8x4096x1024 : Shape := ⟨3, ![8, 4096, 1024]⟩
abbrev S8x9x1024 : Shape := ⟨3, ![8, 9, 1024]⟩
abbrev S8x4096x256 : Shape := ⟨3, ![8, 4096, 256]⟩
abbrev S8x4096x4x64 : Shape := ⟨4, ![8, 4096, 4, 64]⟩
abbrev S256 : Shape := ⟨1, ![256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8x4096x4x64 : S_.BroadcastsInDim S8x4096x4x64 (![] : Fin 0 → Fin S8x4096x4x64.rank)
  reducesTo_S8x4096x4x64_S_d0_1_2_3 : S8x4096x4x64.ReducesTo [0, 1, 2, 3] S_
  h_S_ : 0 < S_.numel

variable [Facts]

def fn {F : FTy → Type} [FloatOps F] (main_arg0 : FVec F S8x4096x1024 .f32) (main_arg1 : FVec F S8x9x1024 .f32) (main_arg2 : FVec F S8x4096x256 .f32) (main_arg3 : FVec F S8x4096x256 .f32) (main_arg4 : FVec F S8x4096x256 .f32) (main_arg5 : FVec F S8x4096x4x64 .f32) (main_arg6 : FVec F S8x4096x4x64 .f32) (main_arg7 : FVec F S8x4096x4x64 .f32) (main_arg8 : FVec F S8x4096x256 .f32) (main_arg9 : FVec F S256 .f32) (main_arg10 : FVec F S256 .f32) (main_arg11 : FVec F S1024x1024 .f32) (main_arg12 : FVec F S1024 .f32) (main_arg13 : FVec F S1024x2816 .f32) (main_arg14 : FVec F S1024x2816 .f32) (main_arg15 : FVec F S2816x1024 .f32) : IVec S_ 1 :=
  let main_v0 : FVec F S8x4096x4x64 .f32 := Host.absf main_arg5
  let main_cst : FVec F S_ .f32 := constant S_ .f32 0x7F800000#32
  let main_v1 : FVec F S8x4096x4x64 .f32 := broadcastInDim S8x4096x4x64 ![] bcast_S_S8x4096x4x64 main_cst
  let main_v2 : IVec S8x4096x4x64 1 := cmpf .olt main_v0 main_v1
  let main_c : IVec S_ 1 := constantI S_ 1 1#1
  let main_v3 : IVec S_ 1 := (fun x v => Host.reduce IntOp.andi x v reducesTo_S8x4096x4x64_S_d0_1_2_3 h_S_) main_v2 main_c
  let main_v4 : FVec F S8x4096x4x64 .f32 := Host.absf main_arg6
  let main_cst_0 : FVec F S_ .f32 := constant S_ .f32 0x7F800000#32
  let main_v5 : FVec F S8x4096x4x64 .f32 := broadcastInDim S8x4096x4x64 ![] bcast_S_S8x4096x4x64 main_cst_0
  let main_v6 : IVec S8x4096x4x64 1 := cmpf .olt main_v4 main_v5
  let main_c_1 : IVec S_ 1 := constantI S_ 1 1#1
  let main_v7 : IVec S_ 1 := (fun x v => Host.reduce IntOp.andi x v reducesTo_S8x4096x4x64_S_d0_1_2_3 h_S_) main_v6 main_c_1
  let main_v8 : IVec S_ 1 := andi main_v3 main_v7
  main_v8
-- ==== Kernel.lean ====
abbrev S8x4096x2x2x64 : Shape := ⟨5, ![8, 4096, 2, 2, 64]⟩
abbrev S8x256x2x64 : Shape := ⟨4, ![8, 256, 2, 64]⟩
abbrev S8x4096x2x64 : Shape := ⟨4, ![8, 4096, 2, 64]⟩
abbrev S8x4096x4x64 : Shape := ⟨4, ![8, 4096, 4, 64]⟩
abbrev S_ : Shape := ⟨0, ![]⟩
abbrev S8x4096x4x128 : Shape := ⟨4, ![8, 4096, 4, 128]⟩
abbrev S8x4096x512 : Shape := ⟨3, ![8, 4096, 512]⟩
abbrev S8x256x2x128 : Shape := ⟨4, ![8, 256, 2, 128]⟩
abbrev S8x256x256 : Shape := ⟨3, ![8, 256, 256]⟩
abbrev S8x2x1x256 : Shape := ⟨4, ![8, 2, 1, 256]⟩
abbrev S8x2x63x256 : Shape := ⟨4, ![8, 2, 63, 256]⟩
abbrev S8x2x64x256 : Shape := ⟨4, ![8, 2, 64, 256]⟩
abbrev S8x2x128x256 : Shape := ⟨4, ![8, 2, 128, 256]⟩
abbrev S8x4096x2x128 : Shape := ⟨4, ![8, 4096, 2, 128]⟩
abbrev S8x4096x256 : Shape := ⟨3, ![8, 4096, 256]⟩
abbrev S8x2x1x4096 : Shape := ⟨4, ![8, 2, 1, 4096]⟩
abbrev S8x2x63x4096 : Shape := ⟨4, ![8, 2, 63, 4096]⟩
abbrev S8x2x64x4096 : Shape := ⟨4, ![8, 2, 64, 4096]⟩
abbrev S8x2x128x4096 : Shape := ⟨4, ![8, 2, 128, 4096]⟩
abbrev S1x256x512 : Shape := ⟨3, ![1, 256, 512]⟩
abbrev S1x256x128 : Shape := ⟨3, ![1, 256, 128]⟩
abbrev S1x1x128x256 : Shape := ⟨4, ![1, 1, 128, 256]⟩
abbrev S1x4096x128 : Shape := ⟨3, ![1, 4096, 128]⟩
abbrev S1x1x128x4096 : Shape := ⟨4, ![1, 1, 128, 4096]⟩
abbrev S1x256x256 : Shape := ⟨3, ![1, 256, 256]⟩
abbrev S256x512 : Shape := ⟨2, ![256, 512]⟩
abbrev S256x128 : Shape := ⟨2, ![256, 128]⟩
abbrev S256x256 : Shape := ⟨2, ![256, 256]⟩
abbrev S256 : Shape := ⟨1, ![256]⟩
abbrev S1x256 : Shape := ⟨2, ![1, 256]⟩
abbrev S128x256 : Shape := ⟨2, ![128, 256]⟩
abbrev S64x256 : Shape := ⟨2, ![64, 256]⟩

abbrev nBuf : Space → Nat
  | .hbm => 35
  | .vmem => 36
  | .smem => 0
  | _ => 0

abbrev bufTy : (tb : Table) → Fin (tcTables nBuf tb) → BufTy
  | .hbm, ⟨0, _⟩ => ⟨S8x4096x2x2x64, .f32⟩
  | .hbm, ⟨1, _⟩ => ⟨S8x256x2x64, .f32⟩
  | .hbm, ⟨2, _⟩ => ⟨S8x256x2x64, .f32⟩
  | .hbm, ⟨3, _⟩ => ⟨S8x4096x2x64, .f32⟩
  | .hbm, ⟨4, _⟩ => ⟨S8x4096x2x64, .f32⟩
  | .hbm, ⟨5, _⟩ => ⟨S8x4096x4x64, .f32⟩
  | .hbm, ⟨6, _⟩ => ⟨S_, .f32⟩
  | .hbm, ⟨7, _⟩ => ⟨S8x4096x4x64, .f32⟩
  | .hbm, ⟨8, _⟩ => ⟨S8x4096x4x128, .f32⟩
  | .hbm, ⟨9, _⟩ => ⟨S8x4096x512, .f32⟩
  | .hbm, ⟨10, _⟩ => ⟨S_, .f32⟩
  | .hbm, ⟨11, _⟩ => ⟨S8x256x2x64, .f32⟩
  | .hbm, ⟨12, _⟩ => ⟨S8x256x2x128, .f32⟩
  | .hbm, ⟨13, _⟩ => ⟨S8x256x256, .f32⟩
  | .hbm, ⟨14, _⟩ => ⟨S8x256x256, .bf16⟩
  | .hbm, ⟨15, _⟩ => ⟨S_, .f32⟩
  | .hbm, ⟨16, _⟩ => ⟨S8x2x1x256, .f32⟩
  | .hbm, ⟨17, _⟩ => ⟨S_, .f32⟩
  | .hbm, ⟨18, _⟩ => ⟨S8x2x63x256, .f32⟩
  | .hbm, ⟨19, _⟩ => ⟨S8x2x64x256, .f32⟩
  | .hbm, ⟨20, _⟩ => ⟨S8x2x128x256, .f32⟩
  | .hbm, ⟨21, _⟩ => ⟨S8x2x128x256, .bf16⟩
  | .hbm, ⟨22, _⟩ => ⟨S_, .f32⟩
  | .hbm, ⟨23, _⟩ => ⟨S8x4096x2x64, .f32⟩
  | .hbm, ⟨24, _⟩ => ⟨S8x4096x2x128, .f32⟩
  | .hbm, ⟨25, _⟩ => ⟨S8x4096x256, .f32⟩
  | .hbm, ⟨26, _⟩ => ⟨S8x4096x256, .bf16⟩
  | .hbm, ⟨27, _⟩ => ⟨S_, .f32⟩
  | .hbm, ⟨28, _⟩ => ⟨S8x2x1x4096, .f32⟩
  | .hbm, ⟨29, _⟩ => ⟨S_, .f32⟩
  | .hbm, ⟨30, _⟩ => ⟨S8x2x63x4096, .f32⟩
  | .hbm, ⟨31, _⟩ => ⟨S8x2x64x4096, .f32⟩
  | .hbm, ⟨32, _⟩ => ⟨S8x2x128x4096, .f32⟩
  | .hbm, ⟨33, _⟩ => ⟨S8x2x128x4096, .bf16⟩
  | .hbm, ⟨34, _⟩ => ⟨S8x4096x256, .bf16⟩
  | .local _ .vmem, ⟨0, _⟩ => ⟨S1x256x512, .f32⟩
  | .local _ .vmem, ⟨1, _⟩ => ⟨S1x256x512, .f32⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x1x128x256, .bf16⟩
  | .local _ .vmem, ⟨11, _⟩ => ⟨S1x1x128x256, .bf16⟩
  | .local _ .vmem, ⟨12, _⟩ => ⟨S1x1x128x256, .bf16⟩
  | .local _ .vmem, ⟨13, _⟩ => ⟨S1x1x128x256, .bf16⟩
  | .local _ .vmem, ⟨14, _⟩ => ⟨S1x1x128x256, .bf16⟩
  | .local _ .vmem, ⟨15, _⟩ => ⟨S1x1x128x256, .bf16⟩
  | .local _ .vmem, ⟨16, _⟩ => ⟨S1x1x128x256, .bf16⟩
  | .local _ .vmem, ⟨17, _⟩ => ⟨S1x1x128x256, .bf16⟩
  | .local _ .vmem, ⟨18, _⟩ => ⟨S1x4096x128, .bf16⟩
  | .local _ .vmem, ⟨19, _⟩ => ⟨S1x4096x128, .bf16⟩
  | .local _ .vmem, ⟨20, _⟩ => ⟨S1x4096x128, .bf16⟩
  | .local _ .vmem, ⟨21, _⟩ => ⟨S1x4096x128, .bf16⟩
  | .local _ .vmem, ⟨22, _⟩ => ⟨S1x4096x128, .bf16⟩
  | .local _ .vmem, ⟨23, _⟩ => ⟨S1x4096x128, .bf16⟩
  | .local _ .vmem, ⟨24, _⟩ => ⟨S1x4096x128, .bf16⟩
  | .local _ .vmem, ⟨25, _⟩ => ⟨S1x4096x128, .bf16⟩
  | .local _ .vmem, ⟨26, _⟩ => ⟨S1x1x128x4096, .bf16⟩
  | .local _ .vmem, ⟨27, _⟩ => ⟨S1x1x128x4096, .bf16⟩
  | .local _ .vmem, ⟨28, _⟩ => ⟨S1x1x128x4096, .bf16⟩
  | .local _ .vmem, ⟨29, _⟩ => ⟨S1x1x128x4096, .bf16⟩
  | .local _ .vmem, ⟨30, _⟩ => ⟨S1x1x128x4096, .bf16⟩
  | .local _ .vmem, ⟨31, _⟩ => ⟨S1x1x128x4096, .bf16⟩
  | .local _ .vmem, ⟨32, _⟩ => ⟨S1x1x128x4096, .bf16⟩
  | .local _ .vmem, ⟨33, _⟩ => ⟨S1x1x128x4096, .bf16⟩
  | .local _ .vmem, ⟨34, _⟩ => ⟨S1x256x256, .bf16⟩
  | .local _ .vmem, ⟨35, _⟩ => ⟨S1x256x256, .bf16⟩
  | _, _ => ⟨S8x4096x2x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x4096x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x4096x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x128x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x128x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1x128x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x128x4096 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x256x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== KernelIdeal.lean ====
variable {F : FTy → Type} [FloatOps F] [Named F]
def κ : String → Option EReal := fun
  | "scale" => some (((1 / 8) * (Real.log 2)⁻¹ : ℝ) : EReal)
  | _ => none
-- ==== ReferenceIdeal.lean ====
abbrev S8x4096x2x2x64 : Shape := ⟨5, ![8, 4096, 2, 2, 64]⟩
abbrev S8x256x2x64 : Shape := ⟨4, ![8, 256, 2, 64]⟩
abbrev S8x4096x2x64 : Shape := ⟨4, ![8, 4096, 2, 64]⟩
abbrev S8x4352x2x64 : Shape := ⟨4, ![8, 4352, 2, 64]⟩
abbrev S8x2x4352x4096x2 : Shape := ⟨5, ![8, 2, 4352, 4096, 2]⟩
abbrev S8x2x2x4096x4352 : Shape := ⟨5, ![8, 2, 2, 4096, 4352]⟩
abbrev S_ : Shape := ⟨0, ![]⟩
abbrev S8x2x2x4096 : Shape := ⟨4, ![8, 2, 2, 4096]⟩
abbrev S8x2x2x4096x1 : Shape := ⟨5, ![8, 2, 2, 4096, 1]⟩
abbrev S8x2x64x2x4096 : Shape := ⟨5, ![8, 2, 64, 2, 4096]⟩
abbrev S8x4096x256 : Shape := ⟨3, ![8, 4096, 256]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x2x2x64, .f32⟩
  | .hbm, ⟨1, _⟩ => ⟨S8x256x2x64, .f32⟩
  | .hbm, ⟨2, _⟩ => ⟨S8x256x2x64, .f32⟩
  | .hbm, ⟨3, _⟩ => ⟨S8x4096x2x64, .f32⟩
  | .hbm, ⟨4, _⟩ => ⟨S8x4096x2x64, .f32⟩
  | .hbm, ⟨5, _⟩ => ⟨S8x4352x2x64, .f32⟩
  | .hbm, ⟨6, _⟩ => ⟨S8x4352x2x64, .f32⟩
  | .hbm, ⟨7, _⟩ => ⟨S8x2x4352x4096x2, .f32⟩
  | .hbm, ⟨8, _⟩ => ⟨S8x2x2x4096x4352, .f32⟩
  | .hbm, ⟨9, _⟩ => ⟨S_, .f32⟩
  | .hbm, ⟨10, _⟩ => ⟨S8x2x2x4096x4352, .f32⟩
  | .hbm, ⟨11, _⟩ => ⟨S8x2x2x4096x4352, .f32⟩
  | .hbm, ⟨12, _⟩ => ⟨S_, .f32⟩
  | .hbm, ⟨13, _⟩ => ⟨S8x2x2x4096, .f32⟩
  | .hbm, ⟨14, _⟩ => ⟨S_, .f32⟩
  | .hbm, ⟨15, _⟩ => ⟨S8x2x2x4096, .f32⟩
  | .hbm, ⟨16, _⟩ => ⟨S8x2x2x4096, .f32⟩
  | .hbm, ⟨17, _⟩ => ⟨S8x2x2x4096x1, .f32⟩
  | .hbm, ⟨18, _⟩ => ⟨S8x2x2x4096x4352, .f32⟩
  | .hbm, ⟨19, _⟩ => ⟨S8x2x2x4096x4352, .f32⟩
  | .hbm, ⟨20, _⟩ => ⟨S8x2x2x4096x4352, .f32⟩
  | .hbm, ⟨21, _⟩ => ⟨S_, .f32⟩
  | .hbm, ⟨22, _⟩ => ⟨S8x2x2x4096, .f32⟩
  | .hbm, ⟨23, _⟩ => ⟨S8x2x2x4096x1, .f32⟩
  | .hbm, ⟨24, _⟩ => ⟨S8x2x2x4096x4352, .f32⟩
  | .hbm, ⟨25, _⟩ => ⟨S8x2x2x4096x4352, .f32⟩
  | .hbm, ⟨26, _⟩ => ⟨S8x2x64x2x4096, .f32⟩
  | .hbm, ⟨27, _⟩ => ⟨S8x4096x2x2x64, .f32⟩
  | .hbm, ⟨28, _⟩ => ⟨S8x4096x256, .f32⟩
  | .hbm, ⟨29, _⟩ => ⟨S8x4096x256, .bf16⟩
  | _, _ => ⟨S8x4096x2x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x9x1024 : Shape := ⟨3, ![8, 9, 1024]⟩
abbrev S8x4096x256 : Shape := ⟨3, ![8, 4096, 256]⟩
abbrev S8x4096x4x64 : Shape := ⟨4, ![8, 4096, 4, 64]⟩
abbrev S256 : Shape := ⟨1, ![256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x256 : Shape := ⟨2, ![1, 256]⟩
abbrev S1x1024 : Shape := ⟨2, ![1, 1024]⟩
abbrev S256x1 : Shape := ⟨2, ![256, 1]⟩
abbrev S_ : Shape := ⟨0, ![]⟩
abbrev S256x256 : Shape := ⟨2, ![256, 256]⟩
abbrev S1x512x1024 : Shape := ⟨3, ![1, 512, 1024]⟩
abbrev S1x9x1024 : Shape := ⟨3, ![1, 9, 1024]⟩
abbrev S1x512x256 : Shape := ⟨3, ![1, 512, 256]⟩
abbrev S512x256 : Shape := ⟨2, ![512, 256]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x2816 : Shape := ⟨2, ![512, 2816]⟩

abbrev nBuf : Space → Nat
  | .hbm => 77
  | .vmem => 28
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S8x4096x256, .f32⟩
  | .hbm, ⟨3, _⟩ => ⟨S8x4096x256, .f32⟩
  | .hbm, ⟨4, _⟩ => ⟨S8x4096x256, .f32⟩
  | .hbm, ⟨5, _⟩ => ⟨S8x4096x4x64, .f32⟩
  | .hbm, ⟨6, _⟩ => ⟨S8x4096x4x64, .f32⟩
  | .hbm, ⟨7, _⟩ => ⟨S8x4096x4x64, .f32⟩
  | .hbm, ⟨8, _⟩ => ⟨S8x4096x256, .f32⟩
  | .hbm, ⟨9, _⟩ => ⟨S256, .f32⟩
  | .hbm, ⟨10, _⟩ => ⟨S256, .f32⟩
  | .hbm, ⟨11, _⟩ => ⟨S1024x1024, .f32⟩
  | .hbm, ⟨12, _⟩ => ⟨S1024, .f32⟩
  | .hbm, ⟨13, _⟩ => ⟨S1024x2816, .f32⟩
  | .hbm, ⟨14, _⟩ => ⟨S1024x2816, .f32⟩
  | .hbm, ⟨15, _⟩ => ⟨S2816x1024, .f32⟩
  | .hbm, ⟨16, _⟩ => ⟨S8x4096x256, .bf16⟩
  | .hbm, ⟨17, _⟩ => ⟨S8x4096x256, .bf16⟩
  | .hbm, ⟨18, _⟩ => ⟨S8x4096x256, .bf16⟩
  | .hbm, ⟨19, _⟩ => ⟨S1024x1024, .bf16⟩
  | .hbm, ⟨20, _⟩ => ⟨S1024x2816, .bf16⟩
  | .hbm, ⟨21, _⟩ => ⟨S1024x2816, .bf16⟩
  | .hbm, ⟨22, _⟩ => ⟨S2816x1024, .bf16⟩
  | .hbm, ⟨23, _⟩ => ⟨S8x4096x256, .f32⟩
  | .hbm, ⟨24, _⟩ => ⟨S8x4096x256, .f32⟩
  | .hbm, ⟨25, _⟩ => ⟨S8x4096x256, .f32⟩
  | .hbm, ⟨26, _⟩ => ⟨S1x256, .f32⟩
  | .hbm, ⟨27, _⟩ => ⟨S1x256, .f32⟩
  | .hbm, ⟨28, _⟩ => ⟨S1x1024, .f32⟩
  | .hbm, ⟨29, _⟩ => ⟨S256, .i32⟩
  | .hbm, ⟨30, _⟩ => ⟨S256x1, .i32⟩
  | .hbm, ⟨31, _⟩ => ⟨S_, .i32⟩
  | .hbm, ⟨32, _⟩ => ⟨S_, .i32⟩
  | .hbm, ⟨33, _⟩ => ⟨S256x1, .i32⟩
  | .hbm, ⟨34, _⟩ => ⟨S256x1, .i32⟩
  | .hbm, ⟨35, _⟩ => ⟨S256x1, .i32⟩
  | .hbm, ⟨36, _⟩ => ⟨S_, .i32⟩
  | .hbm, ⟨37, _⟩ => ⟨S256x1, .i32⟩
  | .hbm, ⟨38, _⟩ => ⟨S256x1, .i1⟩
  | .hbm, ⟨39, _⟩ => ⟨S256x1, .i32⟩
  | .hbm, ⟨40, _⟩ => ⟨S256x1, .i32⟩
  | .hbm, ⟨41, _⟩ => ⟨S_, .i32⟩
  | .hbm, ⟨42, _⟩ => ⟨S256x1, .i32⟩
  | .hbm, ⟨43, _⟩ => ⟨S256x1, .i1⟩
  | .hbm, ⟨44, _⟩ => ⟨S256x1, .i1⟩
  | .hbm, ⟨45, _⟩ => ⟨S_, .i32⟩
  | .hbm, ⟨46, _⟩ => ⟨S256x1, .i32⟩
  | .hbm, ⟨47, _⟩ => ⟨S256x1, .i32⟩
  | .hbm, ⟨48, _⟩ => ⟨S256x1, .i32⟩
  | .hbm, ⟨49, _⟩ => ⟨S1x256, .i32⟩
  | .hbm, ⟨50, _⟩ => ⟨S_, .i32⟩
  | .hbm, ⟨51, _⟩ => ⟨S_, .i32⟩
  | .hbm, ⟨52, _⟩ => ⟨S1x256, .i32⟩
  | .hbm, ⟨53, _⟩ => ⟨S1x256, .i32⟩
  | .hbm, ⟨54, _⟩ => ⟨S1x256, .i32⟩
  | .hbm, ⟨55, _⟩ => ⟨S_, .i32⟩
  | .hbm, ⟨56, _⟩ => ⟨S1x256, .i32⟩
  | .hbm, ⟨57, _⟩ => ⟨S1x256, .i1⟩
  | .hbm, ⟨58, _⟩ => ⟨S1x256, .i32⟩
  | .hbm, ⟨59, _⟩ => ⟨S1x256, .i32⟩
  | .hbm, ⟨60, _⟩ => ⟨S_, .i32⟩
  | .hbm, ⟨61, _⟩ => ⟨S1x256, .i32⟩
  | .hbm, ⟨62, _⟩ => ⟨S1x256, .i1⟩
  | .hbm, ⟨63, _⟩ => ⟨S1x256, .i1⟩
  | .hbm, ⟨64, _⟩ => ⟨S_, .i32⟩
  | .hbm, ⟨65, _⟩ => ⟨S1x256, .i32⟩
  | .hbm, ⟨66, _⟩ => ⟨S1x256, .i32⟩
  | .hbm, ⟨67, _⟩ => ⟨S1x256, .i32⟩
  | .hbm, ⟨68, _⟩ => ⟨S256x256, .i32⟩
  | .hbm, ⟨69, _⟩ => ⟨S256x256, .i32⟩
  | .hbm, ⟨70, _⟩ => ⟨S256x256, .i1⟩
  | .hbm, ⟨71, _⟩ => ⟨S256x256, .f32⟩
  | .hbm, ⟨72, _⟩ => ⟨S_, .f32⟩
  | .hbm, ⟨73, _⟩ => ⟨S256x256, .f32⟩
  | .hbm, ⟨74, _⟩ => ⟨S256x256, .f32⟩
  | .hbm, ⟨75, _⟩ => ⟨S256x256, .bf16⟩
  | .hbm, ⟨76, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S1x256, .f32⟩
  | .local _ .vmem, ⟨19, _⟩ => ⟨S1x256, .f32⟩
  | .local _ .vmem, ⟨20, _⟩ => ⟨S256x256, .bf16⟩
  | .local _ .vmem, ⟨21, _⟩ => ⟨S1024x1024, .bf16⟩
  | .local _ .vmem, ⟨22, _⟩ => ⟨S1x1024, .f32⟩
  | .local _ .vmem, ⟨23, _⟩ => ⟨S1024x2816, .bf16⟩
  | .local _ .vmem, ⟨24, _⟩ => ⟨S1024x2816, .bf16⟩
  | .local _ .vmem, ⟨25, _⟩ => ⟨S2816x1024, .bf16⟩
  | .local _ .vmem, ⟨26, _⟩ => ⟨S1x512x1024, .f32⟩
  | .local _ .vmem, ⟨27, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v15 : Ref sig .tc := ⟨.hbm, 48, rfl⟩
abbrev main_v16 : Ref sig .tc := ⟨.hbm, 49, rfl⟩
abbrev main_c_0 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_0 : Ref sig .tc := ⟨.hbm, 64, rfl⟩
abbrev main_call1_v12 : Ref sig .tc := ⟨.hbm, 65, rfl⟩
abbrev main_call1_v13 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_cst : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x2816 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S2816x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference2Ideal.lean ====
abbrev S8x4096x1024 : Shape := ⟨3, ![8, 4096, 1024]⟩
abbrev S8x9x1024 : Shape := ⟨3, ![8, 9, 1024]⟩
abbrev S8x4096x256 : Shape := ⟨3, ![8, 4096, 256]⟩
abbrev S8x4096x4x64 : Shape := ⟨4, ![8, 4096, 4, 64]⟩
abbrev S256 : Shape := ⟨1, ![256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x4096x4 : Shape := ⟨3, ![8, 4096, 4]⟩
abbrev S8x4096x4x1 : Shape := ⟨4, ![8, 4096, 4, 1]⟩
abbrev S1x1x256 : Shape := ⟨3, ![1, 1, 256]⟩
abbrev S8x1x1024 : Shape := ⟨3, ![8, 1, 1024]⟩
abbrev S8x1024 : Shape := ⟨2, ![8, 1024]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩

abbrev nBuf : Space → Nat
  | .hbm => 109
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S8x4096x256, .f32⟩
  | .hbm, ⟨3, _⟩ => ⟨S8x4096x256, .f32⟩
  | .hbm, ⟨4, _⟩ => ⟨S8x4096x256, .f32⟩
  | .hbm, ⟨5, _⟩ => ⟨S8x4096x4x64, .f32⟩
  | .hbm, ⟨6, _⟩ => ⟨S8x4096x4x64, .f32⟩
  | .hbm, ⟨7, _⟩ => ⟨S8x4096x4x64, .f32⟩
  | .hbm, ⟨8, _⟩ => ⟨S8x4096x256, .f32⟩
  | .hbm, ⟨9, _⟩ => ⟨S256, .f32⟩
  | .hbm, ⟨10, _⟩ => ⟨S256, .f32⟩
  | .hbm, ⟨11, _⟩ => ⟨S1024x1024, .f32⟩
  | .hbm, ⟨12, _⟩ => ⟨S1024, .f32⟩
  | .hbm, ⟨13, _⟩ => ⟨S1024x2816, .f32⟩
  | .hbm, ⟨14, _⟩ => ⟨S1024x2816, .f32⟩
  | .hbm, ⟨15, _⟩ => ⟨S2816x1024, .f32⟩
  | .hbm, ⟨16, _⟩ => ⟨S8x4096x4x64, .f32⟩
  | .hbm, ⟨17, _⟩ => ⟨S_, .f32⟩
  | .hbm, ⟨18, _⟩ => ⟨S8x4096x4, .f32⟩
  | .hbm, ⟨19, _⟩ => ⟨S8x4096x4x1, .f32⟩
  | .hbm, ⟨20, _⟩ => ⟨S_, .f32⟩
  | .hbm, ⟨21, _⟩ => ⟨S8x4096x4x1, .f32⟩
  | .hbm, ⟨22, _⟩ => ⟨S8x4096x4x1, .f32⟩
  | .hbm, ⟨23, _⟩ => ⟨S8x4096x4x64, .f32⟩
  | .hbm, ⟨24, _⟩ => ⟨S8x4096x4x64, .f32⟩
  | .hbm, ⟨25, _⟩ => ⟨S8x4096x4x64, .f32⟩
  | .hbm, ⟨26, _⟩ => ⟨S_, .f32⟩
  | .hbm, ⟨27, _⟩ => ⟨S8x4096x4, .f32⟩
  | .hbm, ⟨28, _⟩ => ⟨S8x4096x4x1, .f32⟩
  | .hbm, ⟨29, _⟩ => ⟨S_, .f32⟩
  | .hbm, ⟨30, _⟩ => ⟨S8x4096x4x1, .f32⟩
  | .hbm, ⟨31, _⟩ => ⟨S8x4096x4x1, .f32⟩
  | .hbm, ⟨32, _⟩ => ⟨S8x4096x4x64, .f32⟩
  | .hbm, ⟨33, _⟩ => ⟨S8x4096x4x64, .f32⟩
  | .hbm, ⟨34, _⟩ => ⟨S_, .f32⟩
  | .hbm, ⟨35, _⟩ => ⟨S8x4096x4x1, .f32⟩
  | .hbm, ⟨36, _⟩ => ⟨S8x4096x4x1, .f32⟩
  | .hbm, ⟨37, _⟩ => ⟨S8x4096x4x1, .f32⟩
  | .hbm, ⟨38, _⟩ => ⟨S8x4096x4x64, .f32⟩
  | .hbm, ⟨39, _⟩ => ⟨S8x4096x4x64, .f32⟩
  | .hbm, ⟨40, _⟩ => ⟨S8x4096x256, .f32⟩
  | .hbm, ⟨41, _⟩ => ⟨S1x1x256, .f32⟩
  | .hbm, ⟨42, _⟩ => ⟨S8x4096x256, .f32⟩
  | .hbm, ⟨43, _⟩ => ⟨S8x4096x256, .f32⟩
  | .hbm, ⟨44, _⟩ => ⟨S1x1x256, .f32⟩
  | .hbm, ⟨45, _⟩ => ⟨S8x4096x256, .f32⟩
  | .hbm, ⟨46, _⟩ => ⟨S8x4096x256, .f32⟩
  | .hbm, ⟨47, _⟩ => ⟨S8x4096x256, .f32⟩
  | .hbm, ⟨48, _⟩ => ⟨S8x4096x256, .f32⟩
  | .hbm, ⟨49, _⟩ => ⟨S8x4096x256, .f32⟩
  | .hbm, ⟨50, _⟩ => ⟨S8x4096x1024, .f32⟩
  | .hbm, ⟨51, _⟩ => ⟨S8x4096x1024, .f32⟩
  | .hbm, ⟨52, _⟩ => ⟨S8x1x1024, .f32⟩
  | .hbm, ⟨53, _⟩ => ⟨S8x1024, .f32⟩
  | .hbm, ⟨54, _⟩ => ⟨S8x1x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S8x1x1024, .f32⟩
  | .hbm, ⟨59, _⟩ => ⟨S8x1024, .f32⟩
  | .hbm, ⟨60, _⟩ => ⟨S8x1x1024, .f32⟩
  | .hbm, ⟨61, _⟩ => ⟨S_, .f32⟩
  | .hbm, ⟨62, _⟩ => ⟨S8x1x1024, .f32⟩
  | .hbm, ⟨63, _⟩ => ⟨S8x1x1024, .f32⟩
  | .hbm, ⟨64, _⟩ => ⟨S8x4096x1024, .f32⟩
  | .hbm, ⟨65, _⟩ => ⟨S_, .f32⟩
  | .hbm, ⟨66, _⟩ => ⟨S8x4096, .f32⟩
  | .hbm, ⟨67, _⟩ => ⟨S8x4096x1, .f32⟩
  | .hbm, ⟨68, _⟩ => ⟨S_, .f32⟩
  | .hbm, ⟨69, _⟩ => ⟨S8x4096x1, .f32⟩
  | .hbm, ⟨70, _⟩ => ⟨S8x4096x1, .f32⟩
  | .hbm, ⟨71, _⟩ => ⟨S_, .f32⟩
  | .hbm, ⟨72, _⟩ => ⟨S8x4096x1, .f32⟩
  | .hbm, ⟨73, _⟩ => ⟨S8x4096x1, .f32⟩
  | .hbm, ⟨74, _⟩ => ⟨S8x4096x1, .f32⟩
  | .hbm, ⟨75, _⟩ => ⟨S8x4096x1024, .f32⟩
  | .hbm, ⟨76, _⟩ => ⟨S8x4096x1024, .f32⟩
  | .hbm, ⟨77, _⟩ => ⟨S1x1x1024, .f32⟩
  | .hbm, ⟨78, _⟩ => ⟨S8x4096x1024, .f32⟩
  | .hbm, ⟨79, _⟩ => ⟨S8x4096x1024, .f32⟩
  | .hbm, ⟨80, _⟩ => ⟨S8x1x1024, .f32⟩
  | .hbm, ⟨81, _⟩ => ⟨S8x1024, .f32⟩
  | .hbm, ⟨82, _⟩ => ⟨S8x1x1024, .f32⟩
  | .hbm, ⟨83, _⟩ => ⟨S_, .f32⟩
  | .hbm, ⟨84, _⟩ => ⟨S8x1x1024, .f32⟩
  | .hbm, ⟨85, _⟩ => ⟨S8x1x1024, .f32⟩
  | .hbm, ⟨86, _⟩ => ⟨S8x4096x1024, .f32⟩
  | .hbm, ⟨87, _⟩ => ⟨S8x4096x1024, .f32⟩
  | .hbm, ⟨88, _⟩ => ⟨S8x1x1024, .f32⟩
  | .hbm, ⟨89, _⟩ => ⟨S8x1024, .f32⟩
  | .hbm, ⟨90, _⟩ => ⟨S8x1x1024, .f32⟩
  | .hbm, ⟨91, _⟩ => ⟨S8x4096x1024, .f32⟩
  | .hbm, ⟨92, _⟩ => ⟨S8x4096x1024, .f32⟩
  | .hbm, ⟨93, _⟩ => ⟨S8x4096x2816, .f32⟩
  | .hbm, ⟨94, _⟩ => ⟨S8x4096x2816, .f32⟩
  | .hbm, ⟨95, _⟩ => ⟨S8x4096x2816, .f32⟩
  | .hbm, ⟨96, _⟩ => ⟨S_, .f32⟩
  | .hbm, ⟨97, _⟩ => ⟨S8x4096x2816, .f32⟩
  | .hbm, ⟨98, _⟩ => ⟨S8x4096x2816, .f32⟩
  | .hbm, ⟨99, _⟩ => ⟨S_, .f32⟩
  | .hbm, ⟨100, _⟩ => ⟨S8x4096x2816, .f32⟩
  | .hbm, ⟨101, _⟩ => ⟨S8x4096x2816, .f32⟩
  | .hbm, ⟨102, _⟩ => ⟨S8x4096x2816, .f32⟩
  | .hbm, ⟨103, _⟩ => ⟨S8x4096x2816, .f32⟩
  | .hbm, ⟨104, _⟩ => ⟨S8x4096x2816, .f32⟩
  | .hbm, ⟨105, _⟩ => ⟨S8x4096x1024, .f32⟩
  | .hbm, ⟨106, _⟩ => ⟨S8x4096x1024, .f32⟩
  | .hbm, ⟨107, _⟩ => ⟨S8x4096x1024, .f32⟩
  | .hbm, ⟨108, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_4 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_8 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_call0_v0 : Ref sig .tc := ⟨.hbm, 94, rfl⟩
abbrev main_call0_v1 : Ref sig .tc := ⟨.hbm, 95, rfl⟩
abbrev main_call0_cst : Ref sig .tc := ⟨.hbm, 96, rfl⟩
abbrev main_call0_v2 : Ref sig .tc := ⟨.hbm, 97, rfl⟩
abbrev main_call0_v3 : Ref sig .tc := ⟨.hbm, 98, rfl⟩
abbrev main_call0_cst_0 : Ref sig .tc := ⟨.hbm, 99, rfl⟩
abbrev main_call0_v4 : Ref sig .tc := ⟨.hbm, 100, rfl⟩
abbrev main_call0_v5 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x9x1024 : Shape := ⟨3, ![8, 9, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1x512x1024 : Shape := ⟨3, ![1, 512, 1024]⟩
abbrev S1x9x1024 : Shape := ⟨3, ![1, 9, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x2816 : Shape := ⟨2, ![512, 2816]⟩

abbrev nBuf : Space → Nat
  | .hbm => 11
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x512x1024, .f32⟩
  | .local _ .vmem, ⟨9, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S8x4096x1024 : Shape := ⟨3, ![8, 4096, 1024]⟩
abbrev S8x9x1024 : Shape := ⟨3, ![8, 9, 1024]⟩
abbrev S1024 : Shape := ⟨1, ![1024]⟩
abbrev S1024x2816 : Shape := ⟨2, ![1024, 2816]⟩
abbrev S2816x1024 : Shape := ⟨2, ![2816, 1024]⟩
abbrev S8x1x1024 : Shape := ⟨3, ![8, 1, 1024]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩

abbrev nBuf : Space → Nat
  | .hbm => 57
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8x1x1024, .f32⟩
  | .hbm, ⟨7, _⟩ => ⟨S8x1024, .f32⟩
  | .hbm, ⟨8, _⟩ => ⟨S8x1x1024, .f32⟩
  | .hbm, ⟨9, _⟩ => ⟨S_, .f32⟩
  | .hbm, ⟨10, _⟩ => ⟨S8x1x1024, .f32⟩
  | .hbm, ⟨11, _⟩ => ⟨S8x1x1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S1x1x1024, .f32⟩
  | .hbm, ⟨26, _⟩ => ⟨S8x4096x1024, .f32⟩
  | .hbm, ⟨27, _⟩ => ⟨S8x4096x1024, .f32⟩
  | .hbm, ⟨28, _⟩ => ⟨S8x1x1024, .f32⟩
  | .hbm, ⟨29, _⟩ => ⟨S8x1024, .f32⟩
  | .hbm, ⟨30, _⟩ => ⟨S8x1x1024, .f32⟩
  | .hbm, ⟨31, _⟩ => ⟨S_, .f32⟩
  | .hbm, ⟨32, _⟩ => ⟨S8x1x1024, .f32⟩
  | .hbm, ⟨33, _⟩ => ⟨S8x1x1024, .f32⟩
  | .hbm, ⟨34, _⟩ => ⟨S8x4096x1024, .f32⟩
  | .hbm, ⟨35, _⟩ => ⟨S8x4096x1024, .f32⟩
  | .hbm, ⟨36, _⟩ => ⟨S8x1x1024, .f32⟩
  | .hbm, ⟨37, _⟩ => ⟨S8x1024, .f32⟩
  | .hbm, ⟨38, _⟩ => ⟨S8x1x1024, .f32⟩
  | .hbm, ⟨39, _⟩ => ⟨S8x4096x1024, .f32⟩
  | .hbm, ⟨40, _⟩ => ⟨S8x4096x1024, .f32⟩
  | .hbm, ⟨41, _⟩ => ⟨S8x4096x2816, .f32⟩
  | .hbm, ⟨42, _⟩ => ⟨S8x4096x2816, .f32⟩
  | .hbm, ⟨43, _⟩ => ⟨S8x4096x2816, .f32⟩
  | .hbm, ⟨44, _⟩ => ⟨S_, .f32⟩
  | .hbm, ⟨45, _⟩ => ⟨S8x4096x2816, .f32⟩
  | .hbm, ⟨46, _⟩ => ⟨S8x4096x2816, .f32⟩
  | .hbm, ⟨47, _⟩ => ⟨S_, .f32⟩
  | .hbm, ⟨48, _⟩ => ⟨S8x4096x2816, .f32⟩
  | .hbm, ⟨49, _⟩ => ⟨S8x4096x2816, .f32⟩
  | .hbm, ⟨50, _⟩ => ⟨S8x4096x2816, .f32⟩
  | .hbm, ⟨51, _⟩ => ⟨S8x4096x2816, .f32⟩
  | .hbm, ⟨52, _⟩ => ⟨S8x4096x2816, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x9x1024 : Shape := ⟨3, ![8, 9, 1024]⟩
abbrev S1024 : Shape := ⟨1, ![1024]⟩
abbrev S1024x2848 : Shape := ⟨2, ![1024, 2848]⟩
abbrev S32 : Shape := ⟨1, ![32]⟩
abbrev S1024x1664 : Shape := ⟨2, ![1024, 1664]⟩
abbrev S1024x32 : Shape := ⟨2, ![1024, 32]⟩
abbrev S1024x1x32 : Shape := ⟨3, ![1024, 1, 32]⟩
abbrev S_ : Shape := ⟨0, ![]⟩
abbrev S1024x1x128 : Shape := ⟨3, ![1024, 1, 128]⟩
abbrev S32x1 : Shape := ⟨2, ![32, 1]⟩
abbrev S1024x128 : Shape := ⟨2, ![1024, 128]⟩
abbrev S1024x1152 : Shape := ⟨2, ![1024, 1152]⟩
abbrev S1024x2944 : Shape := ⟨2, ![1024, 2944]⟩
abbrev S1x1024 : Shape := ⟨2, ![1, 1024]⟩
abbrev S8x4096x768 : Shape := ⟨3, ![8, 4096, 768]⟩
abbrev S8x4096x512 : Shape := ⟨3, ![8, 4096, 512]⟩
abbrev S8x4096x1152 : Shape := ⟨3, ![8, 4096, 1152]⟩
abbrev S1x512x1024 : Shape := ⟨3, ![1, 512, 1024]⟩
abbrev S1x9x1024 : Shape := ⟨3, ![1, 9, 1024]⟩
abbrev S1x512x768 : Shape := ⟨3, ![1, 512, 768]⟩
abbrev S1x512x512 : Shape := ⟨3, ![1, 512, 512]⟩
abbrev S1x512x1152 : Shape := ⟨3, ![1, 512, 1152]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x2944 : Shape := ⟨2, ![512, 2944]⟩
abbrev S512x768 : Shape := ⟨2, ![512, 768]⟩
abbrev S512x512 : Shape := ⟨2, ![512, 512]⟩
abbrev S512x1152 : Shape := ⟨2, ![512, 1152]⟩
abbrev S8x4096x128 : Shape := ⟨3, ![8, 4096, 128]⟩
abbrev S8x4096x2x64 : Shape := ⟨4, ![8, 4096, 2, 64]⟩
abbrev S8x4096x2x16 : Shape := ⟨4, ![8, 4096, 2, 16]⟩
abbrev S8x4096x384 : Shape := ⟨3, ![8, 4096, 384]⟩
abbrev S8x4096x16x2 : Shape := ⟨4, ![8, 4096, 16, 2]⟩
abbrev S8x4096x32 : Shape := ⟨3, ![8, 4096, 32]⟩
abbrev S8x4096x416 : Shape := ⟨3, ![8, 4096, 416]⟩

abbrev nBuf : Space → Nat
  | .hbm => 33
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S1024, .f32⟩
  | .hbm, ⟨3, _⟩ => ⟨S1024x2848, .f32⟩
  | .hbm, ⟨4, _⟩ => ⟨S32, .i32⟩
  | .hbm, ⟨5, _⟩ => ⟨S32, .i1⟩
  | .hbm, ⟨6, _⟩ => ⟨S1024x1664, .f32⟩
  | .hbm, ⟨7, _⟩ => ⟨S1024x32, .f32⟩
  | .hbm, ⟨8, _⟩ => ⟨S1024x1x32, .f32⟩
  | .hbm, ⟨9, _⟩ => ⟨S_, .f32⟩
  | .hbm, ⟨10, _⟩ => ⟨S1024x1x128, .f32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S32x1, .i32⟩
  | .hbm, ⟨16, _⟩ => ⟨S1024x1x128, .f32⟩
  | .hbm, ⟨17, _⟩ => ⟨S1024x128, .f32⟩
  | .hbm, ⟨18, _⟩ => ⟨S1024x1152, .f32⟩
  | .hbm, ⟨19, _⟩ => ⟨S1024x2944, .f32⟩
  | .hbm, ⟨20, _⟩ => ⟨S1024x2944, .bf16⟩
  | .hbm, ⟨21, _⟩ => ⟨S1x1024, .f32⟩
  | .hbm, ⟨22, _⟩ => ⟨S8x4096x768, .f32⟩
  | .hbm, ⟨23, _⟩ => ⟨S8x4096x512, .f32⟩
  | .hbm, ⟨24, _⟩ => ⟨S8x4096x512, .f32⟩
  | .hbm, ⟨25, _⟩ => ⟨S8x4096x1152, .f32⟩
  | .hbm, ⟨26, _⟩ => ⟨S8x4096x128, .f32⟩
  | .hbm, ⟨27, _⟩ => ⟨S8x4096x2x64, .f32⟩
  | .hbm, ⟨28, _⟩ => ⟨S8x4096x2x16, .f32⟩
  | .hbm, ⟨29, _⟩ => ⟨S8x4096x384, .f32⟩
  | .hbm, ⟨30, _⟩ => ⟨S8x4096x16x2, .f32⟩
  | .hbm, ⟨31, _⟩ => ⟨S8x4096x32, .f32⟩
  | .hbm, ⟨32, _⟩ => ⟨S8x4096x416, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2944, .bf16⟩
  | .local _ .vmem, ⟨6, _⟩ => ⟨S1x512x768, .f32⟩
  | .local _ .vmem, ⟨7, _⟩ => ⟨S1x512x768, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x1152, .f32⟩
  | .local _ .vmem, ⟨13, _⟩ => ⟨S1x512x1152, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S8x4096x1024 : Shape := ⟨3, ![8, 4096, 1024]⟩
abbrev S8x9x1024 : Shape := ⟨3, ![8, 9, 1024]⟩
abbrev S1024 : Shape := ⟨1, ![1024]⟩
abbrev S1024x2848 : Shape := ⟨2, ![1024, 2848]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x1024 : Shape := ⟨2, ![8, 1024]⟩
abbrev S8x4096x2848 : Shape := ⟨3, ![8, 4096, 2848]⟩
abbrev S8x4096x768 : Shape := ⟨3, ![8, 4096, 768]⟩
abbrev S8x4096x512 : Shape := ⟨3, ![8, 4096, 512]⟩
abbrev S8x4096x416 : Shape := ⟨3, ![8, 4096, 416]⟩
abbrev S8x4096x1152 : Shape := ⟨3, ![8, 4096, 1152]⟩

abbrev nBuf : Space → Nat
  | .hbm => 38
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9x1024, .f32⟩
  | .hbm, ⟨2, _⟩ => ⟨S1024, .f32⟩
  | .hbm, ⟨3, _⟩ => ⟨S1024x2848, .f32⟩
  | .hbm, ⟨4, _⟩ => ⟨S8x4096x1024, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x1024, .f32⟩
  | .hbm, ⟨16, _⟩ => ⟨S8x4096x1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S8x1x1024, .f32⟩
  | .hbm, ⟨21, _⟩ => ⟨S8x1024, .f32⟩
  | .hbm, ⟨22, _⟩ => ⟨S8x1x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x4096x1024, .f32⟩
  | .hbm, ⟨27, _⟩ => ⟨S8x4096x1024, .f32⟩
  | .hbm, ⟨28, _⟩ => ⟨S8x1x1024, .f32⟩
  | .hbm, ⟨29, _⟩ => ⟨S8x1024, .f32⟩
  | .hbm, ⟨30, _⟩ => ⟨S8x1x1024, .f32⟩
  | .hbm, ⟨31, _⟩ => ⟨S8x4096x1024, .f32⟩
  | .hbm, ⟨32, _⟩ => ⟨S8x4096x1024, .f32⟩
  | .hbm, ⟨33, _⟩ => ⟨S8x4096x2848, .f32⟩
  | .hbm, ⟨34, _⟩ => ⟨S8x4096x768, .f32⟩
  | .hbm, ⟨35, _⟩ => ⟨S8x4096x512, .f32⟩
  | .hbm, ⟨36, _⟩ => ⟨S8x4096x416, .f32⟩
  | .hbm, ⟨37, _⟩ => ⟨S8x4096x1152, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel5.lean ====
abbrev S8x4096x4x1x96 : Shape := ⟨5, ![8, 4096, 4, 1, 96]⟩
abbrev S8x256x4x96 : Shape := ⟨4, ![8, 256, 4, 96]⟩
abbrev S8x256x4x64 : Shape := ⟨4, ![8, 256, 4, 64]⟩
abbrev S8x4096x4x96 : Shape := ⟨4, ![8, 4096, 4, 96]⟩
abbrev S8x4096x4x64 : Shape := ⟨4, ![8, 4096, 4, 64]⟩
abbrev S_ : Shape := ⟨0, ![]⟩
abbrev S8x4096x4x32 : Shape := ⟨4, ![8, 4096, 4, 32]⟩
abbrev S8x4096x4x128 : Shape := ⟨4, ![8, 4096, 4, 128]⟩
abbrev S8x4096x512 : Shape := ⟨3, ![8, 4096, 512]⟩
abbrev S8x256x4x32 : Shape := ⟨4, ![8, 256, 4, 32]⟩
abbrev S8x256x4x128 : Shape := ⟨4, ![8, 256, 4, 128]⟩
abbrev S8x256x512 : Shape := ⟨3, ![8, 256, 512]⟩
abbrev S8x4x1x256 : Shape := ⟨4, ![8, 4, 1, 256]⟩
abbrev S8x4x63x256 : Shape := ⟨4, ![8, 4, 63, 256]⟩
abbrev S8x4x64x256 : Shape := ⟨4, ![8, 4, 64, 256]⟩
abbrev S8x4x128x256 : Shape := ⟨4, ![8, 4, 128, 256]⟩
abbrev S8x4x1x4096 : Shape := ⟨4, ![8, 4, 1, 4096]⟩
abbrev S8x4x63x4096 : Shape := ⟨4, ![8, 4, 63, 4096]⟩
abbrev S8x4x64x4096 : Shape := ⟨4, ![8, 4, 64, 4096]⟩
abbrev S8x4x128x4096 : Shape := ⟨4, ![8, 4, 128, 4096]⟩
abbrev S8x4096x256 : Shape := ⟨3, ![8, 4096, 256]⟩
abbrev S1x256x512 : Shape := ⟨3, ![1, 256, 512]⟩
abbrev S1x256x128 : Shape := ⟨3, ![1, 256, 128]⟩
abbrev S1x1x128x256 : Shape := ⟨4, ![1, 1, 128, 256]⟩
abbrev S1x4096x128 : Shape := ⟨3, ![1, 4096, 128]⟩
abbrev S1x1x128x4096 : Shape := ⟨4, ![1, 1, 128, 4096]⟩
abbrev S1x256x256 : Shape := ⟨3, ![1, 256, 256]⟩
abbrev S256x512 : Shape := ⟨2, ![256, 512]⟩
abbrev S256x128 : Shape := ⟨2, ![256, 128]⟩
abbrev S256x256 : Shape := ⟨2, ![256, 256]⟩
abbrev S256 : Shape := ⟨1, ![256]⟩
abbrev S1x256 : Shape := ⟨2, ![1, 256]⟩
abbrev S128x256 : Shape := ⟨2, ![128, 256]⟩
abbrev S64x256 : Shape := ⟨2, ![64, 256]⟩

abbrev nBuf : Space → Nat
  | .hbm => 35
  | .vmem => 36
  | .smem => 0
  | _ => 0

abbrev bufTy : (tb : Table) → Fin (tcTables nBuf tb) → BufTy
  | .hbm, ⟨0, _⟩ => ⟨S8x4096x4x1x96, .f32⟩
  | .hbm, ⟨1, _⟩ => ⟨S8x256x4x96, .f32⟩
  | .hbm, ⟨2, _⟩ => ⟨S8x256x4x64, .f32⟩
  | .hbm, ⟨3, _⟩ => ⟨S8x4096x4x96, .f32⟩
  | .hbm, ⟨4, _⟩ => ⟨S8x4096x4x64, .f32⟩
  | .hbm, ⟨5, _⟩ => ⟨S8x4096x4x96, .f32⟩
  | .hbm, ⟨6, _⟩ => ⟨S_, .f32⟩
  | .hbm, ⟨7, _⟩ => ⟨S8x4096x4x32, .f32⟩
  | .hbm, ⟨8, _⟩ => ⟨S8x4096x4x128, .f32⟩
  | .hbm, ⟨9, _⟩ => ⟨S8x4096x512, .f32⟩
  | .hbm, ⟨10, _⟩ => ⟨S_, .f32⟩
  | .hbm, ⟨11, _⟩ => ⟨S8x256x4x32, .f32⟩
  | .hbm, ⟨12, _⟩ => ⟨S8x256x4x128, .f32⟩
  | .hbm, ⟨13, _⟩ => ⟨S8x256x512, .f32⟩
  | .hbm, ⟨14, _⟩ => ⟨S8x256x512, .bf16⟩
  | .hbm, ⟨15, _⟩ => ⟨S_, .f32⟩
  | .hbm, ⟨16, _⟩ => ⟨S8x4x1x256, .f32⟩
  | .hbm, ⟨17, _⟩ => ⟨S_, .f32⟩
  | .hbm, ⟨18, _⟩ => ⟨S8x4x63x256, .f32⟩
  | .hbm, ⟨19, _⟩ => ⟨S8x4x64x256, .f32⟩
  | .hbm, ⟨20, _⟩ => ⟨S8x4x128x256, .f32⟩
  | .hbm, ⟨21, _⟩ => ⟨S8x4x128x256, .bf16⟩
  | .hbm, ⟨22, _⟩ => ⟨S_, .f32⟩
  | .hbm, ⟨23, _⟩ => ⟨S8x4096x4x32, .f32⟩
  | .hbm, ⟨24, _⟩ => ⟨S8x4096x4x128, .f32⟩
  | .hbm, ⟨25, _⟩ => ⟨S8x4096x512, .f32⟩
  | .hbm, ⟨26, _⟩ => ⟨S8x4096x512, .bf16⟩
  | .hbm, ⟨27, _⟩ => ⟨S_, .f32⟩
  | .hbm, ⟨28, _⟩ => ⟨S8x4x1x4096, .f32⟩
  | .hbm, ⟨29, _⟩ => ⟨S_, .f32⟩
  | .hbm, ⟨30, _⟩ => ⟨S8x4x63x4096, .f32⟩
  | .hbm, ⟨31, _⟩ => ⟨S8x4x64x4096, .f32⟩
  | .hbm, ⟨32, _⟩ => ⟨S8x4x128x4096, .f32⟩
  | .hbm, ⟨33, _⟩ => ⟨S8x4x128x4096, .bf16⟩
  | .hbm, ⟨34, _⟩ => ⟨S8x4096x256, .bf16⟩
  | .local _ .vmem, ⟨0, _⟩ => ⟨S1x256x512, .f32⟩
  | .local _ .vmem, ⟨1, _⟩ => ⟨S1x256x512, .f32⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x1x128x256, .bf16⟩
  | .local _ .vmem, ⟨11, _⟩ => ⟨S1x1x128x256, .bf16⟩
  | .local _ .vmem, ⟨12, _⟩ => ⟨S1x1x128x256, .bf16⟩
  | .local _ .vmem, ⟨13, _⟩ => ⟨S1x1x128x256, .bf16⟩
  | .local _ .vmem, ⟨14, _⟩ => ⟨S1x1x128x256, .bf16⟩
  | .local _ .vmem, ⟨15, _⟩ => ⟨S1x1x128x256, .bf16⟩
  | .local _ .vmem, ⟨16, _⟩ => ⟨S1x1x128x256, .bf16⟩
  | .local _ .vmem, ⟨17, _⟩ => ⟨S1x1x128x256, .bf16⟩
  | .local _ .vmem, ⟨18, _⟩ => ⟨S1x4096x128, .bf16⟩
  | .local _ .vmem, ⟨19, _⟩ => ⟨S1x4096x128, .bf16⟩
  | .local _ .vmem, ⟨20, _⟩ => ⟨S1x4096x128, .bf16⟩
  | .local _ .vmem, ⟨21, _⟩ => ⟨S1x4096x128, .bf16⟩
  | .local _ .vmem, ⟨22, _⟩ => ⟨S1x4096x128, .bf16⟩
  | .local _ .vmem, ⟨23, _⟩ => ⟨S1x4096x128, .bf16⟩
  | .local _ .vmem, ⟨24, _⟩ => ⟨S1x4096x128, .bf16⟩
  | .local _ .vmem, ⟨25, _⟩ => ⟨S1x4096x128, .bf16⟩
  | .local _ .vmem, ⟨26, _⟩ => ⟨S1x1x128x4096, .bf16⟩
  | .local _ .vmem, ⟨27, _⟩ => ⟨S1x1x128x4096, .bf16⟩
  | .local _ .vmem, ⟨28, _⟩ => ⟨S1x1x128x4096, .bf16⟩
  | .local _ .vmem, ⟨29, _⟩ => ⟨S1x1x128x4096, .bf16⟩
  | .local _ .vmem, ⟨30, _⟩ => ⟨S1x1x128x4096, .bf16⟩
  | .local _ .vmem, ⟨31, _⟩ => ⟨S1x1x128x4096, .bf16⟩
  | .local _ .vmem, ⟨32, _⟩ => ⟨S1x1x128x4096, .bf16⟩
  | .local _ .vmem, ⟨33, _⟩ => ⟨S1x1x128x4096, .bf16⟩
  | .local _ .vmem, ⟨34, _⟩ => ⟨S1x256x256, .bf16⟩
  | .local _ .vmem, ⟨35, _⟩ => ⟨S1x256x256, .bf16⟩
  | _, _ => ⟨S8x4096x4x1x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x4096x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x4096x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x128x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x128x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1x128x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x128x4096 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x256x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Kernel5Ideal.lean ====
variable {F : FTy → Type} [FloatOps F] [Named F]
def κ : String → Option EReal := fun
  | "scale" => some (((3424635 / 33554432) * (Real.log 2)⁻¹ : ℝ) : EReal)
  | _ => none
-- ==== Reference5Ideal.lean ====
abbrev S8x4096x4x1x96 : Shape := ⟨5, ![8, 4096, 4, 1, 96]⟩
abbrev S8x256x4x96 : Shape := ⟨4, ![8, 256, 4, 96]⟩
abbrev S8x256x4x64 : Shape := ⟨4, ![8, 256, 4, 64]⟩
abbrev S8x4096x4x96 : Shape := ⟨4, ![8, 4096, 4, 96]⟩
abbrev S8x4096x4x64 : Shape := ⟨4, ![8, 4096, 4, 64]⟩
abbrev S8x4352x4x96 : Shape := ⟨4, ![8, 4352, 4, 96]⟩
abbrev S8x4352x4x64 : Shape := ⟨4, ![8, 4352, 4, 64]⟩
abbrev S8x4x4352x4096x1 : Shape := ⟨5, ![8, 4, 4352, 4096, 1]⟩
abbrev S8x4x1x4096x4352 : Shape := ⟨5, ![8, 4, 1, 4096, 4352]⟩
abbrev S_ : Shape := ⟨0, ![]⟩
abbrev S8x4x1x4096 : Shape := ⟨4, ![8, 4, 1, 4096]⟩
abbrev S8x4x1x4096x1 : Shape := ⟨5, ![8, 4, 1, 4096, 1]⟩
abbrev S8x4x64x1x4096 : Shape := ⟨5, ![8, 4, 64, 1, 4096]⟩
abbrev S8x4096x4x1x64 : Shape := ⟨5, ![8, 4096, 4, 1, 64]⟩
abbrev S8x4096x256 : Shape := ⟨3, ![8, 4096, 256]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x4x1x96, .f32⟩
  | .hbm, ⟨1, _⟩ => ⟨S8x256x4x96, .f32⟩
  | .hbm, ⟨2, _⟩ => ⟨S8x256x4x64, .f32⟩
  | .hbm, ⟨3, _⟩ => ⟨S8x4096x4x96, .f32⟩
  | .hbm, ⟨4, _⟩ => ⟨S8x4096x4x64, .f32⟩
  | .hbm, ⟨5, _⟩ => ⟨S8x4352x4x96, .f32⟩
  | .hbm, ⟨6, _⟩ => ⟨S8x4352x4x64, .f32⟩
  | .hbm, ⟨7, _⟩ => ⟨S8x4x4352x4096x1, .f32⟩
  | .hbm, ⟨8, _⟩ => ⟨S8x4x1x4096x4352, .f32⟩
  | .hbm, ⟨9, _⟩ => ⟨S_, .f32⟩
  | .hbm, ⟨10, _⟩ => ⟨S8x4x1x4096x4352, .f32⟩
  | .hbm, ⟨11, _⟩ => ⟨S8x4x1x4096x4352, .f32⟩
  | .hbm, ⟨12, _⟩ => ⟨S_, .f32⟩
  | .hbm, ⟨13, _⟩ => ⟨S8x4x1x4096, .f32⟩
  | .hbm, ⟨14, _⟩ => ⟨S_, .f32⟩
  | .hbm, ⟨15, _⟩ => ⟨S8x4x1x4096, .f32⟩
  | .hbm, ⟨16, _⟩ => ⟨S8x4x1x4096, .f32⟩
  | .hbm, ⟨17, _⟩ => ⟨S8x4x1x4096x1, .f32⟩
  | .hbm, ⟨18, _⟩ => ⟨S8x4x1x4096x4352, .f32⟩
  | .hbm, ⟨19, _⟩ => ⟨S8x4x1x4096x4352, .f32⟩
  | .hbm, ⟨20, _⟩ => ⟨S8x4x1x4096x4352, .f32⟩
  | .hbm, ⟨21, _⟩ => ⟨S_, .f32⟩
  | .hbm, ⟨22, _⟩ => ⟨S8x4x1x4096, .f32⟩
  | .hbm, ⟨23, _⟩ => ⟨S8x4x1x4096x1, .f32⟩
  | .hbm, ⟨24, _⟩ => ⟨S8x4x1x4096x4352, .f32⟩
  | .hbm, ⟨25, _⟩ => ⟨S8x4x1x4096x4352, .f32⟩
  | .hbm, ⟨26, _⟩ => ⟨S8x4x64x1x4096, .f32⟩
  | .hbm, ⟨27, _⟩ => ⟨S8x4096x4x1x64, .f32⟩
  | .hbm, ⟨28, _⟩ => ⟨S8x4096x256, .f32⟩
  | .hbm, ⟨29, _⟩ => ⟨S8x4096x256, .bf16⟩
  | _, _ => ⟨S8x4096x4x1x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Proof.Body.lean ====
/- The attention body as one formula. One head of one block of 256 queries meets seventeen chunks of 256 keys
   (one chunk of context keys, sixteen of latent keys). The body computes the scores of every chunk, keeps the
   chunk's own maximum, weighs the chunk's values by the powers of two of the scores less that maximum, rescales every
   chunk to the largest maximum and adds the chunks; the row of ones gives the sum of the weights. `attn` states
   that for any chunks; `out_eq` says the generated result of the body is `attn` of the loaded chunks. -/
module

public import proofs.«01_k».proof.Proof.Gen.KernelIdeal.Frame

@[expose] public section

set_option maxRecDepth 16384

noncomputable section

namespace Cert.Attention

open Cert.KernelIdeal Cert.KernelIdeal.Gen Idealize.ShloMosaic

/-- A chunk's scores, keys by queries. -/
def scores (q : FVec Ideal S256x128 .bf16) (K : Vec Ideal S1x256x128 .bf16) : FVec Ideal S256x256 .f32 :=
  matmul dot_S256x128_S256x128_S256x256_1_1_0_0_n_n none
    (φ₁ := .bf16) (shapeCast S256x128 K shapeCasts_S1x256x128_S256x128) q (constant S256x256 .f32 0x00000000#32)

/-- The largest score of every query. -/
def peak (s : FVec Ideal S256x256 .f32) : FVec Ideal S1x256 .f32 :=
  shapeCast S1x256 (multiReduction .maximumf [0] S256 s 0xFF800000#32 reduces_S256x256_S256 (.inl rfl) rfl)
    shapeCasts_S256_S1x256

/-- The chunk's values weighed by the powers of two of the scores less the chunk's peak. -/
def weighed (s : FVec Ideal S256x256 .f32) (V : Vec Ideal S1x1x128x256 .bf16) : FVec Ideal S128x256 .f32 :=
  matmul dot_S128x256_S256x256_S128x256_1_0_0_1_n_n none
    (φ₁ := .bf16) (shapeCast S128x256 V shapeCasts_S1x1x128x256_S128x256)
    (truncf .bf16 (exp2 (subf s (broadcastTo S256x256 (peak s) broadcasts_S1x256_S256x256))) bitsLt_bf16_f32)
    (constant S128x256 .f32 0x00000000#32)

/-- The same rescaled from the chunk's peak to the peak `m` of all chunks. -/
def share (m : FVec Ideal S1x256 .f32) (s : FVec Ideal S256x256 .f32) (V : Vec Ideal S1x1x128x256 .bf16) :
    FVec Ideal S128x256 .f32 :=
  mulf (weighed s V) (broadcastTo S128x256 (exp2 (subf (peak s) m)) broadcasts_S1x256_S128x256)

/-- The chunks joined from the left by `op`. -/
def chain {α : Type} (op : α → α → α) (x : Fin 17 → α) : α :=
  op (op (op (op (op (op (op (op (op (op (op (op (op (op (op (op (x 0) (x 1)) (x 2)) (x 3)) (x 4)) (x 5)) (x 6)) (x 7))
    (x 8)) (x 9)) (x 10)) (x 11)) (x 12)) (x 13)) (x 14)) (x 15)) (x 16)

/-- The largest score of every query over all chunks. -/
def level (q : FVec Ideal S256x128 .bf16) (K : Fin 17 → Vec Ideal S1x256x128 .bf16) : FVec Ideal S1x256 .f32 :=
  chain maximumf fun i => peak (scores q (K i))

/-- The chunks joined at that level: the values weighed in rows 0 to 63, the sum of the weights in row 64. -/
def joined (q : FVec Ideal S256x128 .bf16) (K : Fin 17 → Vec Ideal S1x256x128 .bf16)
    (V : Fin 17 → Vec Ideal S1x1x128x256 .bf16) : FVec Ideal S128x256 .f32 :=
  chain addf fun i => share (level q K) (scores q (K i)) (V i)

/-- One head's output, values by queries: the joined rows 0 to 63 over row 64. -/
def head (q : FVec Ideal S256x128 .bf16) (K : Fin 17 → Vec Ideal S1x256x128 .bf16)
    (V : Fin 17 → Vec Ideal S1x1x128x256 .bf16) : FVec Ideal S64x256 .f32 :=
  divf (extractStridedSlice S64x256 ![0, 0] (joined q K V) slices_S128x256_o0_0_S64x256)
    (broadcastTo S64x256 (extractStridedSlice S1x256 ![64, 0] (joined q K V) slices_S128x256_o64_0_S1x256)
      broadcasts_S1x256_S64x256)

/-- The four heads of the scaled queries, side by side. -/
def attn (q : FVec Ideal S256x512 .bf16) (K : Fin 4 → Fin 17 → Vec Ideal S1x256x128 .bf16)
    (V : Fin 4 → Fin 17 → Vec Ideal S1x1x128x256 .bf16) : FVec Ideal S1x256x256 .bf16 :=
  shapeCast S1x256x256 (truncf .bf16 (transpose S256x256 [1, 0]
    (concatenate S256x256 0
      [⟨S64x256, head (extractStridedSlice S256x128 ![0, 0] q slices_S256x512_o0_0_S256x128) (K 0) (V 0)⟩,
       ⟨S64x256, head (extractStridedSlice S256x128 ![0, 128] q slices_S256x512_o0_128_S256x128) (K 1) (V 1)⟩,
       ⟨S64x256, head (extractStridedSlice S256x128 ![0, 256] q slices_S256x512_o0_256_S256x128) (K 2) (V 2)⟩,
       ⟨S64x256, head (extractStridedSlice S256x128 ![0, 384] q slices_S256x512_o0_384_S256x128) (K 3) (V 3)⟩]
      concatenates_S64x256_S64x256_S64x256_S64x256_S256x256_d0)
    transposes_S256x256_p1_0_S256x256) bitsLt_bf16_f32) shapeCasts_S256x256_S1x256x256

/-- The seventeen chunks of keys: the context block, then the latent block from its start. -/
def keyChunks (c : Vec Ideal S1x256x128 .bf16) (l : Vec Ideal S1x4096x128 .bf16) :
    Fin 17 → Vec Ideal S1x256x128 .bf16 :=
  ![View.ld c r0_1, View.ld l r0_2, View.ld l r0_3, View.ld l r0_4, View.ld l r0_5, View.ld l r0_6, View.ld l r0_7,
    View.ld l r0_8, View.ld l r0_9, View.ld l r0_10, View.ld l r0_11, View.ld l r0_12, View.ld l r0_13, View.ld l r0_14,
    View.ld l r0_15, View.ld l r0_16, View.ld l r0_17]

/-- The seventeen chunks of values. -/
def valueChunks (c : Vec Ideal S1x1x128x256 .bf16) (l : Vec Ideal S1x1x128x4096 .bf16) :
    Fin 17 → Vec Ideal S1x1x128x256 .bf16 :=
  ![View.ld c r0_18, View.ld l r0_19, View.ld l r0_20, View.ld l r0_21, View.ld l r0_22, View.ld l r0_23, View.ld l r0_24,
    View.ld l r0_25, View.ld l r0_26, View.ld l r0_27, View.ld l r0_28, View.ld l r0_29, View.ld l r0_30, View.ld l r0_31,
    View.ld l r0_32, View.ld l r0_33, View.ld l r0_34]

set_option maxHeartbeats 2000000 in
/-- The generated result of the body is `attn` of the scaled queries and the chunks. -/
theorem out_eq (x0 : Vec Ideal S1x256x512 .f32) (x1 x2 x3 x4 : Vec Ideal S1x256x128 .bf16)
    (x5 x6 x7 x8 : Vec Ideal S1x1x128x256 .bf16) (x9 x10 x11 x12 : Vec Ideal S1x4096x128 .bf16)
    (x13 x14 x15 x16 : Vec Ideal S1x1x128x4096 .bf16) :
    out0_17 x0 x1 x2 x3 x4 x5 x6 x7 x8 x9 x10 x11 x12 x13 x14 x15 x16
      = View.canon [⟨r0_35, attn (k0_pay2 (View.ld x0 r0_0))
          ![keyChunks x1 x9, keyChunks x2 x10, keyChunks x3 x11, keyChunks x4 x12]
          ![valueChunks x5 x13, valueChunks x6 x14, valueChunks x7 x15, valueChunks x8 x16]⟩] := by
  unfold_out out0_17
  simp only [
    k0_pay1, k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32, k0_pay33, k0_pay34, k0_pay35,
    k0_pay36, k0_pay37, k0_pay38, k0_pay39, k0_pay40, k0_pay41, k0_pay42, k0_pay43, k0_pay44, k0_pay45, k0_pay46,
    k0_pay47, k0_pay48, k0_pay49, k0_pay50, k0_pay51, k0_pay52, k0_pay53, k0_pay54, k0_pay55, k0_pay56, k0_pay57,
    k0_pay58, k0_pay59, k0_pay60, k0_pay61, k0_pay62, k0_pay63, k0_pay64, k0_pay65, k0_pay66, k0_pay67, k0_pay68,
    k0_pay69, k0_pay70, k0_pay71, k0_pay72, k0_pay73, k0_pay74, k0_pay75, k0_pay76, k0_pay77, k0_pay78, k0_pay79,
    k0_pay80, k0_pay81, k0_pay82, k0_pay83, k0_pay84, k0_pay85, k0_pay86, k0_pay87, k0_pay88, k0_pay89, k0_pay90,
    k0_pay91, k0_pay92, k0_pay93, k0_pay94, k0_pay95, k0_pay96, k0_pay97, k0_pay98, k0_pay99, k0_pay100, k0_pay101,
    k0_pay102, k0_pay103, k0_pay104, k0_pay105, k0_pay106, k0_pay107, k0_pay108, k0_pay109, k0_pay110, k0_pay111,
    k0_pay112, k0_pay113, k0_pay114, k0_pay115, k0_pay116, k0_pay117, k0_pay118, k0_pay119, k0_pay120, k0_pay121,
    k0_pay122, k0_pay123, k0_pay124, k0_pay125, k0_pay126, k0_pay127, k0_pay128, k0_pay129, k0_pay130, k0_pay131,
    k0_pay132, k0_pay133, k0_pay134, k0_pay135, k0_pay136, k0_pay137, k0_pay138, k0_pay139, k0_pay140, k0_pay141,
    k0_pay142, k0_pay143, k0_pay144, k0_pay145, k0_pay146, k0_pay147, k0_pay148, k0_pay149, k0_pay150, k0_pay151,
    k0_pay152, k0_pay153, k0_pay154, k0_pay155, k0_pay156, k0_pay157, k0_pay158, k0_pay159, k0_pay160, k0_pay161,
    k0_pay162, k0_pay163, k0_pay164, k0_pay165, k0_pay166, k0_pay167, k0_pay168, k0_pay169, k0_pay170, k0_pay171,
    k0_pay172, k0_pay173, k0_pay174, k0_pay175, k0_pay176, k0_pay177, k0_pay178, k0_pay179, k0_pay180, k0_pay181,
    k0_pay182, k0_pay183, k0_pay184, k0_pay185, k0_pay186, k0_pay187, k0_pay188, k0_pay189, k0_pay190, k0_pay191,
    k0_pay192, k0_pay193, k0_pay194, k0_pay195, k0_pay196, k0_pay197, k0_pay198, k0_pay199, k0_pay200, k0_pay201,
    k0_pay202, k0_pay203, k0_pay204, k0_pay205, k0_pay206, k0_pay207, k0_pay208, k0_pay209, k0_pay210, k0_pay211,
    k0_pay212, k0_pay213, k0_pay214, k0_pay215, k0_pay216, k0_pay217, k0_pay218, k0_pay219, k0_pay220, k0_pay221,
    k0_pay222, k0_pay223, k0_pay224, k0_pay225, k0_pay226, k0_pay227, k0_pay228, k0_pay229, k0_pay230, k0_pay231,
    k0_pay232, k0_pay233, k0_pay234, k0_pay235, k0_pay236, k0_pay237, k0_pay238, k0_pay239, k0_pay240, k0_pay241,
    k0_pay242, k0_pay243, k0_pay244, k0_pay245, k0_pay246, k0_pay247, k0_pay248, k0_pay249, k0_pay250, k0_pay251,
    k0_pay252, k0_pay253, k0_pay254, k0_pay255, k0_pay256, k0_pay257, k0_pay258, k0_pay259, k0_pay260, k0_pay261,
    k0_pay262, k0_pay263, k0_pay264, k0_pay265, k0_pay266, k0_pay267, k0_pay268, k0_pay269, k0_pay270, k0_pay271,
    k0_pay272, k0_pay273, k0_pay274, k0_pay275, k0_pay276, k0_pay277, k0_pay278, k0_pay279, k0_pay280, k0_pay281,
    k0_pay282, k0_pay283, k0_pay284, k0_pay285, k0_pay286, k0_pay287, k0_pay288, k0_pay289, k0_pay290, k0_pay291,
    k0_pay292, k0_pay293, k0_pay294, k0_pay295, k0_pay296, k0_pay297, k0_pay298, k0_pay299, k0_pay300, k0_pay301,
    k0_pay302, k0_pay303, k0_pay304, k0_pay305, k0_pay306, k0_pay307, k0_pay308, k0_pay309, k0_pay310, k0_pay311,
    k0_pay312, k0_pay313, k0_pay314, k0_pay315, k0_pay316, k0_pay317, k0_pay318, k0_pay319, k0_pay320, k0_pay321,
    k0_pay322, k0_pay323, k0_pay324, k0_pay325, k0_pay326, k0_pay327, k0_pay328, k0_pay329, k0_pay330, k0_pay331,
    k0_pay332, k0_pay333, k0_pay334, k0_pay335, k0_pay336, k0_pay337, k0_pay338, k0_pay339, k0_pay340, k0_pay341,
    k0_pay342, k0_pay343,
    attn, head, joined, level, chain, share, weighed, peak, scores, keyChunks, valueChunks, Matrix.cons_val]

end Cert.Attention

end
-- ==== Proof.Read.lean ====
/- The attention body at an index. -/
module

public import proofs.«01_k».proof.Proof.Body
public import Idealize.ShloMosaic.Lib.Pointwise

@[expose] public section

set_option maxRecDepth 16384

noncomputable section

namespace Cert.Attention

open Cert.KernelIdeal Cert.KernelIdeal.Gen Idealize.ShloMosaic

/-- A chunk's scores at an index: the inner product of a key and a query. -/
theorem scores_apply (q : FVec Ideal S256x128 .bf16) (K : Vec Ideal S1x256x128 .bf16) (j r : Fin 256) :
    scores q K (ix2 j r) = ∑ l : Fin 128, (K (ix3 0 j l) * q (ix2 r l) : EReal) := by
  unfold scores
  simp only [pointwise]
  rw [zero_add]

theorem bits_bot : Ideal.ofBits .f32 0xFF800000#32 = ⊥ := by simp [Ideal.ofBits, Ideal.ieee]

/-- The largest score of a query in a chunk. -/
theorem peak_apply (s : FVec Ideal S256x256 .f32) (r : Fin 256) :
    peak s (ix2 0 r) = (Finset.univ : Finset (Fin 256)).fold max (⊥ : EReal) fun j => s (ix2 j r) := by
  unfold peak
  simp only [pointwise]
  rw [← bits_bot]

/-- A chunk's share of the weighted sum. -/
theorem share_apply (m : FVec Ideal S1x256 .f32) (s : FVec Ideal S256x256 .f32) (V : Vec Ideal S1x1x128x256 .bf16)
    (d : Fin 128) (r : Fin 256) :
    share m s V (ix2 d r) = (∑ j : Fin 256, (V (ix4 0 0 d j) * Ideal.exp2 (s (ix2 j r) - peak s (ix2 0 r)) : EReal))
      * Ideal.exp2 (peak s (ix2 0 r) - m (ix2 0 r)) := by
  unfold share weighed
  simp only [pointwise]
  rw [zero_add]
  rfl

/-- One head's output: a row of the weighted sums over the sum of the weights. -/
theorem head_apply (q : FVec Ideal S256x128 .bf16) (K : Fin 17 → Vec Ideal S1x256x128 .bf16)
    (V : Fin 17 → Vec Ideal S1x1x128x256 .bf16) (d : Fin 64) (r : Fin 256) :
    head q K V (ix2 d r) = Ideal.div (joined q K V (ix2 ⟨d, by omega⟩ r)) (joined q K V (ix2 64 r)) := by
  unfold head
  simp only [pointwise]
  simp

/-- Two indices of a matrix with the same coordinates. -/
theorem ix2_congr {n₀ n₁ : Nat} {i i' : Fin n₀} {j j' : Fin n₁} (hi : (i : Nat) = i') (hj : (j : Nat) = j') :
    ix2 i j = ix2 i' j' := by
  rw [Fin.ext hi, Fin.ext hj]

/-- Two indices of rank 3 with the same coordinates. -/
theorem ix3_congr {n₀ n₁ n₂ : Nat} {i i' : Fin n₀} {j j' : Fin n₁} {k k' : Fin n₂} (hi : (i : Nat) = i')
    (hj : (j : Nat) = j') (hk : (k : Nat) = k') : ix3 i j k = ix3 i' j' k' := by
  rw [Fin.ext hi, Fin.ext hj, Fin.ext hk]

/-- Two indices of rank 4 with the same coordinates. -/
theorem ix4_congr {n₀ n₁ n₂ n₃ : Nat} {i i' : Fin n₀} {j j' : Fin n₁} {k k' : Fin n₂} {l l' : Fin n₃}
    (hi : (i : Nat) = i') (hj : (j : Nat) = j') (hk : (k : Nat) = k') (hl : (l : Nat) = l') :
    ix4 i j k l = ix4 i' j' k' l' := by
  rw [Fin.ext hi, Fin.ext hj, Fin.ext hk, Fin.ext hl]

/-- The lanes of head `h` of a block of queries. -/
def lanes (q : FVec Ideal S256x512 .bf16) (h : Fin 4) : FVec Ideal S256x128 .bf16 :=
  fun i => q (ix2 ⟨i 0, (i 0).isLt⟩ ⟨128 * h + i 1, by have : (i 1 : Nat) < 128 := (i 1).isLt; omega⟩)

/-- The body's block at head `h`, entry `d` is the output of that head. -/
theorem attn_apply (q : FVec Ideal S256x512 .bf16) (K : Fin 4 → Fin 17 → Vec Ideal S1x256x128 .bf16)
    (V : Fin 4 → Fin 17 → Vec Ideal S1x1x128x256 .bf16) (r : Fin 256) (h : Fin 4) (d : Fin 64) :
    attn q K V (ix3 0 r ⟨64 * h + d, by omega⟩) = head (lanes q h) (K h) (V h) (ix2 d r) := by
  unfold attn
  simp only [pointwise]
  have hl : ∀ (k : Fin 4) hs, extractStridedSlice S256x128 ![0, 128 * (k : Nat)] q hs = lanes q k := by
    intro k hs
    funext i
    idx_vars i
    simp only [pointwise]
    unfold lanes
    congr 1
    funext a
    match a with
    | ⟨0, _⟩ => exact Fin.ext (by simp)
    | ⟨1, _⟩ => rfl
  have h0 : ∀ hs, extractStridedSlice S256x128 ![0, 0] q hs = lanes q 0 := hl 0
  have h1 : ∀ hs, extractStridedSlice S256x128 ![0, 128] q hs = lanes q 1 := hl 1
  have h2 : ∀ hs, extractStridedSlice S256x128 ![0, 256] q hs = lanes q 2 := hl 2
  have h3 : ∀ hs, extractStridedSlice S256x128 ![0, 384] q hs = lanes q 3 := hl 3
  simp only [Matrix.cons_val_zero, if_true, h0, h1, h2, h3, show ¬ ((1 : Nat) = 0) by decide, if_false]
  have hd := d.isLt
  have v0 : ((0 : Fin 4) : Nat) = 0 := rfl
  have v1 : ((1 : Fin 4) : Nat) = 1 := rfl
  have v2 : ((2 : Fin 4) : Nat) = 2 := rfl
  have v3 : ((3 : Fin 4) : Nat) = 3 := rfl
  rcases (by decide : ∀ h : Fin 4, h = 0 ∨ h = 1 ∨ h = 2 ∨ h = 3) h with rfl | rfl | rfl | rfl
  · rw [dif_pos (by omega)]
    exact congrArg (head (lanes q 0) (K 0) (V 0)) (ix2_congr (by dsimp only; omega) (by simp))
  · rw [dif_neg (by omega), dif_pos (by omega)]
    exact congrArg (head (lanes q 1) (K 1) (V 1)) (ix2_congr (by dsimp only; omega) (by simp))
  · rw [dif_neg (by omega), dif_neg (by omega), dif_pos (by omega)]
    exact congrArg (head (lanes q 2) (K 2) (V 2)) (ix2_congr (by dsimp only; omega) (by simp))
  · rw [dif_neg (by omega), dif_neg (by omega), dif_neg (by omega)]
    exact congrArg (head (lanes q 3) (K 3) (V 3)) (ix2_congr (by dsimp only; omega) (by simp))

end Cert.Attention

end
-- ==== Proof.Softmax.lean ====
/- Softmax over chunks, in the extended reals. A weighted sum of arbitrary values with positive real weights may be
   rescaled by any positive real, so a quotient of two such sums does not depend on the real subtracted from the scores,
   nor on a different real being subtracted in every chunk first. -/
module

public import Idealize.ShloMosaic.PureOps.Ideal
public import Idealize.ShloMosaic.Lib.ValueIdx

@[expose] public section

noncomputable section

namespace Cert.Softmax

open Idealize.ShloMosaic

/-- A sum of extended reals times a positive real, term by term. -/
theorem sum_mul_pos {ι : Type} (s : Finset ι) (f : ι → EReal) {c : ℝ} (hc : 0 < c) :
    (∑ i ∈ s, f i) * (c : EReal) = ∑ i ∈ s, f i * (c : EReal) := by
  induction s using Finset.cons_induction with
  | empty => simp
  | cons a s ha ih =>
    rw [Finset.sum_cons, Finset.sum_cons, ← ih,
      EReal.right_distrib_of_nonneg_of_ne_top (EReal.coe_nonneg.2 hc.le) (EReal.coe_ne_top c)]

/-- The maximum of finitely many reals, folded from the bottom, is a real. -/
theorem fold_max_real {n : Nat} (f : Fin (n + 1) → ℝ) :
    ∃ r : ℝ, (Finset.univ : Finset (Fin (n + 1))).fold max (⊥ : EReal) (fun i => (f i : EReal)) = (r : EReal) := by
  have key : ∀ s : Finset (Fin (n + 1)), s.Nonempty →
      ∃ r : ℝ, s.fold max (⊥ : EReal) (fun i => (f i : EReal)) = (r : EReal) := by
    intro s hs
    induction hs using Finset.Nonempty.cons_induction with
    | singleton a => exact ⟨f a, by simp⟩
    | cons a s ha _ ih =>
      obtain ⟨r, hr⟩ := ih
      exact ⟨max (f a) r, by rw [Finset.fold_cons, hr]; exact (EReal.coe_strictMono.monotone.map_max).symm⟩
  exact key _ Finset.univ_nonempty

/-- A common positive factor of a quotient over a positive real drops out. -/
theorem div_mul_pos (a : EReal) {b c : ℝ} (hb : 0 < b) (hc : 0 < c) :
    Ideal.div (a * (c : EReal)) ((b : EReal) * (c : EReal)) = Ideal.div a (b : EReal) := by
  rw [← EReal.coe_mul, Ideal.div_coe (mul_pos hb hc).ne', Ideal.div_coe hb.ne', mul_assoc, ← EReal.coe_mul]
  exact congrArg (fun x : ℝ => a * (x : EReal)) (by field_simp)

/-- A finite sum of reals, in the extended reals. -/
theorem coe_sum {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- The maximum of two reals, in the extended reals. -/
theorem coe_max (a b : ℝ) : max (a : EReal) (b : EReal) = ((max a b : ℝ) : EReal) :=
  (EReal.coe_strictMono.monotone.map_max).symm

/-- A chunk's share: subtracting `M` in the chunk and `m - M` after it amounts to a factor `2 ^ (-m)`. -/
theorem share_eq {n : Nat} (v : Fin n → EReal) (S : Fin n → ℝ) (M m : ℝ) :
    (∑ j, v j * Ideal.exp2 ((S j : EReal) - (M : EReal))) * Ideal.exp2 ((M : EReal) - (m : EReal))
      = (∑ j, v j * (((2 : ℝ) ^ S j : ℝ) : EReal)) * (((2 : ℝ) ^ (-m) : ℝ) : EReal) := by
  have h2 : (0 : ℝ) < 2 := two_pos
  rw [← EReal.coe_sub, Ideal.exp2_coe]
  change _ * (((2 : ℝ) ^ (M - m) : ℝ) : EReal) = _
  rw [sum_mul_pos _ _ (Real.rpow_pos_of_pos h2 _), sum_mul_pos _ _ (Real.rpow_pos_of_pos h2 _)]
  refine Finset.sum_congr rfl fun j _ => ?_
  rw [← EReal.coe_sub, Ideal.exp2_coe]
  change _ * (((2 : ℝ) ^ (S j - M) : ℝ) : EReal) * _ = _
  rw [mul_assoc, mul_assoc, ← EReal.coe_mul, ← EReal.coe_mul, ← Real.rpow_add h2, ← Real.rpow_add h2]
  exact congrArg (fun x : ℝ => v j * (((2 : ℝ) ^ x : ℝ) : EReal)) (by ring)

/-- The power of two of a score over `log 2` is the exponential of the score. -/
theorem two_rpow (x : ℝ) : (2 : ℝ) ^ (x * (Real.log 2)⁻¹) = Real.exp x := by
  rw [Real.rpow_def_of_pos two_pos]
  congr 1
  have : Real.log 2 ≠ 0 := (Real.log_pos one_lt_two).ne'
  field_simp

/-- The softmax of real scores `T` applied to `v`: the sum weighed by exponentials over the sum of the weights. -/
def soft {n : Nat} (T : Fin n → ℝ) (v : Fin n → EReal) : EReal :=
  Ideal.div (∑ k, v k * ((Real.exp (T k) : ℝ) : EReal)) ((∑ k, Real.exp (T k) : ℝ) : EReal)

/-- The stated softmax: every weight less any real `m` in its exponent, divided by their sum, then the sum. -/
theorem soft_eq {n : Nat} (T : Fin (n + 1) → ℝ) (v : Fin (n + 1) → EReal) (m : ℝ) :
    ∑ k, Ideal.div (Ideal.exp ((T k : EReal) - (m : EReal))) (∑ k', Ideal.exp ((T k' : EReal) - (m : EReal))) * v k
      = soft T v := by
  have hW : 0 < ∑ k, Real.exp (T k) := Finset.sum_pos (fun k _ => Real.exp_pos _) Finset.univ_nonempty
  have hm : 0 < Real.exp (-m) := Real.exp_pos _
  have he : ∀ k, Ideal.exp ((T k : EReal) - (m : EReal)) = ((Real.exp (T k) * Real.exp (-m) : ℝ) : EReal) := by
    intro k
    rw [← EReal.coe_sub, Ideal.exp_coe, ← Real.exp_add, sub_eq_add_neg]
  have hZ : ∑ k', Ideal.exp ((T k' : EReal) - (m : EReal))
      = (((∑ k, Real.exp (T k)) * Real.exp (-m) : ℝ) : EReal) := by
    rw [Finset.sum_mul, coe_sum]
    exact Finset.sum_congr rfl fun k _ => he k
  unfold soft
  rw [hZ, Ideal.div_coe hW.ne', sum_mul_pos _ _ (one_div_pos.2 hW)]
  refine Finset.sum_congr rfl fun k _ => ?_
  rw [he, Ideal.div_coe (mul_pos hW hm).ne', mul_comm, mul_assoc, ← EReal.coe_mul, ← EReal.coe_mul]
  congr 2
  field_simp

/-- A sum over the seventeen chunks of 256 is the sum over all 4352. -/
theorem sum_chunks (f : Fin 4352 → EReal) :
    ∑ c : Fin 17, ∑ j : Fin 256, f ⟨256 * c + j, by omega⟩ = ∑ k, f k := by
  rw [← Fintype.sum_prod_type' (f := fun (c : Fin 17) (j : Fin 256) => f ⟨256 * c + j, by omega⟩)]
  exact Fintype.sum_equiv (finProdFinEquiv (m := 17) (n := 256)) _ _
    fun x => congrArg f (Fin.ext (by simp [finProdFinEquiv, add_comm]))

end Cert.Softmax

end
-- ==== Proof.Heads.lean ====
/- One head of the attention body, its scores real and row 64 of its values one, is the softmax of its scores applied to
   the values: the quotient of the sums weighed by powers of two, whatever was subtracted from the scores. -/
module

public import proofs.«01_k».proof.Proof.Read
public import proofs.«01_k».proof.Proof.Softmax

@[expose] public section

set_option maxRecDepth 16384

noncomputable section

namespace Cert.Attention

open Cert.KernelIdeal Cert.KernelIdeal.Gen Idealize.ShloMosaic Cert.Softmax

/-- Seventeen terms added from the left are their sum. -/
theorem chain_add (x : Fin 17 → EReal) : chain (· + ·) x = ∑ c, x c := by
  simp only [Fin.sum_univ_castSucc, Finset.univ_eq_empty, Finset.sum_empty, zero_add]
  rfl

/-- The greatest of seventeen reals is a real. -/
theorem chain_max (x : Fin 17 → EReal) (M : Fin 17 → ℝ) (h : ∀ c, x c = (M c : EReal)) :
    ∃ m : ℝ, chain max x = (m : EReal) := by
  refine ⟨chain max M, ?_⟩
  simp only [chain, h, coe_max]

/-- The peak of a chunk of real scores is a real. -/
theorem peak_real (s : FVec Ideal S256x256 .f32) (r : Fin 256) (S : Fin 256 → ℝ) (hS : ∀ j, s (ix2 j r) = (S j : EReal)) :
    ∃ M : ℝ, peak s (ix2 0 r) = (M : EReal) := by
  rw [peak_apply]
  simp only [hS]
  exact fold_max_real S

/-- Every row of the joined chunks is a sum weighed by powers of two, times one common positive factor. -/
theorem joined_eq (q : FVec Ideal S256x128 .bf16) (K : Fin 17 → Vec Ideal S1x256x128 .bf16)
    (V : Fin 17 → Vec Ideal S1x1x128x256 .bf16) (r : Fin 256) (S : Fin 17 → Fin 256 → ℝ)
    (hS : ∀ c j, scores q (K c) (ix2 j r) = (S c j : EReal)) :
    ∃ m : ℝ, ∀ e : Fin 128, joined q K V (ix2 e r)
      = (∑ c, ∑ j, V c (ix4 0 0 e j) * (((2 : ℝ) ^ S c j : ℝ) : EReal)) * (((2 : ℝ) ^ (-m) : ℝ) : EReal) := by
  choose M hM using fun c => peak_real (scores q (K c)) r (S c) (hS c)
  obtain ⟨m, hm⟩ := chain_max (fun c => peak (scores q (K c)) (ix2 0 r)) M hM
  have hl : level q K (ix2 0 r) = (m : EReal) := hm
  refine ⟨m, fun e => ?_⟩
  have h : joined q K V (ix2 e r)
      = chain (· + ·) fun c => (share (level q K) (scores q (K c)) (V c) (ix2 e r) : EReal) := rfl
  rw [h, chain_add, sum_mul_pos _ _ (Real.rpow_pos_of_pos two_pos _)]
  refine Finset.sum_congr rfl fun c _ => ?_
  rw [share_apply, hl, hM]
  simp only [hS]
  exact share_eq _ _ _ _

/-- One head's output. -/
theorem head_eq (q : FVec Ideal S256x128 .bf16) (K : Fin 17 → Vec Ideal S1x256x128 .bf16)
    (V : Fin 17 → Vec Ideal S1x1x128x256 .bf16) (r : Fin 256) (S : Fin 17 → Fin 256 → ℝ)
    (hS : ∀ c j, scores q (K c) (ix2 j r) = (S c j : EReal)) (h1 : ∀ c j, V c (ix4 0 0 64 j) = (1 : EReal)) (d : Fin 64) :
    head q K V (ix2 d r) = Ideal.div (∑ c, ∑ j, V c (ix4 0 0 ⟨d, by omega⟩ j) * (((2 : ℝ) ^ S c j : ℝ) : EReal))
      ((∑ c, ∑ j, (2 : ℝ) ^ S c j : ℝ) : EReal) := by
  obtain ⟨m, hm⟩ := joined_eq q K V r S hS
  have hW : 0 < ∑ c, ∑ j, (2 : ℝ) ^ S c j :=
    Finset.sum_pos (fun c _ => Finset.sum_pos (fun j _ => Real.rpow_pos_of_pos two_pos _) Finset.univ_nonempty)
      Finset.univ_nonempty
  rw [head_apply, hm, hm]
  simp only [h1, one_mul, ← coe_sum]
  exact div_mul_pos _ hW (Real.rpow_pos_of_pos two_pos _)

/-- One head's output over all 4352 keys: the softmax of the scores `T`, a score of the body being `T` over `log 2`. -/
theorem head_soft (q : FVec Ideal S256x128 .bf16) (K : Fin 17 → Vec Ideal S1x256x128 .bf16)
    (V : Fin 17 → Vec Ideal S1x1x128x256 .bf16) (r : Fin 256) (d : Fin 64) (T : Fin 4352 → ℝ) (v : Fin 4352 → EReal)
    (hS : ∀ (c : Fin 17) (j : Fin 256), scores q (K c) (ix2 j r)
      = ((T ⟨256 * c + j, by omega⟩ * (Real.log 2)⁻¹ : ℝ) : EReal))
    (h1 : ∀ c j, V c (ix4 0 0 64 j) = (1 : EReal))
    (hv : ∀ (c : Fin 17) (j : Fin 256), V c (ix4 0 0 ⟨d, by omega⟩ j) = v ⟨256 * c + j, by omega⟩) :
    head q K V (ix2 d r) = soft T v := by
  rw [head_eq q K V r _ hS h1]
  simp only [hv, two_rpow]
  unfold soft
  simp only [coe_sum]
  rw [← sum_chunks, ← sum_chunks fun k => ((Real.exp (T k) : ℝ) : EReal)]

end Cert.Attention

end
-- ==== Proof.Chunks.lean ====
/- The chunks of keys and values at an index, and the scaled queries. -/
module

public import proofs.«01_k».proof.Proof.Heads

@[expose] public section

set_option maxRecDepth 16384

noncomputable section

namespace Cert.Attention

open Cert.KernelIdeal Cert.KernelIdeal.Gen Idealize.ShloMosaic Cert.Softmax

/-- Key `k` of the context's 256 and then the latents' 4096. -/
def keyAt (c : Vec Ideal S1x256x128 .bf16) (l : Vec Ideal S1x4096x128 .bf16) (k : Fin 4352) (d : Fin 128) : EReal :=
  if h : (k : Nat) < 256 then c (ix3 0 ⟨k, h⟩ d) else l (ix3 0 ⟨k - 256, by omega⟩ d)

/-- Entry `d` of the value of key `k`. -/
def valueAt (c : Vec Ideal S1x1x128x256 .bf16) (l : Vec Ideal S1x1x128x4096 .bf16) (k : Fin 4352) (d : Fin 128) : EReal :=
  if h : (k : Nat) < 256 then c (ix4 0 0 d ⟨k, h⟩) else l (ix4 0 0 d ⟨k - 256, by omega⟩)

/-- The context chunk of keys. -/
theorem ld_key_ctx (c : Vec Ideal S1x256x128 .bf16) (l : Vec Ideal S1x4096x128 .bf16) (j : Fin 256) (d : Fin 128)
    (k : Fin 4352) (hk : (k : Nat) = j) : View.ld c r0_1 (ix3 0 j d) = keyAt c l k d := by
  unfold keyAt
  rw [dif_pos (by omega)]
  simp only [pointwise]
  exact congrArg c (ix3_congr rfl (by simp [hk]) (by simp))

/-- A chunk of latent keys, the one that begins at key `o`. -/
theorem ld_key (c : Vec Ideal S1x256x128 .bf16) (l : Vec Ideal S1x4096x128 .bf16) (o : Nat) (inb) (j : Fin 256)
    (d : Fin 128) (k : Fin 4352) (hk : (k : Nat) = 256 + o + j) :
    View.ld l (Rect.unit (s := S1x4096x128) ![0, o, 0] S1x256x128.size inb) (ix3 0 j d) = keyAt c l k d := by
  unfold keyAt
  rw [dif_neg (by omega)]
  simp only [pointwise]
  exact congrArg l (ix3_congr rfl (by simp [hk]; omega) (by simp))

/-- The context chunk of values. -/
theorem ld_value_ctx (c : Vec Ideal S1x1x128x256 .bf16) (l : Vec Ideal S1x1x128x4096 .bf16) (j : Fin 256) (d : Fin 128)
    (k : Fin 4352) (hk : (k : Nat) = j) : View.ld c r0_18 (ix4 0 0 d j) = valueAt c l k d := by
  unfold valueAt
  rw [dif_pos (by omega)]
  simp only [pointwise]
  exact congrArg c (ix4_congr rfl rfl (by simp) (by simp [hk]))

/-- A chunk of latent values, the one that begins at key `o`. -/
theorem ld_value (c : Vec Ideal S1x1x128x256 .bf16) (l : Vec Ideal S1x1x128x4096 .bf16) (o : Nat) (inb) (j : Fin 256)
    (d : Fin 128) (k : Fin 4352) (hk : (k : Nat) = 256 + o + j) :
    View.ld l (Rect.unit (s := S1x1x128x4096) ![0, 0, 0, o] S1x1x128x256.size inb) (ix4 0 0 d j) = valueAt c l k d := by
  unfold valueAt
  rw [dif_neg (by omega)]
  simp only [pointwise]
  exact congrArg l (ix4_congr rfl rfl (by simp) (by simp [hk]; omega))

/-- The seventeen chunks of keys hold the keys in order. -/
theorem keyChunks_apply (c : Vec Ideal S1x256x128 .bf16) (l : Vec Ideal S1x4096x128 .bf16) (i : Fin 17) (j : Fin 256)
    (d : Fin 128) : keyChunks c l i (ix3 0 j d) = keyAt c l ⟨256 * i + j, by omega⟩ d := by
  rcases i with ⟨i, hi⟩
  interval_cases i
  · exact ld_key_ctx c l j d _ (by simp)
  all_goals exact ld_key c l _ _ j d _ (by simp)

/-- The seventeen chunks of values hold the values in order. -/
theorem valueChunks_apply (c : Vec Ideal S1x1x128x256 .bf16) (l : Vec Ideal S1x1x128x4096 .bf16) (i : Fin 17)
    (j : Fin 256) (d : Fin 128) : valueChunks c l i (ix4 0 0 d j) = valueAt c l ⟨256 * i + j, by omega⟩ d := by
  rcases i with ⟨i, hi⟩
  interval_cases i
  · exact ld_value_ctx c l j d _ (by simp)
  all_goals exact ld_value c l _ _ j d _ (by simp)

/-- A scaled query. -/
theorem query (x : Vec Ideal S1x256x512 .f32) (r : Fin 256) (d : Fin 512) :
    k0_pay2 (View.ld x r0_0) (ix2 r d) = x (ix3 0 r d) * (((1 / 8) * (Real.log 2)⁻¹ : ℝ) : EReal) := by
  unfold k0_pay2
  simp only [pointwise]
  exact congrArg₂ _ (congrArg x (ix3_congr rfl (by simp) (by simp))) rfl

end Cert.Attention

end
-- ==== Proof.Blocks.lean ====
/- The blocks of the grid points: what each window of the point of batch `b` and query tile `i` reads. -/
module

public import proofs.«01_k».proof.Proof.Chunks
public import Idealize.ShloMosaic.Lib.Pipeline.ValueKit

@[expose] public section

set_option maxRecDepth 16384

noncomputable section

namespace Cert.Attention

open Cert.KernelIdeal Cert.KernelIdeal.Gen Idealize.ShloMosaic Idealize.ShloMosaic.TcCoe Cert.Softmax

/-- The grid point of batch `b` and query tile `i`. -/
def pt (b : Fin 8) (i : Fin 16) : Fin cfg0.N := ⟨16 * b + i, by have : cfg0.N = 128 := rfl; omega⟩

theorem at_queries : ∀ (b : Fin 8) (i : Fin 16), win0_0.index (pt b i) = ![(b : Nat), i, 0] := by decide +kernel
theorem at_1 : ∀ (b : Fin 8) (i : Fin 16), win0_1.index (pt b i) = ![(b : Nat), 0, 0] := by decide +kernel
theorem at_2 : ∀ (b : Fin 8) (i : Fin 16), win0_2.index (pt b i) = ![(b : Nat), 0, 0] := by decide +kernel
theorem at_3 : ∀ (b : Fin 8) (i : Fin 16), win0_3.index (pt b i) = ![(b : Nat), 0, 1] := by decide +kernel
theorem at_4 : ∀ (b : Fin 8) (i : Fin 16), win0_4.index (pt b i) = ![(b : Nat), 0, 1] := by decide +kernel
theorem at_5 : ∀ (b : Fin 8) (i : Fin 16), win0_5.index (pt b i) = ![(b : Nat), 0, 0, 0] := by decide +kernel
theorem at_6 : ∀ (b : Fin 8) (i : Fin 16), win0_6.index (pt b i) = ![(b : Nat), 0, 0, 0] := by decide +kernel
theorem at_7 : ∀ (b : Fin 8) (i : Fin 16), win0_7.index (pt b i) = ![(b : Nat), 1, 0, 0] := by decide +kernel
theorem at_8 : ∀ (b : Fin 8) (i : Fin 16), win0_8.index (pt b i) = ![(b : Nat), 1, 0, 0] := by decide +kernel
theorem at_9 : ∀ (b : Fin 8) (i : Fin 16), win0_9.index (pt b i) = ![(b : Nat), 0, 0] := by decide +kernel
theorem at_10 : ∀ (b : Fin 8) (i : Fin 16), win0_10.index (pt b i) = ![(b : Nat), 0, 0] := by decide +kernel
theorem at_11 : ∀ (b : Fin 8) (i : Fin 16), win0_11.index (pt b i) = ![(b : Nat), 0, 1] := by decide +kernel
theorem at_12 : ∀ (b : Fin 8) (i : Fin 16), win0_12.index (pt b i) = ![(b : Nat), 0, 1] := by decide +kernel
theorem at_13 : ∀ (b : Fin 8) (i : Fin 16), win0_13.index (pt b i) = ![(b : Nat), 0, 0, 0] := by decide +kernel
theorem at_14 : ∀ (b : Fin 8) (i : Fin 16), win0_14.index (pt b i) = ![(b : Nat), 0, 0, 0] := by decide +kernel
theorem at_15 : ∀ (b : Fin 8) (i : Fin 16), win0_15.index (pt b i) = ![(b : Nat), 1, 0, 0] := by decide +kernel
theorem at_16 : ∀ (b : Fin 8) (i : Fin 16), win0_16.index (pt b i) = ![(b : Nat), 1, 0, 0] := by decide +kernel
theorem at_result : ∀ (b : Fin 8) (i : Fin 16), win0_17.index (pt b i) = ![(b : Nat), i, 0] := by decide +kernel

variable (b : Fin 8) (i : Fin 16)

theorem queries_blk (A : Vec Ideal S8x4096x512 .f32) (r : Fin 256) (l : Fin 512) :
    ((cfg0.win 0).blk (pt b i)).view.read (Elt Ideal) A (ix3 0 r l) = A (ix3 b ⟨256 * i + r, by omega⟩ l) := by
  blk_ext [at_queries]

theorem blk_1 (A : Vec Ideal S8x256x256 .bf16) (j : Fin 256) (d : Fin 128) :
    ((cfg0.win 1).blk (pt b i)).view.read (Elt Ideal) A (ix3 0 j d) = A (ix3 b j ⟨0 + d, by omega⟩) := by
  blk_ext [at_1]

theorem blk_2 (A : Vec Ideal S8x256x256 .bf16) (j : Fin 256) (d : Fin 128) :
    ((cfg0.win 2).blk (pt b i)).view.read (Elt Ideal) A (ix3 0 j d) = A (ix3 b j ⟨0 + d, by omega⟩) := by
  blk_ext [at_2]

theorem blk_3 (A : Vec Ideal S8x256x256 .bf16) (j : Fin 256) (d : Fin 128) :
    ((cfg0.win 3).blk (pt b i)).view.read (Elt Ideal) A (ix3 0 j d) = A (ix3 b j ⟨128 + d, by omega⟩) := by
  blk_ext [at_3]

theorem blk_4 (A : Vec Ideal S8x256x256 .bf16) (j : Fin 256) (d : Fin 128) :
    ((cfg0.win 4).blk (pt b i)).view.read (Elt Ideal) A (ix3 0 j d) = A (ix3 b j ⟨128 + d, by omega⟩) := by
  blk_ext [at_4]

theorem blk_5 (A : Vec Ideal S8x2x128x256 .bf16) (d : Fin 128) (j : Fin 256) :
    ((cfg0.win 5).blk (pt b i)).view.read (Elt Ideal) A (ix4 0 0 d j) = A (ix4 b 0 d j) := by
  blk_ext [at_5]

theorem blk_6 (A : Vec Ideal S8x2x128x256 .bf16) (d : Fin 128) (j : Fin 256) :
    ((cfg0.win 6).blk (pt b i)).view.read (Elt Ideal) A (ix4 0 0 d j) = A (ix4 b 0 d j) := by
  blk_ext [at_6]

theorem blk_7 (A : Vec Ideal S8x2x128x256 .bf16) (d : Fin 128) (j : Fin 256) :
    ((cfg0.win 7).blk (pt b i)).view.read (Elt Ideal) A (ix4 0 0 d j) = A (ix4 b 1 d j) := by
  blk_ext [at_7]

theorem blk_8 (A : Vec Ideal S8x2x128x256 .bf16) (d : Fin 128) (j : Fin 256) :
    ((cfg0.win 8).blk (pt b i)).view.read (Elt Ideal) A (ix4 0 0 d j) = A (ix4 b 1 d j) := by
  blk_ext [at_8]

theorem blk_9 (A : Vec Ideal S8x4096x256 .bf16) (j : Fin 4096) (d : Fin 128) :
    ((cfg0.win 9).blk (pt b i)).view.read (Elt Ideal) A (ix3 0 j d) = A (ix3 b j ⟨0 + d, by omega⟩) := by
  blk_ext [at_9]

theorem blk_10 (A : Vec Ideal S8x4096x256 .bf16) (j : Fin 4096) (d : Fin 128) :
    ((cfg0.win 10).blk (pt b i)).view.read (Elt Ideal) A (ix3 0 j d) = A (ix3 b j ⟨0 + d, by omega⟩) := by
  blk_ext [at_10]

theorem blk_11 (A : Vec Ideal S8x4096x256 .bf16) (j : Fin 4096) (d : Fin 128) :
    ((cfg0.win 11).blk (pt b i)).view.read (Elt Ideal) A (ix3 0 j d) = A (ix3 b j ⟨128 + d, by omega⟩) := by
  blk_ext [at_11]

theorem blk_12 (A : Vec Ideal S8x4096x256 .bf16) (j : Fin 4096) (d : Fin 128) :
    ((cfg0.win 12).blk (pt b i)).view.read (Elt Ideal) A (ix3 0 j d) = A (ix3 b j ⟨128 + d, by omega⟩) := by
  blk_ext [at_12]

theorem blk_13 (A : Vec Ideal S8x2x128x4096 .bf16) (d : Fin 128) (j : Fin 4096) :
    ((cfg0.win 13).blk (pt b i)).view.read (Elt Ideal) A (ix4 0 0 d j) = A (ix4 b 0 d j) := by
  blk_ext [at_13]

theorem blk_14 (A : Vec Ideal S8x2x128x4096 .bf16) (d : Fin 128) (j : Fin 4096) :
    ((cfg0.win 14).blk (pt b i)).view.read (Elt Ideal) A (ix4 0 0 d j) = A (ix4 b 0 d j) := by
  blk_ext [at_14]

theorem blk_15 (A : Vec Ideal S8x2x128x4096 .bf16) (d : Fin 128) (j : Fin 4096) :
    ((cfg0.win 15).blk (pt b i)).view.read (Elt Ideal) A (ix4 0 0 d j) = A (ix4 b 1 d j) := by
  blk_ext [at_15]

theorem blk_16 (A : Vec Ideal S8x2x128x4096 .bf16) (d : Fin 128) (j : Fin 4096) :
    ((cfg0.win 16).blk (pt b i)).view.read (Elt Ideal) A (ix4 0 0 d j) = A (ix4 b 1 d j) := by
  blk_ext [at_16]

theorem result_emb (r : Fin 256) (col : Fin 256) :
    ((cfg0.win 17).blk (pt b i)).view.emb (ix3 0 r col) = ix3 b ⟨256 * i + r, by omega⟩ col := by
  blk_ext [at_result]

end Cert.Attention

end
-- ==== Proof.Point.lean ====
/- What the body leaves at one grid point, from the arrays that the windows cut: the softmax of the point's scores. -/
module

public import proofs.«01_k».proof.Proof.Blocks

@[expose] public section

set_option maxRecDepth 16384

noncomputable section

namespace Cert.Attention

open Cert.KernelIdeal Cert.KernelIdeal.Gen Idealize.ShloMosaic Cert.Softmax

/-- Lane `x` of key `k` of batch `b`: the context's keys, then the latents'. -/
def keyAll (KC : Vec Ideal S8x256x256 .bf16) (KL : Vec Ideal S8x4096x256 .bf16) (b : Fin 8) (k : Fin 4352) (x : Fin 256) :
    EReal :=
  if h : (k : Nat) < 256 then KC (ix3 b ⟨k, h⟩ x) else KL (ix3 b ⟨k - 256, by omega⟩ x)

/-- Row `e` of the value of key `k` of batch `b`, key head `g`. -/
def valueAll (VC : Vec Ideal S8x2x128x256 .bf16) (VL : Vec Ideal S8x2x128x4096 .bf16) (b : Fin 8) (g : Fin 2) (e : Fin 128)
    (k : Fin 4352) : EReal :=
  if h : (k : Nat) < 256 then VC (ix4 b g e ⟨k, h⟩) else VL (ix4 b g e ⟨k - 256, by omega⟩)

/-- The key head of a query head: two query heads share one. -/
def group (h : Fin 4) : Fin 2 := ⟨h / 2, by omega⟩

variable (Q : Vec Ideal S8x4096x512 .f32) (KC : Vec Ideal S8x256x256 .bf16) (VC : Vec Ideal S8x2x128x256 .bf16)
  (KL : Vec Ideal S8x4096x256 .bf16) (VL : Vec Ideal S8x2x128x4096 .bf16) (b : Fin 8) (i : Fin 16)

/-- The chunks of keys of the four heads at the point. -/
def keys : Fin 4 → Fin 17 → Vec Ideal S1x256x128 .bf16 :=
  ![keyChunks (((cfg0.win 1).blk (pt b i)).view.read (Elt Ideal) KC) (((cfg0.win 9).blk (pt b i)).view.read (Elt Ideal) KL),
    keyChunks (((cfg0.win 2).blk (pt b i)).view.read (Elt Ideal) KC) (((cfg0.win 10).blk (pt b i)).view.read (Elt Ideal) KL),
    keyChunks (((cfg0.win 3).blk (pt b i)).view.read (Elt Ideal) KC) (((cfg0.win 11).blk (pt b i)).view.read (Elt Ideal) KL),
    keyChunks (((cfg0.win 4).blk (pt b i)).view.read (Elt Ideal) KC) (((cfg0.win 12).blk (pt b i)).view.read (Elt Ideal) KL)]

/-- The chunks of values of the four heads at the point. -/
def values : Fin 4 → Fin 17 → Vec Ideal S1x1x128x256 .bf16 :=
  ![valueChunks (((cfg0.win 5).blk (pt b i)).view.read (Elt Ideal) VC) (((cfg0.win 13).blk (pt b i)).view.read (Elt Ideal) VL),
    valueChunks (((cfg0.win 6).blk (pt b i)).view.read (Elt Ideal) VC) (((cfg0.win 14).blk (pt b i)).view.read (Elt Ideal) VL),
    valueChunks (((cfg0.win 7).blk (pt b i)).view.read (Elt Ideal) VC) (((cfg0.win 15).blk (pt b i)).view.read (Elt Ideal) VL),
    valueChunks (((cfg0.win 8).blk (pt b i)).view.read (Elt Ideal) VC) (((cfg0.win 16).blk (pt b i)).view.read (Elt Ideal) VL)]

theorem keys_apply (h : Fin 4) (n : Fin 17) (j : Fin 256) (d : Fin 128) :
    keys KC KL b i h n (ix3 0 j d)
      = keyAll KC KL b ⟨256 * n + j, by omega⟩ ⟨128 * (group h : Nat) + d, by omega⟩ := by
  rcases (by decide : ∀ h : Fin 4, h = 0 ∨ h = 1 ∨ h = 2 ∨ h = 3) h with rfl | rfl | rfl | rfl
  · refine (keyChunks_apply _ _ n j d).trans ?_
    unfold keyAt keyAll
    split
    · exact blk_1 b i KC _ d
    · exact blk_9 b i KL _ d
  · refine (keyChunks_apply _ _ n j d).trans ?_
    unfold keyAt keyAll
    split
    · exact blk_2 b i KC _ d
    · exact blk_10 b i KL _ d
  · refine (keyChunks_apply _ _ n j d).trans ?_
    unfold keyAt keyAll
    split
    · exact blk_3 b i KC _ d
    · exact blk_11 b i KL _ d
  · refine (keyChunks_apply _ _ n j d).trans ?_
    unfold keyAt keyAll
    split
    · exact blk_4 b i KC _ d
    · exact blk_12 b i KL _ d

theorem values_apply (h : Fin 4) (n : Fin 17) (j : Fin 256) (e : Fin 128) :
    values VC VL b i h n (ix4 0 0 e j) = valueAll VC VL b (group h) e ⟨256 * n + j, by omega⟩ := by
  rcases (by decide : ∀ h : Fin 4, h = 0 ∨ h = 1 ∨ h = 2 ∨ h = 3) h with rfl | rfl | rfl | rfl
  · refine (valueChunks_apply _ _ n j e).trans ?_
    unfold valueAt valueAll
    split
    · exact blk_5 b i VC e _
    · exact blk_13 b i VL e _
  · refine (valueChunks_apply _ _ n j e).trans ?_
    unfold valueAt valueAll
    split
    · exact blk_6 b i VC e _
    · exact blk_14 b i VL e _
  · refine (valueChunks_apply _ _ n j e).trans ?_
    unfold valueAt valueAll
    split
    · exact blk_7 b i VC e _
    · exact blk_15 b i VL e _
  · refine (valueChunks_apply _ _ n j e).trans ?_
    unfold valueAt valueAll
    split
    · exact blk_8 b i VC e _
    · exact blk_16 b i VL e _

/-- What the body leaves at the point's row `r`, head `h`, entry `d`. -/
theorem point_eq (r : Fin 256) (h : Fin 4) (d : Fin 64) (T : Fin 4352 → ℝ) (v : Fin 4352 → EReal)
    (hT : ∀ k, ∑ l : Fin 128, (keyAll KC KL b k ⟨128 * (group h : Nat) + l, by omega⟩
        * (Q (ix3 b ⟨256 * i + r, by omega⟩ ⟨128 * h + l, by omega⟩) * (((1 / 8) * (Real.log 2)⁻¹ : ℝ) : EReal)) : EReal)
      = ((T k * (Real.log 2)⁻¹ : ℝ) : EReal))
    (h1 : ∀ k, valueAll VC VL b (group h) 64 k = 1)
    (hv : ∀ k, valueAll VC VL b (group h) ⟨d, by omega⟩ k = v k) :
    attn (k0_pay2 (View.ld (((cfg0.win 0).blk (pt b i)).view.read (Elt Ideal) Q) r0_0)) (keys KC KL b i) (values VC VL b i)
      (ix3 0 r ⟨64 * h + d, by omega⟩) = soft T v := by
  rw [attn_apply]
  refine head_soft _ _ _ r d T v (fun n j => ?_) (fun n j => ?_) fun n j => ?_
  · rw [scores_apply, ← hT]
    refine Finset.sum_congr rfl fun l _ => ?_
    rw [keys_apply]
    refine congrArg _ ((query _ r _).trans ?_)
    exact congrArg (· * _) (queries_blk b i Q r _)
  · rw [values_apply, h1]
  · rw [values_apply, hv]

end Cert.Attention

end
-- ==== Proof.Run.lean ====
/-
  The run of the kernel: each grid point writes its own block of the result, so an entry of the result is the
  attention of the blocks that point has read.
-/
module

public import proofs.«01_k».proof.Proof.Gen.KernelIdeal.Frame
public import proofs.«01_k».proof.Proof.Body
public import proofs.«01_k».proof.Proof.Point
public import Idealize.ShloMosaic.Lib.Pipeline.Value

@[expose] public section

set_option maxRecDepth 16384

noncomputable section

namespace Cert.Attention

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- Two grid points write different blocks of the result. -/
theorem result_index : ∀ t t' : Fin cfg0.N, win0_17.index t = win0_17.index t' → t = t' :=
  (by decide +kernel : ∀ t t' : Fin grid0.N, win0_17.index t = win0_17.index t' → t = t')

/-- Every grid point writes its block back. -/
theorem result_flush : ∀ t : Fin cfg0.N, (cfg0.win 17).flush t = true :=
  (by decide +kernel : ∀ t : Fin grid0.N, win0_17.flush t = true)

/-- A block of the result after the run is what its grid point has written back. -/
theorem result_block (t : Fin cfg0.N) :
    ((cfg0.win 17).blk t).view.read (Elt Ideal) ((dats m 0 c).arrAt 17 cfg0.N) = (dats m 0 c).flushed 17 t :=
  (dats m 0 c).read_blk_arrAt_eq_flushed 17
    (fun t t' _ _ hne => (cfg0.win 17).disjoint_blk fun h => hne (result_index t t' h)) cfg0.N t t.isLt (result_flush t)

/-- A block is written back whole. -/
theorem result_cut (t : Fin cfg0.N) (X : Vec Ideal S1x256x256 .f32) (r col : Fin 256) :
    (cfg0.win 17).cut (grid0.coords t) X (ix3 0 r col) = X (ix3 0 r col) :=
  congrArg X (funext fun a => by fin_cases a <;> rfl)

/-- A block of an array of the result's shape. -/
theorem result_read (b : Fin 8) (i : Fin 16) (A : Vec Ideal S8x4096x256 .f32) (r col : Fin 256) :
    ((cfg0.win 17).blk (pt b i)).view.read (Elt Ideal) A (ix3 0 r col) = A (ix3 b ⟨256 * i + r, by omega⟩ col) :=
  congrArg A (result_emb b i r col)

/-- What a grid point writes back. -/
theorem result_flushed (b : Fin 8) (i : Fin 16) (r col : Fin 256) :
    (dats m 0 c).flushed 17 (pt b i) (ix3 0 r col)
      = attn (k0_pay2 (View.ld (((cfg0.win 0).blk (pt b i)).view.read (Elt Ideal) (V m c main_v3)) r0_0))
          (keys (V m c main_v7) (V m c main_v16) b i) (values (V m c main_v12) (V m c main_v21) b i) (ix3 0 r col) := by
  have h : (dats m 0 c).flushed 17 (pt b i) = (cfg0.win 17).cut (grid0.coords (pt b i)) ((dats m 0 c).after 17 (pt b i)) := rfl
  rw [h, after0_17, out_eq, View.canon_unit_zero (by decide)]
  exact result_cut _ _ _ _

/-- The result after the run, entry by entry. -/
theorem result_at (b : Fin 8) (i : Fin 16) (r col : Fin 256) :
    (dats m 0 c).arrAt 17 cfg0.N (ix3 b ⟨256 * i + r, by omega⟩ col)
      = attn (k0_pay2 (View.ld (((cfg0.win 0).blk (pt b i)).view.read (Elt Ideal) (V m c main_v3)) r0_0))
          (keys (V m c main_v7) (V m c main_v16) b i) (values (V m c main_v12) (V m c main_v21) b i) (ix3 0 r col) :=
  ((result_read b i ((dats m 0 c).arrAt 17 cfg0.N) r col).symm.trans
    (congrFun (result_block m c (pt b i)) (ix3 0 r col))).trans (result_flushed m c b i r col)

/-- A buffer no window writes is left as launched by the region. -/
theorem arg_kept (r : PUnit × MemSt nD τ sig (Elt Ideal)) (h : Pipeline.FramePost cfgs (dats m) 0 (V m) r) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The run: the result is the array the grid has written, and the arguments are as launched. -/
theorem run_result : θ_run defs (onTc (τ := τ) (main (F := Ideal))) ⟨m, fun _ => 0, ρ⟩ fun r => ∀ c : Dev nD,
      r.2.mem ((c : Thread nD τ).loc main_v22) = (dats m 0 c).arrAt 17 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 17, arg_kept m c r h⟩) (run_main m ρ)

end Cert.Attention

end
-- ==== Proof.Host.lean ====
/- The host's layout of queries, keys and values, at an index. -/
module

public import proofs.«01_k».proof.Proof.Read
public import Idealize.ShloMosaic.Lib.StableHlo.ReadAt

@[expose] public section

set_option maxRecDepth 16384

noncomputable section

namespace Cert.Attention

open Cert.KernelIdeal Cert.KernelIdeal.Gen Idealize.ShloMosaic Idealize.ShloMosaic.TcCoe

/-- The queries, one head per 128 lanes, zeros past the head's 64. -/
def layQ (x : Vec Ideal S8x4096x2x2x64 .f32) : Vec Ideal S8x4096x512 .f32 :=
  shapeCast S8x4096x512 (concatenate S8x4096x4x128 3
    [⟨S8x4096x4x64, shapeCast S8x4096x4x64 x shapeCasts_S8x4096x2x2x64_S8x4096x4x64⟩,
     ⟨S8x4096x4x64, broadcastInDim S8x4096x4x64 ![] bcast_S_S8x4096x4x64 (constant (F := Ideal) S_ .f32 0x00000000#32)⟩]
    concatenates_S8x4096x4x64_S8x4096x4x64_S8x4096x4x128_d3) shapeCasts_S8x4096x4x128_S8x4096x512

/-- The context's keys in the same layout. -/
def layKC (x : FVec Ideal S8x256x2x64 .f32) : FVec Ideal S8x256x256 .bf16 :=
  truncf .bf16 (shapeCast S8x256x256 (concatenate S8x256x2x128 3
    [⟨S8x256x2x64, x⟩,
     ⟨S8x256x2x64, broadcastInDim S8x256x2x64 ![] bcast_S_S8x256x2x64 (constant (F := Ideal) S_ .f32 0x00000000#32)⟩]
    concatenates_S8x256x2x64_S8x256x2x64_S8x256x2x128_d3) shapeCasts_S8x256x2x128_S8x256x256 : FVec Ideal S8x256x256 .f32)
    bitsLt_bf16_f32

/-- The latents' keys in the same layout. -/
def layKL (x : FVec Ideal S8x4096x2x64 .f32) : FVec Ideal S8x4096x256 .bf16 :=
  truncf .bf16 (shapeCast S8x4096x256 (concatenate S8x4096x2x128 3
    [⟨S8x4096x2x64, x⟩,
     ⟨S8x4096x2x64, broadcastInDim S8x4096x2x64 ![] bcast_S_S8x4096x2x64 (constant (F := Ideal) S_ .f32 0x00000000#32)⟩]
    concatenates_S8x4096x2x64_S8x4096x2x64_S8x4096x2x128_d3) shapeCasts_S8x4096x2x128_S8x4096x256 : FVec Ideal S8x4096x256 .f32)
    bitsLt_bf16_f32

/-- The context's values, keys along the lanes, with a row of ones and rows of zeros. -/
def layVC (x : FVec Ideal S8x256x2x64 .f32) : FVec Ideal S8x2x128x256 .bf16 :=
  truncf .bf16 (concatenate S8x2x128x256 2
    [⟨S8x2x64x256, transpose S8x2x64x256 [0, 2, 3, 1] x transposes_S8x256x2x64_S8x2x64x256_0_2_3_1⟩,
     ⟨S8x2x1x256, broadcastInDim S8x2x1x256 ![] bcast_S_S8x2x1x256 (constant (F := Ideal) S_ .f32 0x3F800000#32)⟩,
     ⟨S8x2x63x256, broadcastInDim S8x2x63x256 ![] bcast_S_S8x2x63x256 (constant (F := Ideal) S_ .f32 0x00000000#32)⟩]
    concatenates_S8x2x64x256_S8x2x1x256_S8x2x63x256_S8x2x128x256_d2 : FVec Ideal S8x2x128x256 .f32) bitsLt_bf16_f32

/-- The latents' values in the same layout. -/
def layVL (x : FVec Ideal S8x4096x2x64 .f32) : FVec Ideal S8x2x128x4096 .bf16 :=
  truncf .bf16 (concatenate S8x2x128x4096 2
    [⟨S8x2x64x4096, transpose S8x2x64x4096 [0, 2, 3, 1] x transposes_S8x4096x2x64_S8x2x64x4096_0_2_3_1⟩,
     ⟨S8x2x1x4096, broadcastInDim S8x2x1x4096 ![] bcast_S_S8x2x1x4096 (constant (F := Ideal) S_ .f32 0x3F800000#32)⟩,
     ⟨S8x2x63x4096, broadcastInDim S8x2x63x4096 ![] bcast_S_S8x2x63x4096 (constant (F := Ideal) S_ .f32 0x00000000#32)⟩]
    concatenates_S8x2x64x4096_S8x2x1x4096_S8x2x63x4096_S8x2x128x4096_d2 : FVec Ideal S8x2x128x4096 .f32) bitsLt_bf16_f32

variable (m : (ℓ : Loc nD τ sig) → Buf (Elt Ideal) ℓ) (c : Dev nD)

theorem V_q : V m c main_v3 = layQ (m ((c : Thread nD τ).loc main_arg0)) := by
  unfold V
  after_results_simp
  rfl

theorem V_kc : V m c main_v7 = layKC (m ((c : Thread nD τ).loc main_arg1)) := by
  unfold V
  after_results_simp
  rfl

theorem V_vc : V m c main_v12 = layVC (m ((c : Thread nD τ).loc main_arg2)) := by
  unfold V
  after_results_simp
  rfl

theorem V_kl : V m c main_v16 = layKL (m ((c : Thread nD τ).loc main_arg3)) := by
  unfold V
  after_results_simp
  rfl

theorem V_vl : V m c main_v21 = layVL (m ((c : Thread nD τ).loc main_arg4)) := by
  unfold V
  after_results_simp
  rfl

theorem bits_zero : Ideal.ofBits .f32 0x00000000#32 = 0 := by simp [Ideal.ofBits, Ideal.ieee]

theorem bits_one : Ideal.ofBits .f32 0x3F800000#32 = 1 := by
  simp [Ideal.ofBits, Ideal.ieee, -EReal.coe_mul]
  norm_num

/-- The queries laid out, at an index. -/
theorem layQ_apply (x : Vec Ideal S8x4096x2x2x64 .f32) (b : Fin 8) (q : Fin 4096) (h : Fin 4) (l : Fin 128) (y : Fin 512)
    (hy : (y : Nat) = 128 * h + l) :
    layQ x (ix3 b q y)
      = if hl : (l : Nat) < 64 then x (ix5 b q ⟨h / 2, by omega⟩ ⟨h % 2, by omega⟩ ⟨l, hl⟩) else (0 : EReal) := by
  unfold layQ
  simp only [pointwise]
  have e : (y : Nat) % 128 = l := by omega
  have e2 : (y : Nat) / 128 = h := by omega
  simp only [e, e2]

/-- The context's keys laid out, at an index. -/
theorem layKC_apply (x : FVec Ideal S8x256x2x64 .f32) (b : Fin 8) (k : Fin 256) (g : Fin 2) (l : Fin 128) (y : Fin 256)
    (hy : (y : Nat) = 128 * g + l) :
    layKC x (ix3 b k y) = if hl : (l : Nat) < 64 then x (ix4 b k g ⟨l, hl⟩) else (0 : EReal) := by
  unfold layKC
  simp only [pointwise]
  have e : (y : Nat) % 128 = l := by omega
  have e2 : (y : Nat) / 128 = g := by omega
  simp only [e, e2, Fin.eta]

/-- The latents' keys laid out, at an index. -/
theorem layKL_apply (x : FVec Ideal S8x4096x2x64 .f32) (b : Fin 8) (k : Fin 4096) (g : Fin 2) (l : Fin 128) (y : Fin 256)
    (hy : (y : Nat) = 128 * g + l) :
    layKL x (ix3 b k y) = if hl : (l : Nat) < 64 then x (ix4 b k g ⟨l, hl⟩) else (0 : EReal) := by
  unfold layKL
  simp only [pointwise]
  have e : (y : Nat) % 128 = l := by omega
  have e2 : (y : Nat) / 128 = g := by omega
  simp only [e, e2, Fin.eta]

/-- Row 64 of the context's values laid out is one. -/
theorem layVC_one (x : FVec Ideal S8x256x2x64 .f32) (b : Fin 8) (k : Fin 256) (g : Fin 2) (e : Fin 128)
    (he : (e : Nat) = 64) : layVC x (ix4 b g e k) = 1 := by
  unfold layVC
  simp only [pointwise]
  rw [dif_neg (by simp [he]), dif_pos (by simp [he])]

/-- Rows 0 to 63 of the context's values laid out. -/
theorem layVC_apply (x : FVec Ideal S8x256x2x64 .f32) (b : Fin 8) (k : Fin 256) (g : Fin 2) (d : Fin 64) (e : Fin 128)
    (he : (e : Nat) = d) : layVC x (ix4 b g e k) = x (ix4 b k g d) := by
  unfold layVC
  simp only [pointwise]
  rw [dif_pos (by simp [he])]
  exact congrArg x (ix4_congr (by simp) (by simp) (by simp) (by simp [he]))

/-- Row 64 of the latents' values laid out is one. -/
theorem layVL_one (x : FVec Ideal S8x4096x2x64 .f32) (b : Fin 8) (k : Fin 4096) (g : Fin 2) (e : Fin 128)
    (he : (e : Nat) = 64) : layVL x (ix4 b g e k) = 1 := by
  unfold layVL
  simp only [pointwise]
  rw [dif_neg (by simp [he]), dif_pos (by simp [he])]

/-- Rows 0 to 63 of the latents' values laid out. -/
theorem layVL_apply (x : FVec Ideal S8x4096x2x64 .f32) (b : Fin 8) (k : Fin 4096) (g : Fin 2) (d : Fin 64) (e : Fin 128)
    (he : (e : Nat) = d) : layVL x (ix4 b g e k) = x (ix4 b k g d) := by
  unfold layVL
  simp only [pointwise]
  rw [dif_pos (by simp [he])]
  exact congrArg x (ix4_congr (by simp) (by simp) (by simp) (by simp [he]))

end Cert.Attention

end
-- ==== Proof.Reference.lean ====
/- The reference at an index: the softmax of its real scores applied to the values. -/
module

public import proofs.«01_k».proof.Proof.Gen.ReferenceIdeal.Read
public import proofs.«01_k».proof.Proof.Softmax
public import Idealize.ShloMosaic.Lib.Pointwise

@[expose] public section

set_option maxRecDepth 16384

noncomputable section

namespace Cert.Reference

open Cert.ReferenceIdeal Cert.ReferenceIdeal.Gen Cert.ReferenceIdeal.Read Idealize.ShloMosaic Cert.Softmax

/-- Entry `l` of key or value `k` of batch `b` and key head `g`: the context's, then the latents'. -/
def joint (c : Vec Ideal S8x256x2x64 .f32) (x : Vec Ideal S8x4096x2x64 .f32) (b : Fin 8) (k : Fin 4352) (g : Fin 2)
    (l : Fin 64) : EReal :=
  if h : (k : Nat) < 256 then c (ix4 b ⟨k, h⟩ g l) else x (ix4 b ⟨k - 256, by omega⟩ g l)

/-- Two indices of rank 4 with the same coordinates. -/
theorem ix4_congr {n₀ n₁ n₂ n₃ : Nat} {i i' : Fin n₀} {j j' : Fin n₁} {k k' : Fin n₂} {l l' : Fin n₃}
    (hi : (i : Nat) = i') (hj : (j : Nat) = j') (hk : (k : Nat) = k') (hl : (l : Nat) = l') :
    ix4 i j k l = ix4 i' j' k' l' := by
  rw [Fin.ext hi, Fin.ext hj, Fin.ext hk, Fin.ext hl]

/-- Two indices of rank 5 with the same coordinates. -/
theorem ix5_congr {n₀ n₁ n₂ n₃ n₄ : Nat} {i i' : Fin n₀} {j j' : Fin n₁} {k k' : Fin n₂} {l l' : Fin n₃} {o o' : Fin n₄}
    (hi : (i : Nat) = i') (hj : (j : Nat) = j') (hk : (k : Nat) = k') (hl : (l : Nat) = l') (ho : (o : Nat) = o') :
    ix5 i j k l o = ix5 i' j' k' l' o' := by
  rw [Fin.ext hi, Fin.ext hj, Fin.ext hk, Fin.ext hl, Fin.ext ho]

variable (x0 : Vec Ideal S8x4096x2x2x64 .f32) (x1 x2 : Vec Ideal S8x256x2x64 .f32) (x3 x4 : Vec Ideal S8x4096x2x64 .f32)
  (b : Fin 8) (q : Fin 4096) (g e : Fin 2)

/-- The joined keys at an index. -/
theorem v0_apply (k : Fin 4352) (l : Fin 64) : val_main_v0 (F := Ideal) x1 x3 (ix4 b k g l) = joint x1 x3 b k g l := by
  unfold val_main_v0 joint
  simp only [pointwise]
  split
  · rfl
  · exact congrArg x3 (ix4_congr (by simp) (by simp) (by simp) (by simp))

/-- The joined values at an index. -/
theorem v1_apply (k : Fin 4352) (l : Fin 64) : val_main_v1 (F := Ideal) x2 x4 (ix4 b k g l) = joint x2 x4 b k g l :=
  v0_apply x2 x4 b g k l

theorem bits_eighth : Ideal.ofBits .f32 0x3E000000#32 = ((1 / 8 : ℝ) : EReal) := by
  simp [Ideal.ofBits, Ideal.ieee, -EReal.coe_mul]
  norm_num

theorem bits_bot : Ideal.ofBits .f32 0xFF800000#32 = ⊥ := by simp [Ideal.ofBits, Ideal.ieee]

/-- A scaled score. -/
theorem v5_apply (k : Fin 4352) : val_main_v5 (F := Ideal) x0 x1 x3 (ix5 b g e q k)
    = (∑ l, (joint x1 x3 b k g l * x0 (ix5 b q g e l) : EReal)) * ((1 / 8 : ℝ) : EReal) := by
  unfold val_main_v5 val_main_v3 val_main_v2 val_main_v4 val_main_cst
  simp only [pointwise]
  rw [zero_add, bits_eighth]
  simp only [v0_apply]

/-- The maximum over the keys of any array of scores. -/
theorem maximum_apply (x : FVec Ideal S8x2x2x4096x4352 .f32) :
    Host.reduce FloatOps.maximumf x (val_main_cst_0 (F := Ideal)) reducesTo_S8x2x2x4096x4352_S8x2x2x4096_d4 h_S_ (ix4 b g e q)
      = (Finset.univ : Finset (Fin 4352)).fold max (⊥ : EReal) fun k => x (ix5 b g e q k) := by
  unfold val_main_cst_0
  simp only [pointwise]
  rw [← bits_bot]

/-- The subtracted maximum, along the keys. -/
theorem v10_apply (k : Fin 4352) : val_main_v10 (F := Ideal) x0 x1 x3 (ix5 b g e q k)
    = val_main_v8 (F := Ideal) x0 x1 x3 (ix4 b g e q) := by
  rw [val_main_v10_apply, val_main_v9_apply]
  refine congrArg _ (funext fun a => ?_)
  match a with
  | ⟨0, _⟩ => rfl
  | ⟨1, _⟩ => rfl
  | ⟨2, _⟩ => rfl
  | ⟨3, _⟩ => rfl

/-- The weight of a key before division. -/
theorem v12_apply (k : Fin 4352) : val_main_v12 (F := Ideal) x0 x1 x3 (ix5 b g e q k)
    = Ideal.exp (val_main_v5 (F := Ideal) x0 x1 x3 (ix5 b g e q k) - val_main_v8 (F := Ideal) x0 x1 x3 (ix4 b g e q)) := by
  rw [val_main_v12_apply, val_main_v11_apply, v10_apply]
  rfl

/-- The sum of the weights, along the keys. -/
theorem v15_apply (k : Fin 4352) : val_main_v15 (F := Ideal) x0 x1 x3 (ix5 b g e q k)
    = ∑ k', (val_main_v12 (F := Ideal) x0 x1 x3 (ix5 b g e q k') : EReal) := by
  rw [val_main_v15_apply, val_main_v14_apply, val_main_v13_apply, val_main_cst_2_apply]
  have h0 : (FloatOps.ofBits .f32 0x00000000#32 : Ideal .f32) = (0 : EReal) := by
    show Ideal.ofBits .f32 0x00000000#32 = 0
    simp [Ideal.ofBits, Ideal.ieee]
  rw [h0]
  refine (zero_add _).trans (Finset.sum_congr rfl fun k' _ => congrArg _ (funext fun a => ?_))
  match a with
  | ⟨0, _⟩ => rfl
  | ⟨1, _⟩ => rfl
  | ⟨2, _⟩ => rfl
  | ⟨3, _⟩ => rfl
  | ⟨4, _⟩ => rfl

/-- The subtracted maximum is real when the scores are. -/
theorem v8_real (T : Fin 4352 → ℝ) (hT : ∀ k, val_main_v5 (F := Ideal) x0 x1 x3 (ix5 b g e q k) = (T k : EReal)) :
    ∃ m : ℝ, val_main_v8 (F := Ideal) x0 x1 x3 (ix4 b g e q) = (m : EReal) := by
  obtain ⟨m, hm⟩ := fold_max_real (n := 4351) T
  refine ⟨m, ?_⟩
  rw [val_main_v8_apply, val_main_v7_apply, val_main_cst_1_apply]
  unfold val_main_v6
  rw [maximum_apply]
  simp only [hT]
  have hb : (FloatOps.ofBits .f32 0xFF800000#32 : Ideal .f32) = (⊥ : EReal) := bits_bot
  rw [hb]
  refine (max_eq_right bot_le).trans hm

/-- The softmax times the values, summed. -/
theorem v17_apply (d : Fin 64) : val_main_v17 (F := Ideal) x0 x1 x2 x3 x4 (ix5 b g d e q)
    = ∑ k, (joint x2 x4 b k g d * val_main_v16 (F := Ideal) x0 x1 x3 (ix5 b g e q k) : EReal) := by
  unfold val_main_v17
  simp only [pointwise]
  rw [zero_add]
  simp only [v1_apply]

/-- The result: entry `d` of query head `h` at query `q`. -/
theorem v20_apply (d : Fin 64) (h : Fin 4) (y : Fin 256) (hy : (y : Nat) = 64 * h + d) (g e : Fin 2)
    (hg : (g : Nat) = h / 2) (he : (e : Nat) = h % 2) :
    val_main_v20 (F := Ideal) x0 x1 x2 x3 x4 (ix3 b q y) = val_main_v17 (F := Ideal) x0 x1 x2 x3 x4 (ix5 b g d e q) := by
  have hd := d.isLt
  unfold val_main_v20 val_main_v19 val_main_v18
  simp only [pointwise]
  exact congrArg (val_main_v17 (F := Ideal) x0 x1 x2 x3 x4)
    (ix5_congr rfl (by show (y : Nat) / 128 = g; omega) (by show (y : Nat) % 64 = d; omega)
      (by show (y : Nat) / 64 % 2 = e; omega) rfl)

/-- The reference with real scores. -/
theorem result_eq (d : Fin 64) (h : Fin 4) (y : Fin 256) (hy : (y : Nat) = 64 * h + d) (g e : Fin 2)
    (hg : (g : Nat) = h / 2) (he : (e : Nat) = h % 2) (T : Fin 4352 → ℝ)
    (hT : ∀ k, (∑ l, (joint x1 x3 b k g l * x0 (ix5 b q g e l) : EReal)) * ((1 / 8 : ℝ) : EReal) = (T k : EReal)) :
    val_main_v20 (F := Ideal) x0 x1 x2 x3 x4 (ix3 b q y) = soft T fun k => joint x2 x4 b k g d := by
  have hT' : ∀ k, val_main_v5 (F := Ideal) x0 x1 x3 (ix5 b g e q k) = (T k : EReal) := fun k =>
    (v5_apply x0 x1 x3 b q g e k).trans (hT k)
  obtain ⟨m, hm⟩ := v8_real x0 x1 x3 b q g e T hT'
  rw [v20_apply x0 x1 x2 x3 x4 b q d h y hy g e hg he, v17_apply, ← soft_eq (n := 4351) T _ m]
  refine Finset.sum_congr rfl fun k _ => ?_
  rw [mul_comm, val_main_v16_apply, v15_apply]
  simp only [v12_apply, hT', hm]
  rfl

end Cert.Reference

end
-- ==== Proof.Value.lean ====
/-
  The kernel's result is the reference's: with finite queries and keys both are the softmax of the same real scores,
  applied to the same values.
-/
module

public import proofs.«01_k».proof.Proof.Run
public import proofs.«01_k».proof.Proof.Host
public import proofs.«01_k».proof.Proof.Reference
public import proofs.«01_k».proof.Defs
public import Idealize.ShloMosaic.Lib.ReduceAll

@[expose] public section

set_option maxRecDepth 16384

noncomputable section

namespace Cert.Attention

open Cert.KernelIdeal Cert.KernelIdeal.Gen Idealize.ShloMosaic Idealize.ShloMosaic.TcCoe Cert.Softmax
open Cert.Reference (joint result_eq)

/-! ## Finite entries -/

/-- An entry with a finite absolute value is a real number. -/
theorem real_of_abs {x : EReal} (h : Ideal.cmp .olt (max x (-x)) ⊤ = 1#1) : ((x.toReal : ℝ) : EReal) = x := by
  have h' : max x (-x) < ⊤ := by
    by_contra hn
    simp [Ideal.cmp, hn] at h
  refine EReal.coe_toReal (fun e => ?_) fun e => ?_ <;> simp [e] at h'

theorem bits_inf : Ideal.ofBits .f32 0x7F800000#32 = ⊤ := by simp [Ideal.ofBits, Ideal.ieee]

/-- The precondition: every query and key is a real number. -/
theorem finite [Cert.Pre_finite_scores.Facts] (x0 : Vec Ideal S8x4096x2x2x64 .f32) (x1 x2 : Vec Ideal S8x256x2x64 .f32)
    (x3 x4 : Vec Ideal S8x4096x2x64 .f32)
    (h : Cert.Pre_finite_scores.fn (F := Ideal) x0 x1 x2 x3 x4 = fun _ => 1#1) :
    (∀ i, (((x0 i : EReal).toReal : ℝ) : EReal) = x0 i) ∧ (∀ i, (((x1 i : EReal).toReal : ℝ) : EReal) = x1 i)
      ∧ (∀ i, (((x3 i : EReal).toReal : ℝ) : EReal) = x3 i) := by
  have h0 := congrFun h ix0
  unfold Cert.Pre_finite_scores.fn at h0
  obtain ⟨h01, h3⟩ := IntOp.andi_eq_one.1 h0
  obtain ⟨h0, h1⟩ := IntOp.andi_eq_one.1 h01
  have : Subsingleton (Cert.Pre_finite_scores.S_).Idx := ⟨fun a b => funext fun k => k.elim0⟩
  refine ⟨fun i => real_of_abs ?_, fun i => real_of_abs ?_, fun i => real_of_abs ?_⟩
  · exact (congrArg (Ideal.cmp .olt _) bits_inf.symm).trans (Host.reduce_andi_all _ _ _ _ _ h0 i)
  · exact (congrArg (Ideal.cmp .olt _) bits_inf.symm).trans (Host.reduce_andi_all _ _ _ _ _ h1 i)
  · exact (congrArg (Ideal.cmp .olt _) bits_inf.symm).trans (Host.reduce_andi_all _ _ _ _ _ h3 i)

/-! ## The kernel's result -/

section

variable (x0 : Vec Ideal S8x4096x2x2x64 .f32) (x1 x2 : Vec Ideal S8x256x2x64 .f32) (x3 x4 : Vec Ideal S8x4096x2x64 .f32)
  (b : Fin 8)

/-- A lane of the laid out keys: the joined keys, then zeros. -/
theorem keyAll_apply (k : Fin 4352) (g : Fin 2) (l : Fin 128) :
    keyAll (layKC x1) (layKL x3) b k ⟨128 * g + l, by omega⟩
      = if hl : (l : Nat) < 64 then joint x1 x3 b k g ⟨l, hl⟩ else 0 := by
  unfold keyAll joint
  by_cases hk : (k : Nat) < 256
  · rw [dif_pos hk, layKC_apply x1 b ⟨k, hk⟩ g l ⟨128 * g + l, by omega⟩ rfl]
    simp only [dif_pos hk]
  · rw [dif_neg hk, layKL_apply x3 b ⟨k - 256, by omega⟩ g l ⟨128 * g + l, by omega⟩ rfl]
    simp only [dif_neg hk]

/-- Row 64 of the laid out values: ones. -/
theorem valueAll_one (k : Fin 4352) (g : Fin 2) (e : Fin 128) (he : (e : Nat) = 64) :
    valueAll (layVC x2) (layVL x4) b g e k = 1 := by
  unfold valueAll
  split
  · exact layVC_one x2 b _ g e he
  · exact layVL_one x4 b _ g e he

/-- The rows below 64 of the laid out values: the joined values. -/
theorem valueAll_apply (k : Fin 4352) (g : Fin 2) (d : Fin 64) (e : Fin 128) (he : (e : Nat) = d) :
    valueAll (layVC x2) (layVL x4) b g e k = joint x2 x4 b k g d := by
  unfold valueAll joint
  split
  · exact layVC_apply x2 b _ g d e he
  · exact layVL_apply x4 b _ g d e he

variable (h0 : ∀ i, (((x0 i : EReal).toReal : ℝ) : EReal) = x0 i) (h1 : ∀ i, (((x1 i : EReal).toReal : ℝ) : EReal) = x1 i)
  (h3 : ∀ i, (((x3 i : EReal).toReal : ℝ) : EReal) = x3 i)

include h1 h3 in
theorem joint_real (k : Fin 4352) (g : Fin 2) (l : Fin 64) :
    (((joint x1 x3 b k g l).toReal : ℝ) : EReal) = joint x1 x3 b k g l := by
  unfold joint
  split
  · exact h1 _
  · exact h3 _

/-- The real score of key `k` for query head `h` at query `q`. -/
def score (q : Fin 4096) (g e : Fin 2) (k : Fin 4352) : ℝ :=
  (∑ l : Fin 64, (joint x1 x3 b k g l).toReal * (x0 (ix5 b q g e l) : EReal).toReal) * (1 / 8)

include h0 h1 h3 in
/-- The reference's score. -/
theorem score_reference (q : Fin 4096) (g e : Fin 2) (k : Fin 4352) :
    (∑ l, (joint x1 x3 b k g l * x0 (ix5 b q g e l) : EReal)) * ((1 / 8 : ℝ) : EReal)
      = (score x0 x1 x3 b q g e k : EReal) := by
  unfold score
  rw [EReal.coe_mul, coe_sum]
  refine congrArg (· * _) (Finset.sum_congr rfl fun l _ => ?_)
  rw [EReal.coe_mul, joint_real x1 x3 b h1 h3, h0]

include h0 h1 h3 in
/-- The kernel's score: over the laid out lanes, with the scale in the query and base two. -/
theorem score_kernel (q : Fin 4096) (h : Fin 4) (k : Fin 4352) :
    (∑ l : Fin 128, (keyAll (layKC x1) (layKL x3) b k ⟨128 * (group h : Nat) + l, by omega⟩
        * (layQ x0 (ix3 b q ⟨128 * h + l, by omega⟩) * (((1 / 8) * (Real.log 2)⁻¹ : ℝ) : EReal)) : EReal))
      = ((score x0 x1 x3 b q (group h) ⟨h % 2, by omega⟩ k * (Real.log 2)⁻¹ : ℝ) : EReal) := by
  have hl : ∀ l : Fin 128, (keyAll (layKC x1) (layKL x3) b k ⟨128 * (group h : Nat) + l, by omega⟩
        * (layQ x0 (ix3 b q ⟨128 * h + l, by omega⟩) * (((1 / 8) * (Real.log 2)⁻¹ : ℝ) : EReal)) : EReal)
      = if hl : (l : Nat) < 64 then (joint x1 x3 b k (group h) ⟨l, hl⟩
          * (x0 (ix5 b q (group h) ⟨h % 2, by omega⟩ ⟨l, hl⟩) * (((1 / 8) * (Real.log 2)⁻¹ : ℝ) : EReal)) : EReal) else 0 := by
    intro l
    rw [keyAll_apply, layQ_apply x0 b q h l ⟨128 * h + l, by omega⟩ rfl]
    split
    · rfl
    · simp only [zero_mul]
  rw [Finset.sum_congr rfl fun l _ => hl l, Fin.sum_univ_add (a := 64) (b := 64)]
  unfold score
  refine (congrArg (_ + ·) (Finset.sum_eq_zero fun i _ => dif_neg (by simp))).trans ?_
  rw [add_zero, Finset.sum_mul, Finset.sum_mul, coe_sum]
  refine Finset.sum_congr rfl fun l _ => ?_
  rw [dif_pos (by simp)]
  show (joint x1 x3 b k (group h) l * (x0 (ix5 b q (group h) ⟨h % 2, by omega⟩ l) * _) : EReal) = _
  rw [← joint_real x1 x3 b h1 h3, ← h0, ← EReal.coe_mul, ← EReal.coe_mul]
  simp only [EReal.toReal_coe]
  exact congrArg (fun x : ℝ => (x : EReal)) (by ring)

end

variable (m : (ℓ : Loc nD τ sig) → Buf (Elt Ideal) ℓ) (c : Dev nD)

/-- The kernel's result is the reference's. -/
theorem result_value [Cert.Pre_finite_scores.Facts] (hm : Cert.Pre_KernelIdeal_finite_scores m) :
    (dats m 0 c).arrAt 17 cfg0.N = Cert.ReferenceIdeal.Read.val_main_v20 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) := by
  obtain ⟨h0, h1, h3⟩ := finite _ _ _ _ _ (hm c)
  funext j
  idx_vars j
  obtain ⟨i, r, hi⟩ : ∃ (i : Fin 16) (r : Fin 256), j1 = ⟨256 * i + r, by omega⟩ :=
    ⟨⟨j1 / 256, by have := j1.isLt; omega⟩, ⟨j1 % 256, by omega⟩, Fin.ext (by show (j1 : Nat) = 256 * (j1 / 256) + j1 % 256; omega)⟩
  obtain ⟨h, d, hd⟩ : ∃ (h : Fin 4) (d : Fin 64), j2 = ⟨64 * h + d, by omega⟩ :=
    ⟨⟨j2 / 64, by have := j2.isLt; omega⟩, ⟨j2 % 64, by omega⟩, Fin.ext (by show (j2 : Nat) = 64 * (j2 / 64) + j2 % 64; omega)⟩
  subst hi hd
  rw [result_at, V_q, V_kc, V_kl, V_vc, V_vl]
  refine (point_eq _ _ _ _ _ j0 i r h d _ _ (fun k => score_kernel _ _ _ j0 h0 h1 h3 _ h k)
    (fun k => valueAll_one _ _ j0 k _ _ rfl) fun k => valueAll_apply _ _ j0 k _ d _ rfl).trans ?_
  exact (result_eq _ _ _ _ _ j0 _ d h _ rfl (group h) ⟨h % 2, by omega⟩ rfl rfl _ fun k =>
    score_reference _ _ _ j0 h0 h1 h3 _ _ _ k).symm

end Cert.Attention

end
-- ==== Proof.Swiglu.lean ====
/- The feed-forward half of the layer at one token: modulated normalisation, gated product, gated residual. -/
module

public import Idealize.ShloMosaic.Lib.Pointwise
public import Idealize.ShloMosaic.PureOps.Ideal.Laws

@[expose] public section

noncomputable section

namespace Cert.FeedForward

open Idealize.ShloMosaic

/-- A float constant of the program, as an extended real. -/
abbrev word (w : BitVec 32) : EReal := Ideal.ofBits .f32 w

theorem word_zero : word 0x00000000#32 = 0 := by simp [Ideal.ofBits, Ideal.ieee]

/-- The reciprocal root of the mean of the squares. -/
def scaleOf (x : Fin 1024 → EReal) : EReal :=
  Ideal.rsqrt (Ideal.div (∑ d, x d * x d) (word 0x44800000#32) + word 0x358637BD#32)

/-- A token normalised, scaled by `g` and modulated by `scale` and `shift`. -/
def normed (x shift scale g : Fin 1024 → EReal) (d : Fin 1024) : EReal :=
  x d * scaleOf x * (g d * (1 + scale d)) + shift d

/-- `a` times its logistic function. -/
def silu (a : EReal) : EReal :=
  a * Ideal.div (1) (1 + Ideal.exp (-a))

/-- A column of a product with a matrix. -/
def col {n k : Nat} (h : Fin n → EReal) (w : Fin n → Fin k → EReal) (f : Fin k) : EReal := ∑ d, h d * w d f

/-- The gated product of a normalised token. -/
def hidden (h : Fin 1024 → EReal) (wg wu : Fin 1024 → Fin 2816 → EReal) (f : Fin 2816) : EReal :=
  silu (col h wg f) * col h wu f

/-- The token after the feed-forward and its gated residual. -/
def step (x shift scale gate g : Fin 1024 → EReal) (wg wu : Fin 1024 → Fin 2816 → EReal)
    (wd : Fin 2816 → Fin 1024 → EReal) (d : Fin 1024) : EReal :=
  x d + word 0x3F000000#32 * gate d * col (hidden (normed x shift scale g) wg wu) wd d

theorem step_congr {x x' sh sh' sc sc' ga ga' g g' : Fin 1024 → EReal} {wg wg' wu wu' : Fin 1024 → Fin 2816 → EReal}
    {wd wd' : Fin 2816 → Fin 1024 → EReal} (hx : ∀ k, x k = x' k) (hsh : ∀ k, sh k = sh' k) (hsc : ∀ k, sc k = sc' k)
    (hga : ∀ k, ga k = ga' k) (hg : ∀ k, g k = g' k) (hwg : ∀ k f, wg k f = wg' k f) (hwu : ∀ k f, wu k f = wu' k f)
    (hwd : ∀ f k, wd f k = wd' f k) (d : Fin 1024) :
    step x sh sc ga g wg wu wd d = step x' sh' sc' ga' g' wg' wu' wd' d := by
  rw [funext hx, funext hsh, funext hsc, funext hga, funext hg, funext fun k => funext (hwg k),
    funext fun k => funext (hwu k), funext fun k => funext (hwd k)]

end Cert.FeedForward

end
-- ==== Proof.Readout.lean ====
/- The readout of the scans at one token, and the mixing of the head groups' outputs, as functions of the extended reals. -/
module

public import proofs.«01_k».proof.Proof.Swiglu
public import proofs.«01_k».proof.Proof.Softmax

@[expose] public section

noncomputable section

namespace Cert.Mix

open Idealize.ShloMosaic Cert.FeedForward

/-- The mean of the 64 entries of the segment that holds lane `j`. -/
def groupMean (y : Fin 256 → EReal) (j : Fin 256) : EReal :=
  Ideal.div (∑ e : Fin 64, y ⟨64 * (j / 64) + e, by omega⟩) (word 0x42800000#32)

/-- An entry less its segment's mean. -/
def centred (y : Fin 256 → EReal) (j : Fin 256) : EReal := y j - groupMean y j

/-- The readout: normalised over each segment, scaled, shifted, the bonus added, gated. -/
def readout (y lnw lnb bonus gate : Fin 256 → EReal) (j : Fin 256) : EReal :=
  (centred y j * Ideal.rsqrt (groupMean (fun l => centred y l * centred y l) j + word 0x3A27C5AC#32) * lnw j + lnb j
    + bonus j) * gate j

/-- The four groups' outputs side by side. -/
def sideBySide (a b c d : Fin 256 → EReal) (l : Fin 1024) : EReal :=
  if h : (l : Nat) < 256 then a ⟨l, h⟩
  else if h : (l : Nat) < 512 then b ⟨l - 256, by omega⟩
  else if h : (l : Nat) < 768 then c ⟨l - 512, by omega⟩
  else d ⟨l - 768, by omega⟩

/-- The same, each part's place counted off the parts before it. -/
def parts (a b c d : Fin 256 → EReal) (l : Fin 1024) : EReal :=
  if h : (l : Nat) < 256 then a ⟨l, h⟩
  else if h : (l : Nat) - 256 < 256 then b ⟨l - 256, h⟩
  else if h : (l : Nat) - 256 - 256 < 256 then c ⟨l - 256 - 256, h⟩
  else d ⟨l - 256 - 256 - 256, by omega⟩

theorem sideBySide_parts (a b c d : Fin 256 → EReal) (l : Fin 1024) : parts a b c d l = sideBySide a b c d l := by
  unfold parts sideBySide
  split_ifs <;> first
    | rfl
    | (exfalso; omega)
    | exact congrArg c (Fin.ext (Nat.sub_sub _ _ _))
    | exact congrArg d (Fin.ext ((congrArg (· - 256) (Nat.sub_sub _ _ _)).trans (Nat.sub_sub _ _ _)))

/-- The token after the mixing's gated residual. -/
def mixed (x gate : Fin 1024 → EReal) (y : Fin 1024 → EReal) (w : Fin 1024 → Fin 1024 → EReal) (d : Fin 1024) : EReal :=
  x d + gate d * col y w d

/-- A sum over the lanes, segment by segment. -/
theorem sum_lanes (f : Fin 256 → EReal) : ∑ h : Fin 4, ∑ e : Fin 64, f ⟨64 * h + e, by omega⟩ = ∑ l, f l := by
  rw [← Fintype.sum_prod_type' (f := fun (h : Fin 4) (e : Fin 64) => f ⟨64 * h + e, by omega⟩)]
  refine Fintype.sum_equiv (finProdFinEquiv (m := 4) (n := 64)) _ _ fun p => congrArg f (Fin.ext ?_)
  show 64 * (p.1 : Nat) + p.2 = p.2 + 64 * p.1
  omega

theorem bits_64 : word 0x42800000#32 = ((64 : ℝ) : EReal) := by
  simp [Ideal.ofBits, Ideal.ieee, -EReal.coe_mul]
  norm_num

/-- The mean of a segment of real entries. -/
theorem groupMean_real (r : Fin 256 → ℝ) (j : Fin 256) :
    groupMean (fun l => (r l : EReal)) j = (((∑ e : Fin 64, r ⟨64 * (j / 64) + e, by omega⟩) * (1 / 64) : ℝ) : EReal) := by
  unfold groupMean
  rw [bits_64, Ideal.div_coe (by norm_num), ← Cert.Softmax.coe_sum, ← EReal.coe_mul]

/-- The product with the averaging matrix is the mean of the segment, for real entries. -/
theorem product_mean (r : Fin 256 → ℝ) (j : Fin 256) :
    ∑ l : Fin 256, (r l : EReal) * (if (l : Nat) / 64 = j / 64 then ((1 / 64 : ℝ) : EReal) else 0)
      = groupMean (fun l => (r l : EReal)) j := by
  rw [groupMean_real, ← sum_lanes, Finset.sum_eq_single (⟨j / 64, by omega⟩ : Fin 4)]
  · rw [Finset.sum_mul, Cert.Softmax.coe_sum]
    refine Finset.sum_congr rfl fun e _ => ?_
    rw [if_pos (by show (64 * ((j : Nat) / 64) + e) / 64 = j / 64; omega), ← EReal.coe_mul]
  · intro h _ hne
    refine Finset.sum_eq_zero fun e _ => ?_
    rw [if_neg, mul_zero]
    intro e'
    refine hne (Fin.ext ?_)
    show (h : Nat) = j / 64
    have e'' : (64 * (h : Nat) + e) / 64 = j / 64 := e'
    omega
  · exact fun h => absurd (Finset.mem_univ _) h

/-- The kernel's segment sum: the product of the entries and the product of their rounding's remainder. -/
def segsum (y : Fin 256 → EReal) (S : Fin 256 → Fin 256 → EReal) (j : Fin 256) : EReal :=
  ∑ l, y l * S l j + ∑ l, (y l - y l) * S l j

/-- The kernel's segment sum is the mean of the segment, for real entries. -/
theorem segsum_eq {y : Fin 256 → EReal} {S : Fin 256 → Fin 256 → EReal} (hy : ∀ l, (((y l).toReal : ℝ) : EReal) = y l)
    (hS : ∀ l j : Fin 256, S l j = if (l : Nat) / 64 = j / 64 then ((1 / 64 : ℝ) : EReal) else 0) (j : Fin 256) :
    segsum y S j = groupMean y j := by
  obtain ⟨r, rfl⟩ : ∃ r : Fin 256 → ℝ, y = fun l => (r l : EReal) := ⟨fun l => (y l).toReal, funext fun l => (hy l).symm⟩
  unfold segsum
  simp only [hS]
  rw [product_mean]
  refine (congrArg (_ + ·) (Finset.sum_eq_zero fun l _ => ?_)).trans (add_zero _)
  rw [← EReal.coe_sub, sub_self, EReal.coe_zero, zero_mul]

/-- The kernel's readout, with its segment sums. -/
def readoutSeg (S : Fin 256 → Fin 256 → EReal) (y lnw lnb bonus gate : Fin 256 → EReal) (j : Fin 256) : EReal :=
  ((y j - segsum y S j) * Ideal.rsqrt (segsum (fun l => (y l - segsum y S l) * (y l - segsum y S l)) S j + word 0x3A27C5AC#32)
    * lnw j + lnb j + bonus j) * gate j

/-- The kernel's readout is the readout, for real entries. -/
theorem readoutSeg_eq {S : Fin 256 → Fin 256 → EReal} {y : Fin 256 → EReal} (lnw lnb bonus gate : Fin 256 → EReal)
    (hy : ∀ l, (((y l).toReal : ℝ) : EReal) = y l)
    (hS : ∀ l j : Fin 256, S l j = if (l : Nat) / 64 = j / 64 then ((1 / 64 : ℝ) : EReal) else 0) (j : Fin 256) :
    readoutSeg S y lnw lnb bonus gate j = readout y lnw lnb bonus gate j := by
  obtain ⟨r, rfl⟩ : ∃ r : Fin 256 → ℝ, y = fun l => (r l : EReal) := ⟨fun l => (y l).toReal, funext fun l => (hy l).symm⟩
  unfold readoutSeg readout centred
  simp only [segsum_eq hy hS]
  rw [segsum_eq _ hS]
  intro l
  rw [groupMean_real, ← EReal.coe_sub, ← EReal.coe_mul, EReal.toReal_coe]

end Cert.Mix

end
-- ==== Proof.MixBody.lean ====
/- The mixing call's grid point, at an index. -/
module

public import proofs.«01_k».proof.Proof.Gen.Kernel2Ideal.Frame
public import proofs.«01_k».proof.Proof.Readout

@[expose] public section

set_option maxRecDepth 16384

noncomputable section

namespace Cert.Mix

open Cert.Kernel2Ideal Cert.Kernel2Ideal.Gen Idealize.ShloMosaic Cert.FeedForward

/-! ## Products -/

theorem rows_seg (h : FVec Ideal S512x256 .bf16) (w : FVec Ideal S256x256 .bf16) (r : Fin 512) (j : Fin 256) :
    matmul dot_S512x256_S256x256_S512x256_1_0_0_1_n_n none h w (constant S512x256 .f32 0x00000000#32) (ix2 r j)
      = ∑ l : Fin 256, (h (ix2 r l) * w (ix2 l j) : EReal) := by
  simp only [pointwise]
  rw [zero_add]

theorem rows_mix (h : FVec Ideal S512x1024 .bf16) (w : FVec Ideal S1024x1024 .bf16) (r : Fin 512) (d : Fin 1024) :
    matmul dot_S512x1024_S1024x1024_S512x1024_1_0_0_1_n_n none h w (constant S512x1024 .f32 0x00000000#32) (ix2 r d)
      = ∑ l : Fin 1024, (h (ix2 r l) * w (ix2 l d) : EReal) := by
  simp only [pointwise]
  rw [zero_add]

theorem rows_up (h : FVec Ideal S512x1024 .bf16) (w : FVec Ideal S1024x2816 .bf16) (r : Fin 512) (f : Fin 2816) :
    matmul dot_S512x1024_S1024x2816_S512x2816_1_0_0_1_n_n none h w (constant S512x2816 .f32 0x00000000#32) (ix2 r f)
      = ∑ d : Fin 1024, (h (ix2 r d) * w (ix2 d f) : EReal) := by
  simp only [pointwise]
  rw [zero_add]

theorem rows_down (h : FVec Ideal S512x2816 .bf16) (w : FVec Ideal S2816x1024 .bf16) (r : Fin 512) (d : Fin 1024) :
    matmul dot_S512x2816_S2816x1024_S512x1024_1_0_0_1_n_n none h w (constant S512x1024 .f32 0x00000000#32) (ix2 r d)
      = ∑ f : Fin 2816, (h (ix2 r f) * w (ix2 f d) : EReal) := by
  simp only [pointwise]
  rw [zero_add]

/-! ## The readout -/

/-- The segment sums of an array's rows, as the kernel takes them: of its rounding and of the rounding's remainder. -/
def segsums (y : FVec Ideal S512x256 .f32) (S : FVec Ideal S256x256 .bf16) : FVec Ideal S512x256 .f32 :=
  addf
    (matmul dot_S512x256_S256x256_S512x256_1_0_0_1_n_n none (truncf .bf16 y bitsLt_bf16_f32) S (constant S512x256 .f32 0x00000000#32))
    (matmul dot_S512x256_S256x256_S512x256_1_0_0_1_n_n none
      (truncf .bf16 (subf y (extf .f32 (truncf .bf16 y bitsLt_bf16_f32 : FVec Ideal S512x256 .bf16) bitsLt_bf16_f32)) bitsLt_bf16_f32) S
      (constant S512x256 .f32 0x00000000#32))

theorem segsums_apply (y : FVec Ideal S512x256 .f32) (S : FVec Ideal S256x256 .bf16) (r : Fin 512) (j : Fin 256) :
    segsums y S (ix2 r j) = segsum (fun l => y (ix2 r l)) (fun l j => S (ix2 l j)) j := by
  unfold segsums
  refine (congrArg₂ (fun a b : EReal => a + b) (rows_seg _ _ r j) (rows_seg _ _ r j)).trans ?_
  rfl

/-- The readout's rows before the gate. -/
theorem pay2_apply (yf yb : Vec Ideal S1x512x256 .f32) (S : Vec Ideal S256x256 .bf16) (lnw lnb : Vec Ideal S1x256 .f32)
    (bonus : Vec Ideal S1x512x256 .f32) (gate : EReal) (r : Fin 512) (j : Fin 256) :
    (k0_pay2 yf yb S lnw lnb bonus (ix2 r j) * gate : EReal)
      = readoutSeg (fun l j => S (ix2 l j)) (fun l => yf (ix3 0 r l) + yb (ix3 0 r l)) (fun l => lnw (ix2 0 l))
          (fun l => lnb (ix2 0 l)) (fun l => bonus (ix3 0 r l)) (fun _ => gate) j := by
  have key : ∃ y : FVec Ideal S512x256 .f32, (∀ r l, y (ix2 r l) = yf (ix3 0 r l) + yb (ix3 0 r l))
      ∧ k0_pay2 yf yb S lnw lnb bonus
        = addf (addf (mulf (mulf (subf y (segsums y S)) (rsqrt (addf (segsums (mulf (subf y (segsums y S)) (subf y (segsums y S))) S)
            (broadcast S512x256 (Scalar.ofBits .f32 0x3A27C5AC#32)))))
            (broadcastTo S512x256 (shapeCast S1x256 lnw shapeCasts_S1x256_S1x256) broadcasts_S1x256_S512x256))
            (broadcastTo S512x256 (shapeCast S1x256 lnb shapeCasts_S1x256_S1x256) broadcasts_S1x256_S512x256))
          (shapeCast S512x256 bonus shapeCasts_S1x512x256_S512x256) := by
    refine ⟨addf (shapeCast S512x256 yf shapeCasts_S1x512x256_S512x256) (shapeCast S512x256 yb shapeCasts_S1x512x256_S512x256),
      fun r l => ?_, ?_⟩
    · simp only [pointwise]
    · unfold k0_pay2 segsums
      simp only [shapeCast_id]
  obtain ⟨y, hy, e⟩ := key
  rw [e]
  have h1 : ∀ r l, segsums y S (ix2 r l) = _ := fun r l => segsums_apply y S r l
  generalize hs : segsums y S = s at h1
  have h2 := segsums_apply (mulf (subf y s) (subf y s)) S r j
  generalize segsums (mulf (subf y s) (subf y s)) S = v at h2
  simp only [pointwise]
  unfold readoutSeg
  have e1 : ∀ l, segsum (fun l => yf (ix3 0 r l) + yb (ix3 0 r l)) (fun l j => S (ix2 l j)) l = s (ix2 r l) := fun l => by
    rw [h1]
    simp only [hy]
  have e2 : segsum (fun l => (yf (ix3 0 r l) + yb (ix3 0 r l) - s (ix2 r l)) * (yf (ix3 0 r l) + yb (ix3 0 r l) - s (ix2 r l)))
      (fun l j => S (ix2 l j)) j = v (ix2 r j) := by
    rw [h2]
    simp only [← hy]
    rfl
  simp only [e1, e2, hy]
  simp [word]

/-! ## The mixing -/

theorem cat_apply (a b c d : FVec Ideal S512x256 .bf16) (r : Fin 512) (l : Fin 1024) :
    concatenate S512x1024 1 [⟨S512x256, a⟩, ⟨S512x256, b⟩, ⟨S512x256, c⟩, ⟨S512x256, d⟩]
        concatenates_S512x256_S512x256_S512x256_S512x256_S512x1024_d1 (ix2 r l)
      = sideBySide (fun j => a (ix2 r j)) (fun j => b (ix2 r j)) (fun j => c (ix2 r j)) (fun j => d (ix2 r j)) l := by
  rw [← sideBySide_parts]
  unfold parts
  simp only [pointwise]
  simp

/-- The token after the mixing. -/
theorem pay3_apply (P : FVec Ideal S512x256 .f32) (gate : Vec Ideal S1x512x256 .f32) (hy gq ml : Vec Ideal S1x512x256 .bf16)
    (x : Vec Ideal S1x512x1024 .f32) (md : Vec Ideal S1x1x1024 .f32) (w : Vec Ideal S1024x1024 .bf16) (r : Fin 512) (d : Fin 1024) :
    k0_pay3 P gate hy gq ml x md w (ix2 r d)
      = mixed (fun k => x (ix3 0 r k)) (fun k => md (ix3 0 0 k))
          (sideBySide (fun j => hy (ix3 0 r j)) (fun j => gq (ix3 0 r j)) (fun j => ml (ix3 0 r j))
            (fun j => (P (ix2 r j) * gate (ix3 0 r j) : EReal))) (fun l d => w (ix2 l d)) d := by
  unfold k0_pay3
  have hm := rows_mix (concatenate S512x1024 1 [⟨S512x256, (shapeCast S512x256 hy shapeCasts_S1x512x256_S512x256 : FVec Ideal S512x256 .bf16)⟩,
      ⟨S512x256, (shapeCast S512x256 gq shapeCasts_S1x512x256_S512x256 : FVec Ideal S512x256 .bf16)⟩,
      ⟨S512x256, (shapeCast S512x256 ml shapeCasts_S1x512x256_S512x256 : FVec Ideal S512x256 .bf16)⟩,
      ⟨S512x256, (truncf .bf16 (mulf P (shapeCast S512x256 gate shapeCasts_S1x512x256_S512x256) : FVec Ideal S512x256 .f32) bitsLt_bf16_f32 : FVec Ideal S512x256 .bf16)⟩]
        concatenates_S512x256_S512x256_S512x256_S512x256_S512x1024_d1) (shapeCast S1024x1024 w shapeCasts_S1024x1024_S1024x1024) r d
  simp only [cat_apply] at hm
  generalize matmul dot_S512x1024_S1024x1024_S512x1024_1_0_0_1_n_n none (concatenate S512x1024 1 [⟨S512x256, (shapeCast S512x256 hy shapeCasts_S1x512x256_S512x256 : FVec Ideal S512x256 .bf16)⟩,
      ⟨S512x256, (shapeCast S512x256 gq shapeCasts_S1x512x256_S512x256 : FVec Ideal S512x256 .bf16)⟩,
      ⟨S512x256, (shapeCast S512x256 ml shapeCasts_S1x512x256_S512x256 : FVec Ideal S512x256 .bf16)⟩,
      ⟨S512x256, (truncf .bf16 (mulf P (shapeCast S512x256 gate shapeCasts_S1x512x256_S512x256) : FVec Ideal S512x256 .f32) bitsLt_bf16_f32 : FVec Ideal S512x256 .bf16)⟩]
        concatenates_S512x256_S512x256_S512x256_S512x256_S512x1024_d1) (shapeCast S1024x1024 w shapeCasts_S1024x1024_S1024x1024) (constant S512x1024 .f32 0x00000000#32) = M at hm ⊢
  simp only [pointwise] at hm ⊢
  rw [hm]
  simp [mixed, col]

theorem rows_scale (x : FVec Ideal S512x1024 .f32) (r : Fin 512) :
    multiReduction .add [1] S512 (mulf x x) 0x00000000#32 reduces_S512x1024_S512 (.inl rfl) rfl (ix1 r)
      = ∑ d : Fin 1024, (x (ix2 r d) * x (ix2 r d) : EReal) := by
  simp only [pointwise]

/-! ## The feed-forward -/

/-- The normalised and modulated rows. -/
def modulated (X : FVec Ideal S512x1024 .f32) (g sh sc : FVec Ideal S1x1024 .f32) (s : FVec Ideal S512x1 .f32) :
    FVec Ideal S512x1024 .bf16 :=
  truncf .bf16 (addf (mulf (mulf X (broadcastTo S512x1024 (rsqrt (addf (divf s (broadcast S512x1 (Scalar.ofBits .f32 0x44800000#32)))
      (broadcast S512x1 (Scalar.ofBits .f32 0x358637BD#32)))) broadcasts_S512x1_S512x1024))
      (broadcastTo S512x1024 (mulf g (addf (broadcast S1x1024 (Scalar.ofBits .f32 0x3F800000#32)) sc)) broadcasts_S1x1024_S512x1024))
    (broadcastTo S512x1024 sh broadcasts_S1x1024_S512x1024) : FVec Ideal S512x1024 .f32) bitsLt_bf16_f32

theorem modulated_apply (X : FVec Ideal S512x1024 .f32) (g sh sc : FVec Ideal S1x1024 .f32) (s : FVec Ideal S512x1 .f32) (r : Fin 512)
    (hs : s (ix2 r 0) = ∑ d : Fin 1024, (X (ix2 r d) * X (ix2 r d) : EReal)) (d : Fin 1024) :
    modulated X g sh sc s (ix2 r d)
      = normed (fun k => X (ix2 r k)) (fun k => sh (ix2 0 k)) (fun k => sc (ix2 0 k)) (fun k => g (ix2 0 k)) d := by
  unfold modulated
  simp only [pointwise]
  simp [hs, normed, scaleOf]

/-- The gated product of the rows. -/
def gated (A U : FVec Ideal S512x2816 .f32) : FVec Ideal S512x2816 .bf16 :=
  truncf .bf16 (mulf (mulf A (divf (broadcast S512x2816 (Scalar.ofBits .f32 0x3F800000#32))
    (addf (broadcast S512x2816 (Scalar.ofBits .f32 0x3F800000#32)) (exp (subf (broadcast S512x2816 (Scalar.ofBits .f32 0x00000000#32)) A))))) U : FVec Ideal S512x2816 .f32) bitsLt_bf16_f32

theorem gated_apply (A U : FVec Ideal S512x2816 .f32) (r : Fin 512) (f : Fin 2816) :
    gated A U (ix2 r f) = silu (A (ix2 r f)) * U (ix2 r f) := by
  unfold gated
  simp only [pointwise]
  rw [zero_sub]
  rfl

theorem pay8_apply (X : FVec Ideal S512x1024 .f32) (g sh sc : FVec Ideal S1x1024 .f32) (s : FVec Ideal S512x1 .f32)
    (wg wu : FVec Ideal S1024x2816 .bf16) (gate : FVec Ideal S1x1x1024 .f32) (wd : FVec Ideal S2816x1024 .bf16) (r : Fin 512)
    (hs : s (ix2 r 0) = ∑ d : Fin 1024, (X (ix2 r d) * X (ix2 r d) : EReal)) (d : Fin 1024) :
    k0_pay8 X g sh sc s wg wu gate wd (ix2 r d)
      = step (fun k => X (ix2 r k)) (fun k => sh (ix2 0 k)) (fun k => sc (ix2 0 k)) (fun k => gate (ix3 0 0 k)) (fun k => g (ix2 0 k))
          (fun d f => wg (ix2 d f)) (fun d f => wu (ix2 d f)) (fun f d => wd (ix2 f d)) d := by
  have ha := fun f => rows_up (modulated X g sh sc s) wg r f
  have hu := fun f => rows_up (modulated X g sh sc s) wu r f
  have key : k0_pay8 X g sh sc s wg wu gate wd
      = addf X (mulf (broadcastTo S512x1024 (mulf (broadcast S1x1024 (Scalar.ofBits .f32 0x3F000000#32))
          (shapeCast S1x1024 gate shapeCasts_S1x1x1024_S1x1024)) broadcasts_S1x1024_S512x1024)
        (matmul dot_S512x2816_S2816x1024_S512x1024_1_0_0_1_n_n none
          (gated (matmul dot_S512x1024_S1024x2816_S512x2816_1_0_0_1_n_n none (modulated X g sh sc s) wg (constant S512x2816 .f32 0x00000000#32))
            (matmul dot_S512x1024_S1024x2816_S512x2816_1_0_0_1_n_n none (modulated X g sh sc s) wu (constant S512x2816 .f32 0x00000000#32)))
          wd (constant S512x1024 .f32 0x00000000#32))) := by
    unfold k0_pay8 gated modulated
    simp only [shapeCast_id]
  rw [key]
  have hd := rows_down (gated (matmul dot_S512x1024_S1024x2816_S512x2816_1_0_0_1_n_n none (modulated X g sh sc s) wg (constant S512x2816 .f32 0x00000000#32))
            (matmul dot_S512x1024_S1024x2816_S512x2816_1_0_0_1_n_n none (modulated X g sh sc s) wu (constant S512x2816 .f32 0x00000000#32))) wd r d
  simp only [gated_apply, ha, hu, modulated_apply X g sh sc s r hs] at hd
  generalize matmul dot_S512x2816_S2816x1024_S512x1024_1_0_0_1_n_n none (gated _ _) wd (constant S512x1024 .f32 0x00000000#32) = D at hd ⊢
  simp only [pointwise]
  rw [hd]
  simp [step, Cert.FeedForward.hidden, col, word]

theorem pay1_apply (X : FVec Ideal S512x1024 .f32) (r : Fin 512) (d : Fin 1024) : k0_pay1 X (ix3 0 r d) = X (ix2 r d) := by
  unfold k0_pay1
  simp only [pointwise]

theorem pay4_apply (g : Vec Ideal S1x1024 .f32) (k : Fin 1024) : k0_pay4 g (ix2 0 k) = g (ix2 0 k) := by
  unfold k0_pay4
  rw [shapeCast_id]

theorem pay5_apply (g : Vec Ideal S1x1x1024 .f32) (k : Fin 1024) : k0_pay5 g (ix2 0 k) = g (ix3 0 0 k) := by
  unfold k0_pay5
  simp only [pointwise]

theorem pay6_apply (g : Vec Ideal S1x1x1024 .f32) (k : Fin 1024) : k0_pay6 g (ix2 0 k) = g (ix3 0 0 k) := by
  unfold k0_pay6
  simp only [pointwise]

theorem pay7_apply (P : FVec Ideal S512x256 .f32) (gate : Vec Ideal S1x512x256 .f32) (hy gq ml : Vec Ideal S1x512x256 .bf16)
    (x : Vec Ideal S1x512x1024 .f32) (md : Vec Ideal S1x1x1024 .f32) (w : Vec Ideal S1024x1024 .bf16) (r : Fin 512) :
    k0_pay7 P gate hy gq ml x md w (ix2 r 0)
      = ∑ d : Fin 1024, (k0_pay3 P gate hy gq ml x md w (ix2 r d) * k0_pay3 P gate hy gq ml x md w (ix2 r d) : EReal) := by
  unfold k0_pay7
  generalize k0_pay3 P gate hy gq ml x md w = X
  have hs := rows_scale X r
  generalize multiReduction .add [1] S512 (mulf X X) 0x00000000#32 reduces_S512x1024_S512 (.inl rfl) rfl = S at hs ⊢
  simp only [pointwise]
  exact hs

/-- What the call computes at an entry of a token's row, from the token's rows. -/
def token (x g5 : Fin 1024 → EReal) (hy gq ml yf yb bonus gate lnw lnb : Fin 256 → EReal) (S : Fin 256 → Fin 256 → EReal)
    (w : Fin 1024 → Fin 1024 → EReal) (sh sc g8 g : Fin 1024 → EReal) (wg wu : Fin 1024 → Fin 2816 → EReal)
    (wd : Fin 2816 → Fin 1024 → EReal) (d : Fin 1024) : EReal :=
  step (mixed x g5 (sideBySide hy gq ml (readoutSeg S (fun l => yf l + yb l) lnw lnb bonus gate)) w) sh sc g8 g wg wu wd d

theorem token_congr {x x' g5 g5' : Fin 1024 → EReal} {hy hy' gq gq' ml ml' yf yf' yb yb' bonus bonus' gate gate' lnw lnw' lnb lnb' : Fin 256 → EReal}
    {S S' : Fin 256 → Fin 256 → EReal} {w w' : Fin 1024 → Fin 1024 → EReal} {sh sh' sc sc' g8 g8' g g' : Fin 1024 → EReal}
    {wg wg' wu wu' : Fin 1024 → Fin 2816 → EReal} {wd wd' : Fin 2816 → Fin 1024 → EReal}
    (h0 : ∀ k, x k = x' k) (h1 : ∀ k, g5 k = g5' k) (h2 : ∀ k, hy k = hy' k) (h3 : ∀ k, gq k = gq' k) (h4 : ∀ k, ml k = ml' k)
    (h5 : ∀ k, yf k = yf' k) (h6 : ∀ k, yb k = yb' k) (h7 : ∀ k, bonus k = bonus' k) (h8 : ∀ k, gate k = gate' k)
    (h9 : ∀ k, lnw k = lnw' k) (h10 : ∀ k, lnb k = lnb' k) (h11 : ∀ k l, S k l = S' k l) (h12 : ∀ k l, w k l = w' k l)
    (h13 : ∀ k, sh k = sh' k) (h14 : ∀ k, sc k = sc' k) (h15 : ∀ k, g8 k = g8' k) (h16 : ∀ k, g k = g' k)
    (h17 : ∀ k l, wg k l = wg' k l) (h18 : ∀ k l, wu k l = wu' k l) (h19 : ∀ k l, wd k l = wd' k l) (d : Fin 1024) :
    token x g5 hy gq ml yf yb bonus gate lnw lnb S w sh sc g8 g wg wu wd d
      = token x' g5' hy' gq' ml' yf' yb' bonus' gate' lnw' lnb' S' w' sh' sc' g8' g' wg' wu' wd' d := by
  obtain rfl := funext h0
  obtain rfl := funext h1
  obtain rfl := funext h2
  obtain rfl := funext h3
  obtain rfl := funext h4
  obtain rfl := funext h5
  obtain rfl := funext h6
  obtain rfl := funext h7
  obtain rfl := funext h8
  obtain rfl := funext h9
  obtain rfl := funext h10
  obtain rfl := funext fun k => funext (h11 k)
  obtain rfl := funext fun k => funext (h12 k)
  obtain rfl := funext h13
  obtain rfl := funext h14
  obtain rfl := funext h15
  obtain rfl := funext h16
  obtain rfl := funext fun k => funext (h17 k)
  obtain rfl := funext fun k => funext (h18 k)
  obtain rfl := funext fun k => funext (h19 k)
  rfl

/-- The block a grid point writes, from the blocks it reads. -/
theorem out_apply (x : Vec Ideal S1x512x1024 .f32) (md : Vec Ideal S1x9x1024 .f32) (hy gq ml : Vec Ideal S1x512x256 .bf16)
    (yf yb bonus gate : Vec Ideal S1x512x256 .f32) (lnw lnb : Vec Ideal S1x256 .f32) (S : Vec Ideal S256x256 .bf16)
    (w : Vec Ideal S1024x1024 .bf16) (g : Vec Ideal S1x1024 .f32) (wg wu : Vec Ideal S1024x2816 .bf16) (wd : Vec Ideal S2816x1024 .bf16)
    (r : Fin 512) (d : Fin 1024) :
    out0_17 x md hy gq ml yf yb bonus gate lnw lnb S w g wg wu wd (ix3 0 r d)
      = token (fun k => x (ix3 0 r k)) (fun k => md (ix3 0 5 k)) (fun j => hy (ix3 0 r j)) (fun j => gq (ix3 0 r j))
          (fun j => ml (ix3 0 r j)) (fun l => yf (ix3 0 r l)) (fun l => yb (ix3 0 r l)) (fun l => bonus (ix3 0 r l))
          (fun l => gate (ix3 0 r l)) (fun l => lnw (ix2 0 l)) (fun l => lnb (ix2 0 l)) (fun l j => S (ix2 l j))
          (fun l d => w (ix2 l d)) (fun k => md (ix3 0 6 k)) (fun k => md (ix3 0 7 k)) (fun k => md (ix3 0 8 k))
          (fun k => g (ix2 0 k)) (fun d f => wg (ix2 d f)) (fun d f => wu (ix2 d f)) (fun f d => wd (ix2 f d)) d := by
  unfold out0_17 k0_pay9
  rw [View.canon_unit_zero (by decide), pay1_apply, pay8_apply _ _ _ _ _ _ _ _ _ r (pay7_apply _ _ _ _ _ _ _ _ r)]
  simp only [pay3_apply, pay4_apply, pay5_apply, pay6_apply]
  simp only [pay2_apply]
  simp only [pointwise]
  simp
  rfl

end Cert.Mix

end
-- ==== Proof.MixHost.lean ====
/- The host's arrays of the mixing call: casts, flattened heads and the matrix of segments. -/
module

public import proofs.«01_k».proof.Proof.Gen.Kernel2Ideal.Frame
public import proofs.«01_k».proof.Proof.Swiglu
public import Idealize.ShloMosaic.Lib.StableHlo.ReadAt

@[expose] public section

set_option maxRecDepth 16384

noncomputable section

namespace Cert.Mix

open Cert.Kernel2Ideal Cert.Kernel2Ideal.Gen Idealize.ShloMosaic Idealize.ShloMosaic.TcCoe

/-- The segment of a lane, as the host divides: rounded down. -/
def lane (l : Fin 256) : BitVec 32 :=
  Scalar.select
    (IntOp.andi
      (IntOp.cmpi .ne (if BitVec.ofNat 32 l = 0 then 0#32 else if (BitVec.ofNat 32 l).msb = true then -1 else 1)
        (if 64#32 = 0 then 0#32 else if BitVec.msb 64#32 = true then -1 else 1))
      (IntOp.cmpi .ne (IntOp.remsi .host (BitVec.ofNat 32 l) 64#32) 0#32))
    (IntOp.subi (IntOp.divsi .host (BitVec.ofNat 32 l) 64#32) 1#32)
    (IntOp.divsi .host (BitVec.ofNat 32 l) 64#32)

theorem lane_eq : ∀ l : Fin 256, lane l = BitVec.ofNat 32 (l / 64) := by decide +kernel

theorem lane_same : ∀ l j : Fin 256, IntOp.cmpi .eq (lane l) (lane j) = if (l : Nat) / 64 = j / 64 then 1#1 else 0#1 := by
  intro l j
  rw [lane_eq, lane_eq]
  by_cases h : (l : Nat) / 64 = j / 64
  · rw [if_pos h, h]
    simp [IntOp.cmpi]
  · rw [if_neg h]
    have hn : BitVec.ofNat 32 ((l : Nat) / 64) ≠ BitVec.ofNat 32 ((j : Nat) / 64) := fun e => h (by
      have := congrArg BitVec.toNat e
      simp only [BitVec.toNat_ofNat] at this
      omega)
    simp only [IntOp.cmpi]
    rw [beq_eq_false_iff_ne.2 hn]
    rfl

theorem bits_64th : Ideal.ofBits .f32 0x3C800000#32 = ((1 / 64 : ℝ) : EReal) := by
  simp [Ideal.ofBits, Ideal.ieee, -EReal.coe_mul]
  norm_num

variable (m : (ℓ : Loc nD τ sig) → Buf (Elt Ideal) ℓ) (c : Dev nD)

/-- The matrix that averages over a segment. -/
theorem V_seg (l j : Fin 256) : (V m c main_v24 : Vec Ideal S256x256 .bf16) (ix2 l j)
    = if (l : Nat) / 64 = j / 64 then ((1 / 64 : ℝ) : EReal) else 0 := by
  have key : (V m c main_v24 : Vec Ideal S256x256 .bf16) (ix2 l j)
      = FloatOps.uitofp (F := Ideal) .f32 (IntOp.cmpi .eq (lane l) (lane j)) * Ideal.ofBits .f32 0x3C800000#32 := by
    unfold V
    simp only [hostOps0, hostOps0_1, hostOps0_2, hostOps0_3, hostOps0_4, List.flatten_cons, List.flatten_nil,
      List.append_nil, List.cons_append, List.nil_append]
    after_results_simp
    simp -implicitDefEqProofs only [StableHlo.TRef.toBuf, StableHlo.TRef.ofBuf, cast_cast, cast_eq]
    simp only [pointwise]
    rfl
  rw [key, lane_same, bits_64th]
  split
  · simp [FloatOps.uitofp]
  · simp [FloatOps.uitofp]

theorem V_hy : V m c main_v0 = (truncf .bf16 (m ((c : Thread nD τ).loc main_arg2) : FVec Ideal S8x4096x256 .f32) bitsLt_bf16_f32 : FVec Ideal S8x4096x256 .bf16) := by
  unfold V
  simp only [hostOps0, hostOps0_1, hostOps0_2, hostOps0_3, hostOps0_4, List.flatten_cons, List.flatten_nil,
    List.append_nil, List.cons_append, List.nil_append]
  after_results_simp

theorem V_gq : V m c main_v1 = (truncf .bf16 (m ((c : Thread nD τ).loc main_arg3) : FVec Ideal S8x4096x256 .f32) bitsLt_bf16_f32 : FVec Ideal S8x4096x256 .bf16) := by
  unfold V
  simp only [hostOps0, hostOps0_1, hostOps0_2, hostOps0_3, hostOps0_4, List.flatten_cons, List.flatten_nil,
    List.append_nil, List.cons_append, List.nil_append]
  after_results_simp

theorem V_ml : V m c main_v2 = (truncf .bf16 (m ((c : Thread nD τ).loc main_arg4) : FVec Ideal S8x4096x256 .f32) bitsLt_bf16_f32 : FVec Ideal S8x4096x256 .bf16) := by
  unfold V
  simp only [hostOps0, hostOps0_1, hostOps0_2, hostOps0_3, hostOps0_4, List.flatten_cons, List.flatten_nil,
    List.append_nil, List.cons_append, List.nil_append]
  after_results_simp

theorem V_out : V m c main_v3 = (truncf .bf16 (m ((c : Thread nD τ).loc main_arg11) : FVec Ideal S1024x1024 .f32) bitsLt_bf16_f32 : FVec Ideal S1024x1024 .bf16) := by
  unfold V
  simp only [hostOps0, hostOps0_1, hostOps0_2, hostOps0_3, hostOps0_4, List.flatten_cons, List.flatten_nil,
    List.append_nil, List.cons_append, List.nil_append]
  after_results_simp

theorem V_gate : V m c main_v4 = (truncf .bf16 (m ((c : Thread nD τ).loc main_arg13) : FVec Ideal S1024x2816 .f32) bitsLt_bf16_f32 : FVec Ideal S1024x2816 .bf16) := by
  unfold V
  simp only [hostOps0, hostOps0_1, hostOps0_2, hostOps0_3, hostOps0_4, List.flatten_cons, List.flatten_nil,
    List.append_nil, List.cons_append, List.nil_append]
  after_results_simp

theorem V_up : V m c main_v5 = (truncf .bf16 (m ((c : Thread nD τ).loc main_arg14) : FVec Ideal S1024x2816 .f32) bitsLt_bf16_f32 : FVec Ideal S1024x2816 .bf16) := by
  unfold V
  simp only [hostOps0, hostOps0_1, hostOps0_2, hostOps0_3, hostOps0_4, List.flatten_cons, List.flatten_nil,
    List.append_nil, List.cons_append, List.nil_append]
  after_results_simp

theorem V_down : V m c main_v6 = (truncf .bf16 (m ((c : Thread nD τ).loc main_arg15) : FVec Ideal S2816x1024 .f32) bitsLt_bf16_f32 : FVec Ideal S2816x1024 .bf16) := by
  unfold V
  simp only [hostOps0, hostOps0_1, hostOps0_2, hostOps0_3, hostOps0_4, List.flatten_cons, List.flatten_nil,
    List.append_nil, List.cons_append, List.nil_append]
  after_results_simp

theorem V_yf : V m c main_v7 = (shapeCast S8x4096x256 (m ((c : Thread nD τ).loc main_arg5) : FVec Ideal S8x4096x4x64 .f32) shapeCasts_S8x4096x4x64_S8x4096x256 : FVec Ideal S8x4096x256 .f32) := by
  unfold V
  simp only [hostOps0, hostOps0_1, hostOps0_2, hostOps0_3, hostOps0_4, List.flatten_cons, List.flatten_nil,
    List.append_nil, List.cons_append, List.nil_append]
  after_results_simp
  rfl

theorem V_yb : V m c main_v8 = (shapeCast S8x4096x256 (m ((c : Thread nD τ).loc main_arg6) : FVec Ideal S8x4096x4x64 .f32) shapeCasts_S8x4096x4x64_S8x4096x256 : FVec Ideal S8x4096x256 .f32) := by
  unfold V
  simp only [hostOps0, hostOps0_1, hostOps0_2, hostOps0_3, hostOps0_4, List.flatten_cons, List.flatten_nil,
    List.append_nil, List.cons_append, List.nil_append]
  after_results_simp
  rfl

theorem V_bonus : V m c main_v9 = (shapeCast S8x4096x256 (m ((c : Thread nD τ).loc main_arg7) : FVec Ideal S8x4096x4x64 .f32) shapeCasts_S8x4096x4x64_S8x4096x256 : FVec Ideal S8x4096x256 .f32) := by
  unfold V
  simp only [hostOps0, hostOps0_1, hostOps0_2, hostOps0_3, hostOps0_4, List.flatten_cons, List.flatten_nil,
    List.append_nil, List.cons_append, List.nil_append]
  after_results_simp
  rfl

theorem V_lnw : V m c main_v10 = (shapeCast S1x256 (m ((c : Thread nD τ).loc main_arg9) : FVec Ideal S256 .f32) shapeCasts_S256_S1x256 : FVec Ideal S1x256 .f32) := by
  unfold V
  simp only [hostOps0, hostOps0_1, hostOps0_2, hostOps0_3, hostOps0_4, List.flatten_cons, List.flatten_nil,
    List.append_nil, List.cons_append, List.nil_append]
  after_results_simp
  rfl

theorem V_lnb : V m c main_v11 = (shapeCast S1x256 (m ((c : Thread nD τ).loc main_arg10) : FVec Ideal S256 .f32) shapeCasts_S256_S1x256 : FVec Ideal S1x256 .f32) := by
  unfold V
  simp only [hostOps0, hostOps0_1, hostOps0_2, hostOps0_3, hostOps0_4, List.flatten_cons, List.flatten_nil,
    List.append_nil, List.cons_append, List.nil_append]
  after_results_simp
  rfl

theorem V_norm : V m c main_v12 = (shapeCast S1x1024 (m ((c : Thread nD τ).loc main_arg12) : FVec Ideal S1024 .f32) shapeCasts_S1024_S1x1024 : FVec Ideal S1x1024 .f32) := by
  unfold V
  simp only [hostOps0, hostOps0_1, hostOps0_2, hostOps0_3, hostOps0_4, List.flatten_cons, List.flatten_nil,
    List.append_nil, List.cons_append, List.nil_append]
  after_results_simp
  rfl

end Cert.Mix

end
-- ==== Proof.MixRun.lean ====
/- The run of the mixing call: each grid point writes its own block of the result. -/
module

public import proofs.«01_k».proof.Proof.MixBody
public import proofs.«01_k».proof.Proof.MixHost
public import Idealize.ShloMosaic.Lib.Pipeline.Value
public import Idealize.ShloMosaic.Lib.Pipeline.ValueKit

@[expose] public section

set_option maxRecDepth 16384

noncomputable section

namespace Cert.Mix

open Cert.Kernel2Ideal Cert.Kernel2Ideal.Gen Idealize.ShloMosaic Idealize.ShloMosaic.TcCoe Idealize.SL.Sem Cert.FeedForward
open Idealize.ShloMosaic.Pipeline (Dat)

/-- The grid point of batch `b` and row tile `i`. -/
def pt (b i : Fin 8) : Fin cfg0.N := ⟨8 * b + i, by have : cfg0.N = 64 := rfl; omega⟩

theorem at_0 : ∀ b i : Fin 8, win0_0.index (pt b i) = ![(b : Nat), i, 0] := by decide +kernel
theorem at_1 : ∀ b i : Fin 8, win0_1.index (pt b i) = ![(b : Nat), 0, 0] := by decide +kernel
theorem at_2 : ∀ b i : Fin 8, win0_2.index (pt b i) = ![(b : Nat), i, 0] := by decide +kernel
theorem at_3 : ∀ b i : Fin 8, win0_3.index (pt b i) = ![(b : Nat), i, 0] := by decide +kernel
theorem at_4 : ∀ b i : Fin 8, win0_4.index (pt b i) = ![(b : Nat), i, 0] := by decide +kernel
theorem at_5 : ∀ b i : Fin 8, win0_5.index (pt b i) = ![(b : Nat), i, 0] := by decide +kernel
theorem at_6 : ∀ b i : Fin 8, win0_6.index (pt b i) = ![(b : Nat), i, 0] := by decide +kernel
theorem at_7 : ∀ b i : Fin 8, win0_7.index (pt b i) = ![(b : Nat), i, 0] := by decide +kernel
theorem at_8 : ∀ b i : Fin 8, win0_8.index (pt b i) = ![(b : Nat), i, 0] := by decide +kernel
theorem at_9 : ∀ b i : Fin 8, win0_9.index (pt b i) = ![0, 0] := by decide +kernel
theorem at_10 : ∀ b i : Fin 8, win0_10.index (pt b i) = ![0, 0] := by decide +kernel
theorem at_11 : ∀ b i : Fin 8, win0_11.index (pt b i) = ![0, 0] := by decide +kernel
theorem at_12 : ∀ b i : Fin 8, win0_12.index (pt b i) = ![0, 0] := by decide +kernel
theorem at_13 : ∀ b i : Fin 8, win0_13.index (pt b i) = ![0, 0] := by decide +kernel
theorem at_14 : ∀ b i : Fin 8, win0_14.index (pt b i) = ![0, 0] := by decide +kernel
theorem at_15 : ∀ b i : Fin 8, win0_15.index (pt b i) = ![0, 0] := by decide +kernel
theorem at_16 : ∀ b i : Fin 8, win0_16.index (pt b i) = ![0, 0] := by decide +kernel
theorem at_17 : ∀ b i : Fin 8, win0_17.index (pt b i) = ![(b : Nat), i, 0] := by decide +kernel

section Blocks

variable (b i : Fin 8)

theorem blk_0 (A : Vec Ideal S8x4096x1024 .f32) (r : Fin 512) (d : Fin 1024) :
    ((cfg0.win 0).blk (pt b i)).view.read (Elt Ideal) A (ix3 0 r d) = A (ix3 b ⟨512 * i + r, by omega⟩ d) := by
  blk_ext [at_0]

theorem blk_1 (A : Vec Ideal S8x9x1024 .f32) (q : Fin 9) (d : Fin 1024) :
    ((cfg0.win 1).blk (pt b i)).view.read (Elt Ideal) A (ix3 0 q d) = A (ix3 b q d) := by
  blk_ext [at_1]

theorem blk_2 (A : Vec Ideal S8x4096x256 .bf16) (r : Fin 512) (d : Fin 256) :
    ((cfg0.win 2).blk (pt b i)).view.read (Elt Ideal) A (ix3 0 r d) = A (ix3 b ⟨512 * i + r, by omega⟩ d) := by
  blk_ext [at_2]

theorem blk_3 (A : Vec Ideal S8x4096x256 .bf16) (r : Fin 512) (d : Fin 256) :
    ((cfg0.win 3).blk (pt b i)).view.read (Elt Ideal) A (ix3 0 r d) = A (ix3 b ⟨512 * i + r, by omega⟩ d) := by
  blk_ext [at_3]

theorem blk_4 (A : Vec Ideal S8x4096x256 .bf16) (r : Fin 512) (d : Fin 256) :
    ((cfg0.win 4).blk (pt b i)).view.read (Elt Ideal) A (ix3 0 r d) = A (ix3 b ⟨512 * i + r, by omega⟩ d) := by
  blk_ext [at_4]

theorem blk_5 (A : Vec Ideal S8x4096x256 .f32) (r : Fin 512) (d : Fin 256) :
    ((cfg0.win 5).blk (pt b i)).view.read (Elt Ideal) A (ix3 0 r d) = A (ix3 b ⟨512 * i + r, by omega⟩ d) := by
  blk_ext [at_5]

theorem blk_6 (A : Vec Ideal S8x4096x256 .f32) (r : Fin 512) (d : Fin 256) :
    ((cfg0.win 6).blk (pt b i)).view.read (Elt Ideal) A (ix3 0 r d) = A (ix3 b ⟨512 * i + r, by omega⟩ d) := by
  blk_ext [at_6]

theorem blk_7 (A : Vec Ideal S8x4096x256 .f32) (r : Fin 512) (d : Fin 256) :
    ((cfg0.win 7).blk (pt b i)).view.read (Elt Ideal) A (ix3 0 r d) = A (ix3 b ⟨512 * i + r, by omega⟩ d) := by
  blk_ext [at_7]

theorem blk_8 (A : Vec Ideal S8x4096x256 .f32) (r : Fin 512) (d : Fin 256) :
    ((cfg0.win 8).blk (pt b i)).view.read (Elt Ideal) A (ix3 0 r d) = A (ix3 b ⟨512 * i + r, by omega⟩ d) := by
  blk_ext [at_8]

theorem blk_9 (A : Vec Ideal S1x256 .f32) (d : Fin 256) :
    ((cfg0.win 9).blk (pt b i)).view.read (Elt Ideal) A (ix2 0 d) = A (ix2 0 d) := by
  blk_ext [at_9]

theorem blk_10 (A : Vec Ideal S1x256 .f32) (d : Fin 256) :
    ((cfg0.win 10).blk (pt b i)).view.read (Elt Ideal) A (ix2 0 d) = A (ix2 0 d) := by
  blk_ext [at_10]

theorem blk_11 (A : Vec Ideal S256x256 .bf16) (d : Fin 256) (f : Fin 256) :
    ((cfg0.win 11).blk (pt b i)).view.read (Elt Ideal) A (ix2 d f) = A (ix2 d f) := by
  blk_ext [at_11]

theorem blk_12 (A : Vec Ideal S1024x1024 .bf16) (d : Fin 1024) (f : Fin 1024) :
    ((cfg0.win 12).blk (pt b i)).view.read (Elt Ideal) A (ix2 d f) = A (ix2 d f) := by
  blk_ext [at_12]

theorem blk_13 (A : Vec Ideal S1x1024 .f32) (d : Fin 1024) :
    ((cfg0.win 13).blk (pt b i)).view.read (Elt Ideal) A (ix2 0 d) = A (ix2 0 d) := by
  blk_ext [at_13]

theorem blk_14 (A : Vec Ideal S1024x2816 .bf16) (d : Fin 1024) (f : Fin 2816) :
    ((cfg0.win 14).blk (pt b i)).view.read (Elt Ideal) A (ix2 d f) = A (ix2 d f) := by
  blk_ext [at_14]

theorem blk_15 (A : Vec Ideal S1024x2816 .bf16) (d : Fin 1024) (f : Fin 2816) :
    ((cfg0.win 15).blk (pt b i)).view.read (Elt Ideal) A (ix2 d f) = A (ix2 d f) := by
  blk_ext [at_15]

theorem blk_16 (A : Vec Ideal S2816x1024 .bf16) (d : Fin 2816) (f : Fin 1024) :
    ((cfg0.win 16).blk (pt b i)).view.read (Elt Ideal) A (ix2 d f) = A (ix2 d f) := by
  blk_ext [at_16]

theorem blk_17 (A : Vec Ideal S8x4096x1024 .f32) (r : Fin 512) (d : Fin 1024) :
    ((cfg0.win 17).blk (pt b i)).view.read (Elt Ideal) A (ix3 0 r d) = A (ix3 b ⟨512 * i + r, by omega⟩ d) := by
  blk_ext [at_17]

end Blocks

/-- A block of what the call computes, from the arrays its windows read. -/
theorem out_blocks (X : Vec Ideal S8x4096x1024 .f32) (M : Vec Ideal S8x9x1024 .f32) (HY GQ ML : Vec Ideal S8x4096x256 .bf16)
    (YF YB BO GA : Vec Ideal S8x4096x256 .f32) (LW LB : Vec Ideal S1x256 .f32) (S : Vec Ideal S256x256 .bf16)
    (W : Vec Ideal S1024x1024 .bf16) (G : Vec Ideal S1x1024 .f32) (WG WU : Vec Ideal S1024x2816 .bf16) (WD : Vec Ideal S2816x1024 .bf16)
    (b i : Fin 8) (r : Fin 512) (d : Fin 1024) :
    out0_17 (((cfg0.win 0).blk (pt b i)).view.read (Elt Ideal) X) (((cfg0.win 1).blk (pt b i)).view.read (Elt Ideal) M) (((cfg0.win 2).blk (pt b i)).view.read (Elt Ideal) HY) (((cfg0.win 3).blk (pt b i)).view.read (Elt Ideal) GQ) (((cfg0.win 4).blk (pt b i)).view.read (Elt Ideal) ML) (((cfg0.win 5).blk (pt b i)).view.read (Elt Ideal) YF) (((cfg0.win 6).blk (pt b i)).view.read (Elt Ideal) YB) (((cfg0.win 7).blk (pt b i)).view.read (Elt Ideal) BO) (((cfg0.win 8).blk (pt b i)).view.read (Elt Ideal) GA) (((cfg0.win 9).blk (pt b i)).view.read (Elt Ideal) LW) (((cfg0.win 10).blk (pt b i)).view.read (Elt Ideal) LB) (((cfg0.win 11).blk (pt b i)).view.read (Elt Ideal) S) (((cfg0.win 12).blk (pt b i)).view.read (Elt Ideal) W) (((cfg0.win 13).blk (pt b i)).view.read (Elt Ideal) G) (((cfg0.win 14).blk (pt b i)).view.read (Elt Ideal) WG) (((cfg0.win 15).blk (pt b i)).view.read (Elt Ideal) WU) (((cfg0.win 16).blk (pt b i)).view.read (Elt Ideal) WD) (ix3 0 r d)
      = token (fun k => X (ix3 b ⟨512 * i + r, by omega⟩ k)) (fun k => M (ix3 b 5 k)) (fun k => HY (ix3 b ⟨512 * i + r, by omega⟩ k))
          (fun k => GQ (ix3 b ⟨512 * i + r, by omega⟩ k)) (fun k => ML (ix3 b ⟨512 * i + r, by omega⟩ k))
          (fun k => YF (ix3 b ⟨512 * i + r, by omega⟩ k)) (fun k => YB (ix3 b ⟨512 * i + r, by omega⟩ k))
          (fun k => BO (ix3 b ⟨512 * i + r, by omega⟩ k)) (fun k => GA (ix3 b ⟨512 * i + r, by omega⟩ k))
          (fun k => LW (ix2 0 k)) (fun k => LB (ix2 0 k)) (fun l j => S (ix2 l j)) (fun l d => W (ix2 l d))
          (fun k => M (ix3 b 6 k)) (fun k => M (ix3 b 7 k)) (fun k => M (ix3 b 8 k)) (fun k => G (ix2 0 k))
          (fun d f => WG (ix2 d f)) (fun d f => WU (ix2 d f)) (fun f d => WD (ix2 f d)) d := by
  refine (out_apply _ _ _ _ _ _ _ _ _ _ _ _ _ _ _ _ _ r d).trans ?_
  exact token_congr (fun k => blk_0 b i X r k) (fun k => blk_1 b i M 5 k) (fun k => blk_2 b i HY r k) (fun k => blk_3 b i GQ r k)
    (fun k => blk_4 b i ML r k) (fun k => blk_5 b i YF r k) (fun k => blk_6 b i YB r k) (fun k => blk_7 b i BO r k)
    (fun k => blk_8 b i GA r k) (fun k => blk_9 b i LW k) (fun k => blk_10 b i LB k) (fun l j => blk_11 b i S l j)
    (fun l d => blk_12 b i W l d) (fun k => blk_1 b i M 6 k) (fun k => blk_1 b i M 7 k) (fun k => blk_1 b i M 8 k)
    (fun k => blk_13 b i G k) (fun k f => blk_14 b i WG k f) (fun k f => blk_15 b i WU k f) (fun f k => blk_16 b i WD f k) d

/-- The matrix that averages over a segment. -/
def averaging (l j : Fin 256) : EReal := if (l : Nat) / 64 = j / 64 then ((1 / 64 : ℝ) : EReal) else 0

/-- What the call computes at an entry of its result, from its arguments. -/
def mix (a0 : Vec Ideal S8x4096x1024 .f32) (a1 : Vec Ideal S8x9x1024 .f32) (a2 a3 a4 : Vec Ideal S8x4096x256 .f32)
    (a5 a6 a7 : Vec Ideal S8x4096x4x64 .f32) (a8 : Vec Ideal S8x4096x256 .f32) (a9 a10 : Vec Ideal S256 .f32)
    (a11 : Vec Ideal S1024x1024 .f32) (a12 : Vec Ideal S1024 .f32) (a13 a14 : Vec Ideal S1024x2816 .f32)
    (a15 : Vec Ideal S2816x1024 .f32) (b : Fin 8) (t : Fin 4096) (d : Fin 1024) : EReal :=
  token (fun k => a0 (ix3 b t k)) (fun k => a1 (ix3 b 5 k)) (fun k => a2 (ix3 b t k)) (fun k => a3 (ix3 b t k)) (fun k => a4 (ix3 b t k))
    (fun l => a5 (ix4 b t ⟨l / 64, by omega⟩ ⟨l % 64, by omega⟩)) (fun l => a6 (ix4 b t ⟨l / 64, by omega⟩ ⟨l % 64, by omega⟩))
    (fun l => a7 (ix4 b t ⟨l / 64, by omega⟩ ⟨l % 64, by omega⟩)) (fun l => a8 (ix3 b t l))
    (fun l => a9 (ix1 l)) (fun l => a10 (ix1 l)) averaging (fun l d => a11 (ix2 l d))
    (fun k => a1 (ix3 b 6 k)) (fun k => a1 (ix3 b 7 k)) (fun k => a1 (ix3 b 8 k)) (fun k => a12 (ix1 k))
    (fun d f => a13 (ix2 d f)) (fun d f => a14 (ix2 d f)) (fun f d => a15 (ix2 f d)) d

theorem heads_read (y : FVec Ideal S8x4096x4x64 .f32) (b : Fin 8) (t : Fin 4096) (l : Fin 256) :
    (shapeCast S8x4096x256 y shapeCasts_S8x4096x4x64_S8x4096x256 : FVec Ideal S8x4096x256 .f32) (ix3 b t l)
      = y (ix4 b t ⟨l / 64, by omega⟩ ⟨l % 64, by omega⟩) := by
  simp only [pointwise]

theorem lanes_read (g : FVec Ideal S256 .f32) (k : Fin 256) :
    (shapeCast S1x256 g shapeCasts_S256_S1x256 : FVec Ideal S1x256 .f32) (ix2 0 k) = g (ix1 k) := by
  simp only [pointwise]

theorem norm_read (g : FVec Ideal S1024 .f32) (k : Fin 1024) :
    (shapeCast S1x1024 g shapeCasts_S1024_S1x1024 : FVec Ideal S1x1024 .f32) (ix2 0 k) = g (ix1 k) := by
  simp only [pointwise]

variable (m : (ℓ : Loc nD τ sig) → Buf (Elt Ideal) ℓ) (ρ : Dev nD → PrngReg) (c : Dev nD)

/-- Two grid points write different blocks of the result. -/
theorem result_index : ∀ t t' : Fin cfg0.N, win0_17.index t = win0_17.index t' → t = t' :=
  (by decide +kernel : ∀ t t' : Fin grid0.N, win0_17.index t = win0_17.index t' → t = t')

/-- Every grid point writes its block back. -/
theorem result_flush : ∀ t : Fin cfg0.N, (cfg0.win 17).flush t = true :=
  (by decide +kernel : ∀ t : Fin grid0.N, win0_17.flush t = true)

/-- A block of the result after the run is what its grid point has written back. -/
theorem result_block (t : Fin cfg0.N) :
    ((cfg0.win 17).blk t).view.read (Elt Ideal) ((dats m 0 c).arrAt 17 cfg0.N) = (dats m 0 c).flushed 17 t :=
  (dats m 0 c).read_blk_arrAt_eq_flushed 17
    (fun t t' _ _ hne => (cfg0.win 17).disjoint_blk fun h => hne (result_index t t' h)) cfg0.N t t.isLt (result_flush t)

/-- A block is written back whole. -/
theorem result_cut (t : Fin cfg0.N) (X : Vec Ideal S1x512x1024 .f32) (r : Fin 512) (d : Fin 1024) :
    (cfg0.win 17).cut (grid0.coords t) X (ix3 0 r d) = X (ix3 0 r d) :=
  congrArg X (funext fun a => by fin_cases a <;> rfl)

/-- What a grid point writes back. -/
theorem result_flushed (b i : Fin 8) (r : Fin 512) (d : Fin 1024) :
    (dats m 0 c).flushed 17 (pt b i) (ix3 0 r d)
      = mix (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) b ⟨512 * i + r, by omega⟩ d := by
  have h : (dats m 0 c).flushed 17 (pt b i) = (cfg0.win 17).cut (grid0.coords (pt b i)) ((dats m 0 c).after 17 (pt b i)) := rfl
  rw [h, after0_17]
  refine (result_cut _ _ r d).trans ?_
  refine (out_blocks (V m c main_arg0) (V m c main_arg1) (V m c main_v0) (V m c main_v1) (V m c main_v2) (V m c main_v7) (V m c main_v8)
    (V m c main_v9) (V m c main_arg8) (V m c main_v10) (V m c main_v11) (V m c main_v24) (V m c main_v3) (V m c main_v12) (V m c main_v4)
    (V m c main_v5) (V m c main_v6) b i r d).trans ?_
  rw [V_main_arg0, V_main_arg1, V_main_arg8, V_hy, V_gq, V_ml, V_out, V_gate, V_up, V_down, V_yf, V_yb, V_bonus, V_lnw, V_lnb, V_norm]
  exact token_congr (fun _ => rfl) (fun _ => rfl) (fun _ => rfl) (fun _ => rfl) (fun _ => rfl) (fun l => heads_read _ b _ l)
    (fun l => heads_read _ b _ l) (fun l => heads_read _ b _ l) (fun _ => rfl) (fun l => lanes_read _ l) (fun l => lanes_read _ l)
    (fun l j => V_seg m c l j) (fun _ _ => rfl) (fun _ => rfl) (fun _ => rfl) (fun _ => rfl) (fun k => norm_read _ k)
    (fun _ _ => rfl) (fun _ _ => rfl) (fun _ _ => rfl) d

/-- The result after the run, entry by entry. -/
theorem result_at (b i : Fin 8) (r : Fin 512) (d : Fin 1024) :
    (dats m 0 c).arrAt 17 cfg0.N (ix3 b ⟨512 * i + r, by omega⟩ d)
      = mix (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) b ⟨512 * i + r, by omega⟩ d :=
  ((blk_17 b i ((dats m 0 c).arrAt 17 cfg0.N) r d).symm.trans
    (congrFun (result_block m c (pt b i)) (ix3 0 r d))).trans (result_flushed m c b i r d)

/-- The run: every entry of the result, and the arguments as launched. -/
theorem run_result : θ_run defs (onTc (τ := τ) (main (F := Ideal))) ⟨m, fun _ => 0, ρ⟩ fun r => ∀ c : Dev nD,
      r.2.mem ((c : Thread nD τ).loc main_v25) = (dats m 0 c).arrAt 17 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun _ h c => ⟨(h c).1 17,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 8).trans (((dats m 0 c).arrAt_in 8 rfl _).trans ((A_eq m c 8).trans (V_main_arg8 m c))),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩) (run_main m ρ)

end Cert.Mix

end
-- ==== Proof.MixReference.lean ====
/- The mixing reference at an index. -/
module

public import proofs.«01_k».proof.Proof.Gen.Reference2Ideal.Read
public import proofs.«01_k».proof.Proof.Readout
public import proofs.«01_k».proof.Proof.Reference

@[expose] public section

set_option maxRecDepth 16384

noncomputable section

namespace Cert.Mix

open Cert.Reference2Ideal Cert.Reference2Ideal.Gen Cert.Reference2Ideal.Read Idealize.ShloMosaic Cert.FeedForward

variable (x0 : Vec Ideal S8x4096x1024 .f32) (x1 : Vec Ideal S8x9x1024 .f32) (x2 x3 x4 : Vec Ideal S8x4096x256 .f32)
  (x5 x6 x7 : Vec Ideal S8x4096x4x64 .f32) (x8 : Vec Ideal S8x4096x256 .f32) (x9 x10 : Vec Ideal S256 .f32)
  (x11 : Vec Ideal S1024x1024 .f32) (x12 : Vec Ideal S1024 .f32) (x13 x14 : Vec Ideal S1024x2816 .f32)
  (x15 : Vec Ideal S2816x1024 .f32) (b : Fin 8) (t : Fin 4096)

/-- A token's row of an array kept by heads. -/
def byLane (y : Vec Ideal S8x4096x4x64 .f32) (l : Fin 256) : EReal := y (ix4 b t ⟨l / 64, by omega⟩ ⟨l % 64, by omega⟩)

theorem byLane_at (y : Vec Ideal S8x4096x4x64 .f32) (h : Fin 4) (e : Fin 64) :
    byLane b t y ⟨64 * h + e, by omega⟩ = y (ix4 b t h e) :=
  congrArg y (Cert.Reference.ix4_congr rfl rfl (by show (64 * (h : Nat) + e) / 64 = h; omega) (by show (64 * (h : Nat) + e) % 64 = e; omega))

/-- A token's row of the two scans' sum. -/
def both (l : Fin 256) : EReal := byLane b t x5 l + byLane b t x6 l

/-- The mean over a head's entries, of any array. -/
theorem mean_apply (y : FVec Ideal S8x4096x4x64 .f32) (h : Fin 4) :
    Host.divf (broadcastInDim S8x4096x4x1 ![0, 1, 2] bcast_S8x4096x4_S8x4096x4x1_0_1_2
        (Host.reduceAdd y (val_main_cst (F := Ideal)) reducesTo_S8x4096x4x64_S8x4096x4_d3 h_S_ : FVec Ideal S8x4096x4 .f32) : FVec Ideal S8x4096x4x1 .f32)
      (val_main_v3 (F := Ideal)) (ix4 b t h 0)
      = Ideal.div (∑ e : Fin 64, (y (ix4 b t h e) : EReal)) (word 0x42800000#32) := by
  have hs : (Host.reduceAdd y (val_main_cst (F := Ideal)) reducesTo_S8x4096x4x64_S8x4096x4_d3 h_S_ : FVec Ideal S8x4096x4 .f32) (ix3 b t h)
      = ∑ e : Fin 64, (y (ix4 b t h e) : EReal) := by
    unfold val_main_cst
    simp only [pointwise]
    rw [zero_add]
  generalize (Host.reduceAdd y (val_main_cst (F := Ideal)) reducesTo_S8x4096x4x64_S8x4096x4_d3 h_S_ : FVec Ideal S8x4096x4 .f32) = R at hs
  unfold val_main_v3 val_main_cst_0
  simp only [pointwise]
  rw [← hs]
  rfl

theorem v0_apply (h : Fin 4) (e : Fin 64) : val_main_v0 (F := Ideal) x5 x6 (ix4 b t h e) = both x5 x6 b t ⟨64 * h + e, by omega⟩ := by
  unfold both
  rw [byLane_at, byLane_at]
  rfl

theorem groupMean_at (y : Fin 256 → EReal) (h : Fin 4) (e : Fin 64) :
    groupMean y ⟨64 * h + e, by omega⟩ = Ideal.div (∑ e : Fin 64, y ⟨64 * h + e, by omega⟩) (word 0x42800000#32) := by
  unfold groupMean
  refine congrArg (fun s => Ideal.div s (word 0x42800000#32)) (Finset.sum_congr rfl fun e' _ => congrArg y (Fin.ext ?_))
  show 64 * ((64 * (h : Nat) + e) / 64) + e' = 64 * h + e'
  omega

theorem v4_apply (h : Fin 4) (e : Fin 64) : val_main_v4 (F := Ideal) x5 x6 (ix4 b t h 0) = groupMean (both x5 x6 b t) ⟨64 * h + e, by omega⟩ := by
  rw [groupMean_at]
  refine (mean_apply b t (val_main_v0 (F := Ideal) x5 x6) h).trans ?_
  simp only [v0_apply]

theorem v6_apply (h : Fin 4) (e : Fin 64) : val_main_v6 (F := Ideal) x5 x6 (ix4 b t h e) = centred (both x5 x6 b t) ⟨64 * h + e, by omega⟩ := by
  have h4 := v4_apply x5 x6 b t h e
  have h0 := v0_apply x5 x6 b t h e
  unfold val_main_v6 val_main_v5 centred
  generalize val_main_v4 (F := Ideal) x5 x6 = M at h4 ⊢
  generalize val_main_v0 (F := Ideal) x5 x6 = Y at h0 ⊢
  simp only [pointwise]
  rw [← h4, ← h0]
  simp

theorem v11_apply (h : Fin 4) (e : Fin 64) : val_main_v11 (F := Ideal) x5 x6 (ix4 b t h 0)
    = groupMean (fun l => centred (both x5 x6 b t) l * centred (both x5 x6 b t) l) ⟨64 * h + e, by omega⟩ := by
  rw [groupMean_at]
  refine (mean_apply b t (val_main_v7 (F := Ideal) x5 x6) h).trans ?_
  have h7 : ∀ e, val_main_v7 (F := Ideal) x5 x6 (ix4 b t h e) = centred (both x5 x6 b t) ⟨64 * h + e, by omega⟩ * centred (both x5 x6 b t) ⟨64 * h + e, by omega⟩ := by
    intro e
    have h6 := v6_apply x5 x6 b t h e
    unfold val_main_v7
    generalize val_main_v6 (F := Ideal) x5 x6 = M at h6 ⊢
    simp only [pointwise]
    rw [h6]
  simp only [h7]

/-- A normalised entry. -/
theorem v18_apply (h : Fin 4) (e : Fin 64) : val_main_v18 (F := Ideal) x5 x6 (ix4 b t h e)
    = centred (both x5 x6 b t) ⟨64 * h + e, by omega⟩
      * Ideal.rsqrt (groupMean (fun l => centred (both x5 x6 b t) l * centred (both x5 x6 b t) l) ⟨64 * h + e, by omega⟩ + word 0x3A27C5AC#32) := by
  have h11 := v11_apply x5 x6 b t h e
  have h6 : val_main_v13 (F := Ideal) x5 x6 (ix4 b t h e) = _ := v6_apply x5 x6 b t h e
  unfold val_main_v18 val_main_v17 val_main_v16 val_main_v15 val_main_v14 val_main_cst_3
  generalize val_main_v11 (F := Ideal) x5 x6 = M at h11 ⊢
  generalize val_main_v13 (F := Ideal) x5 x6 = Y at h6 ⊢
  rw [← h11, ← h6]
  simp only [pointwise]
  simp [word]

theorem flat_apply (y : FVec Ideal S8x4096x4x64 .f32) (l : Fin 256) :
    (shapeCast S8x4096x256 y shapeCasts_S8x4096x4x64_S8x4096x256 : FVec Ideal S8x4096x256 .f32) (ix3 b t l) = byLane b t y l := by
  unfold byLane
  simp only [pointwise]

/-- The readout. -/
theorem v28_apply (l : Fin 256) : val_main_v28 (F := Ideal) x5 x6 x7 x8 x9 x10 (ix3 b t l)
    = readout (both x5 x6 b t) (fun l => x9 (ix1 l)) (fun l => x10 (ix1 l)) (byLane b t x7) (fun l => x8 (ix3 b t l)) l := by
  have h19 : val_main_v19 (F := Ideal) x5 x6 (ix3 b t l) = _ := (flat_apply b t _ l).trans (v18_apply x5 x6 b t _ _)
  have h26 : val_main_v26 (F := Ideal) x7 (ix3 b t l) = _ := flat_apply b t x7 l
  have hl : (⟨64 * (l / 64) + l % 64, by omega⟩ : Fin 256) = l := Fin.ext (by show 64 * ((l : Nat) / 64) + l % 64 = l; omega)
  rw [hl] at h19
  unfold val_main_v28 val_main_v27 val_main_v25 val_main_v24 val_main_v23 val_main_v22 val_main_v21 val_main_v20
  generalize val_main_v19 (F := Ideal) x5 x6 = Y at h19 ⊢
  generalize val_main_v26 (F := Ideal) x7 = Z at h26 ⊢
  simp only [pointwise]
  rw [h19, h26]
  simp [readout]

/-- The four groups side by side. -/
theorem v29_apply (l : Fin 1024) : val_main_v29 (F := Ideal) x2 x3 x4 x5 x6 x7 x8 x9 x10 (ix3 b t l)
    = sideBySide (fun j => x2 (ix3 b t j)) (fun j => x3 (ix3 b t j)) (fun j => x4 (ix3 b t j))
        (readout (both x5 x6 b t) (fun l => x9 (ix1 l)) (fun l => x10 (ix1 l)) (byLane b t x7) (fun l => x8 (ix3 b t l))) l := by
  have h28 : (fun j => val_main_v28 (F := Ideal) x5 x6 x7 x8 x9 x10 (ix3 b t j)) = _ := funext (v28_apply x5 x6 x7 x8 x9 x10 b t)
  rw [← sideBySide_parts, ← h28]
  unfold val_main_v29 parts
  generalize val_main_v28 (F := Ideal) x5 x6 x7 x8 x9 x10 = Y
  simp only [pointwise]
  simp

theorem dot_mix (h : FVec Ideal S8x4096x1024 .f32) (w : FVec Ideal S1024x1024 .f32) (d : Fin 1024) :
    Host.dotGeneral dot_S8x4096x1024_S1024x1024_S8x4096x1024_2_0_01_1_n_n none h w (ix3 b t d)
      = ∑ l : Fin 1024, (h (ix3 b t l) * w (ix2 l d) : EReal) := by
  simp only [pointwise]
  rw [zero_add]

theorem dot_up (h : FVec Ideal S8x4096x1024 .f32) (w : FVec Ideal S1024x2816 .f32) (f : Fin 2816) :
    Host.dotGeneral dot_S8x4096x1024_S1024x2816_S8x4096x2816_2_0_01_1_n_n none h w (ix3 b t f)
      = ∑ d : Fin 1024, (h (ix3 b t d) * w (ix2 d f) : EReal) := by
  simp only [pointwise]
  rw [zero_add]

theorem dot_down (h : FVec Ideal S8x4096x2816 .f32) (w : FVec Ideal S2816x1024 .f32) (d : Fin 1024) :
    Host.dotGeneral dot_S8x4096x2816_S2816x1024_S8x4096x1024_2_0_01_1_n_n none h w (ix3 b t d)
      = ∑ f : Fin 2816, (h (ix3 b t f) * w (ix2 f d) : EReal) := by
  simp only [pointwise]
  rw [zero_add]

/-- A token's row of the stream after the mixing. -/
def stream (d : Fin 1024) : EReal :=
  mixed (fun k => x0 (ix3 b t k)) (fun k => x1 (ix3 b 5 k))
    (sideBySide (fun j => x2 (ix3 b t j)) (fun j => x3 (ix3 b t j)) (fun j => x4 (ix3 b t j))
      (readout (both x5 x6 b t) (fun l => x9 (ix1 l)) (fun l => x10 (ix1 l)) (byLane b t x7) (fun l => x8 (ix3 b t l))))
    (fun l d => x11 (ix2 l d)) d

theorem v36_apply (d : Fin 1024) : val_main_v36 (F := Ideal) x0 x1 x2 x3 x4 x5 x6 x7 x8 x9 x10 x11 (ix3 b t d)
    = stream x0 x1 x2 x3 x4 x5 x6 x7 x8 x9 x10 x11 b t d := by
  have h30 : val_main_v30 (F := Ideal) x2 x3 x4 x5 x6 x7 x8 x9 x10 x11 (ix3 b t d) = _ := dot_mix b t _ _ d
  simp only [v29_apply] at h30
  unfold val_main_v36 val_main_v35 val_main_v34 val_main_v33 val_main_v32 val_main_v31
  generalize val_main_v30 (F := Ideal) x2 x3 x4 x5 x6 x7 x8 x9 x10 x11 = M at h30 ⊢
  simp only [pointwise]
  rw [h30]
  simp [stream, mixed, col]

/-- The sum of a row's squares. -/
theorem squares_apply (X : FVec Ideal S8x4096x1024 .f32) :
    (Host.reduceAdd (mulf X X) (val_main_cst_5 (F := Ideal)) reducesTo_S8x4096x1024_S8x4096_d2 h_S_ : FVec Ideal S8x4096 .f32) (ix2 b t)
      = ∑ d : Fin 1024, (X (ix3 b t d) * X (ix3 b t d) : EReal) := by
  unfold val_main_cst_5
  simp only [pointwise]
  rw [zero_add]

/-- The normalised and modulated token. -/
theorem v66_apply (d : Fin 1024) : val_main_v66 (F := Ideal) x0 x1 x2 x3 x4 x5 x6 x7 x8 x9 x10 x11 x12 (ix3 b t d)
    = normed (stream x0 x1 x2 x3 x4 x5 x6 x7 x8 x9 x10 x11 b t) (fun k => x1 (ix3 b 6 k)) (fun k => x1 (ix3 b 7 k)) (fun k => x12 (ix1 k)) d := by
  have hx : (fun d => val_main_v36 (F := Ideal) x0 x1 x2 x3 x4 x5 x6 x7 x8 x9 x10 x11 (ix3 b t d)) = _ :=
    funext (v36_apply x0 x1 x2 x3 x4 x5 x6 x7 x8 x9 x10 x11 b t)
  rw [← hx]
  simp only [val_main_v66, val_main_v65, val_main_v64, val_main_v63, val_main_v62, val_main_v61, val_main_v60, val_main_v59,
    val_main_v58, val_main_v57, val_main_v56, val_main_v55, val_main_v54, val_main_v53, val_main_v52, val_main_v51, val_main_v50,
    val_main_v49, val_main_v48, val_main_v47, val_main_v46, val_main_v45, val_main_v44, val_main_v43, val_main_v42,
    val_main_cst_6, val_main_cst_7, val_main_cst_8]
  generalize val_main_v36 (F := Ideal) x0 x1 x2 x3 x4 x5 x6 x7 x8 x9 x10 x11 = X
  have hs := squares_apply b t X
  generalize (Host.reduceAdd (mulf X X) (val_main_cst_5 (F := Ideal)) reducesTo_S8x4096x1024_S8x4096_d2 h_S_ : FVec Ideal S8x4096 .f32) = S at hs ⊢
  simp only [pointwise]
  simp [normed, scaleOf, hs, mul_assoc]

theorem v67_apply (f : Fin 2816) : val_main_v67 (F := Ideal) x0 x1 x2 x3 x4 x5 x6 x7 x8 x9 x10 x11 x12 x13 (ix3 b t f)
    = col (normed (stream x0 x1 x2 x3 x4 x5 x6 x7 x8 x9 x10 x11 b t) (fun k => x1 (ix3 b 6 k)) (fun k => x1 (ix3 b 7 k)) (fun k => x12 (ix1 k)))
        (fun d f => x13 (ix2 d f)) f := by
  unfold val_main_v67
  refine (dot_up b t _ _ f).trans (Finset.sum_congr rfl fun d _ => ?_)
  rw [v66_apply]

/-- The gated product of a token. -/
theorem v70_apply (f : Fin 2816) : val_main_v70 (F := Ideal) x0 x1 x2 x3 x4 x5 x6 x7 x8 x9 x10 x11 x12 x13 x14 (ix3 b t f)
    = Cert.FeedForward.hidden
        (normed (stream x0 x1 x2 x3 x4 x5 x6 x7 x8 x9 x10 x11 b t) (fun k => x1 (ix3 b 6 k)) (fun k => x1 (ix3 b 7 k)) (fun k => x12 (ix1 k)))
        (fun d f => x13 (ix2 d f)) (fun d f => x14 (ix2 d f)) f := by
  have ha := v67_apply x0 x1 x2 x3 x4 x5 x6 x7 x8 x9 x10 x11 x12 x13 b t f
  have hu : val_main_v69 (F := Ideal) x0 x1 x2 x3 x4 x5 x6 x7 x8 x9 x10 x11 x12 x14 (ix3 b t f) = _ :=
    v67_apply x0 x1 x2 x3 x4 x5 x6 x7 x8 x9 x10 x11 x12 x14 b t f
  unfold val_main_v70 val_main_v68 val_main_call0_v5 val_main_call0_v4 val_main_call0_v3 val_main_call0_v2
    val_main_call0_v1 val_main_call0_v0 val_main_call0_cst val_main_call0_cst_0
  generalize val_main_v67 (F := Ideal) x0 x1 x2 x3 x4 x5 x6 x7 x8 x9 x10 x11 x12 x13 = A at ha ⊢
  generalize val_main_v69 (F := Ideal) x0 x1 x2 x3 x4 x5 x6 x7 x8 x9 x10 x11 x12 x14 = U at hu ⊢
  simp only [pointwise]
  rw [ha, hu]
  rfl

/-- The half of the gate. -/
theorem v72_apply (d : Fin 1024) : val_main_v72 (F := Ideal) x1 (ix3 b t d) = word 0x3F000000#32 * x1 (ix3 b 8 d) := by
  unfold val_main_v72 val_main_v41 val_main_v40 val_main_cst_4 val_main_v39 val_main_v38 val_main_v37
  simp only [pointwise]
  simp

/-- The reference's result at an index. -/
theorem v74_apply (d : Fin 1024) : val_main_v74 (F := Ideal) x0 x1 x2 x3 x4 x5 x6 x7 x8 x9 x10 x11 x12 x13 x14 x15 (ix3 b t d)
    = step (stream x0 x1 x2 x3 x4 x5 x6 x7 x8 x9 x10 x11 b t) (fun k => x1 (ix3 b 6 k)) (fun k => x1 (ix3 b 7 k)) (fun k => x1 (ix3 b 8 k))
        (fun k => x12 (ix1 k)) (fun d f => x13 (ix2 d f)) (fun d f => x14 (ix2 d f)) (fun f d => x15 (ix2 f d)) d := by
  have hd : val_main_v71 (F := Ideal) x0 x1 x2 x3 x4 x5 x6 x7 x8 x9 x10 x11 x12 x13 x14 x15 (ix3 b t d) = _ := dot_down b t _ _ d
  simp only [v70_apply] at hd
  have hx := v36_apply x0 x1 x2 x3 x4 x5 x6 x7 x8 x9 x10 x11 b t d
  have hg := v72_apply x1 b t d
  unfold val_main_v74 val_main_v73
  generalize val_main_v71 (F := Ideal) x0 x1 x2 x3 x4 x5 x6 x7 x8 x9 x10 x11 x12 x13 x14 x15 = D at hd ⊢
  generalize val_main_v72 (F := Ideal) x1 = G at hg ⊢
  generalize val_main_v36 (F := Ideal) x0 x1 x2 x3 x4 x5 x6 x7 x8 x9 x10 x11 = X at hx ⊢
  simp only [pointwise]
  rw [hd, hg, hx]
  rfl

end Cert.Mix

end
-- ==== Proof.MixValue.lean ====
/-
  The mixing call's result is the reference's: with finite scans the kernel's product with the averaging matrix is the
  mean of a segment.
-/
module

public import proofs.«01_k».proof.Proof.MixRun
public import proofs.«01_k».proof.Proof.MixReference
public import proofs.«01_k».proof.Proof.Value

@[expose] public section

set_option maxRecDepth 16384

noncomputable section

namespace Cert.Mix

open Cert.Kernel2Ideal Cert.Kernel2Ideal.Gen Idealize.ShloMosaic Idealize.ShloMosaic.TcCoe Cert.FeedForward
open Cert.Attention (real_of_abs bits_inf)

variable (a0 : Vec Ideal S8x4096x1024 .f32) (a1 : Vec Ideal S8x9x1024 .f32) (a2 a3 a4 : Vec Ideal S8x4096x256 .f32)
  (a5 a6 a7 : Vec Ideal S8x4096x4x64 .f32) (a8 : Vec Ideal S8x4096x256 .f32) (a9 a10 : Vec Ideal S256 .f32)
  (a11 : Vec Ideal S1024x1024 .f32) (a12 : Vec Ideal S1024 .f32) (a13 a14 : Vec Ideal S1024x2816 .f32)
  (a15 : Vec Ideal S2816x1024 .f32)

/-- The precondition: every entry of the two scans is a real number. -/
theorem finite [Cert.Pre_finite_states.Facts]
    (h : Cert.Pre_finite_states.fn (F := Ideal) a0 a1 a2 a3 a4 a5 a6 a7 a8 a9 a10 a11 a12 a13 a14 a15 = fun _ => 1#1) :
    (∀ i, (((a5 i : EReal).toReal : ℝ) : EReal) = a5 i) ∧ (∀ i, (((a6 i : EReal).toReal : ℝ) : EReal) = a6 i) := by
  have h0 := congrFun h ix0
  unfold Cert.Pre_finite_states.fn at h0
  obtain ⟨h5, h6⟩ := IntOp.andi_eq_one.1 h0
  have : Subsingleton (Cert.Pre_finite_states.S_).Idx := ⟨fun a b => funext fun k => k.elim0⟩
  refine ⟨fun i => real_of_abs ?_, fun i => real_of_abs ?_⟩
  · exact (congrArg (Ideal.cmp .olt _) bits_inf.symm).trans (Host.reduce_andi_all _ _ _ _ _ h5 i)
  · exact (congrArg (Ideal.cmp .olt _) bits_inf.symm).trans (Host.reduce_andi_all _ _ _ _ _ h6 i)

/-- What the call computes, with finite scans, is what the reference does. -/
theorem mix_eq (h5 : ∀ i, (((a5 i : EReal).toReal : ℝ) : EReal) = a5 i) (h6 : ∀ i, (((a6 i : EReal).toReal : ℝ) : EReal) = a6 i)
    (b : Fin 8) (t : Fin 4096) (d : Fin 1024) :
    mix a0 a1 a2 a3 a4 a5 a6 a7 a8 a9 a10 a11 a12 a13 a14 a15 b t d
      = Cert.Reference2Ideal.Read.val_main_v74 (F := Ideal) a0 a1 a2 a3 a4 a5 a6 a7 a8 a9 a10 a11 a12 a13 a14 a15 (ix3 b t d) := by
  have hy : ∀ l, (((both a5 a6 b t l).toReal : ℝ) : EReal) = both a5 a6 b t l := by
    intro l
    unfold both byLane
    rw [← h5, ← h6, ← EReal.coe_add, EReal.toReal_coe]
  have hr : readoutSeg averaging (both a5 a6 b t) (fun l => a9 (ix1 l)) (fun l => a10 (ix1 l)) (byLane b t a7) (fun l => a8 (ix3 b t l))
      = readout (both a5 a6 b t) (fun l => a9 (ix1 l)) (fun l => a10 (ix1 l)) (byLane b t a7) (fun l => a8 (ix3 b t l)) :=
    funext fun j => readoutSeg_eq _ _ _ _ hy (fun _ _ => rfl) j
  rw [v74_apply]
  unfold stream
  rw [← hr]
  rfl

variable (m : (ℓ : Loc nD τ sig) → Buf (Elt Ideal) ℓ) (c : Dev nD)

/-- The kernel's result is the reference's. -/
theorem result_value [Cert.Pre_finite_states.Facts] (hm : Cert.Pre_Kernel2Ideal_finite_states m) :
    (dats m 0 c).arrAt 17 cfg0.N = Cert.Reference2Ideal.Read.val_main_v74 (F := Ideal)
        (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14)) (m ((c : Thread nD τ).loc main_arg15)) := by
  obtain ⟨h5, h6⟩ := finite _ _ _ _ _ _ _ _ _ _ _ _ _ _ _ _ (hm c)
  funext j
  idx_vars j
  obtain ⟨i, r, hi⟩ : ∃ (i : Fin 8) (r : Fin 512), j1 = ⟨512 * i + r, by omega⟩ :=
    ⟨⟨j1 / 512, by have := j1.isLt; omega⟩, ⟨j1 % 512, by omega⟩,
      Fin.ext (by show (j1 : Nat) = 512 * (j1 / 512) + j1 % 512; omega)⟩
  subst hi
  exact (result_at m c j0 i r j2).trans (mix_eq _ _ _ _ _ _ _ _ _ _ _ _ _ _ _ _ h5 h6 j0 _ j2)

end Cert.Mix

end
-- ==== Proof.Ffn3Body.lean ====
/- The feed-forward call's grid point, at an index. -/
module

public import proofs.«01_k».proof.Proof.Gen.Kernel3Ideal.Frame
public import proofs.«01_k».proof.Proof.Swiglu

@[expose] public section

set_option maxRecDepth 16384

noncomputable section

namespace Cert.FeedForward

open Cert.Kernel3Ideal Cert.Kernel3Ideal.Gen Idealize.ShloMosaic

/-- The reciprocal root of a row's mean of squares. -/
theorem rows_scale (x : FVec Ideal S512x1024 .f32) (r : Fin 512) :
    multiReduction .add [1] S512 (mulf x x) 0x00000000#32 reduces_S512x1024_S512 (.inl rfl) rfl (ix1 r)
      = ∑ d : Fin 1024, (x (ix2 r d) * x (ix2 r d) : EReal) := by
  simp only [pointwise]

theorem pay2_apply (x : Vec Ideal S1x512x1024 .f32) (r : Fin 512) (d : Fin 1024) :
    k0_pay2 x (ix2 r d) = x (ix3 0 r d) := by
  unfold k0_pay2
  simp only [pointwise]

theorem pay3_apply (x : Vec Ideal S1x512x1024 .f32) (g : Vec Ideal S1x1024 .f32) (sh sc : Vec Ideal S1x1x1024 .f32)
    (r : Fin 512) (d : Fin 1024) :
    k0_pay3 x g sh sc (ix2 r d)
      = normed (fun k => x (ix3 0 r k)) (fun k => sh (ix3 0 0 k)) (fun k => sc (ix3 0 0 k)) (fun k => g (ix2 0 k)) d := by
  have hx : ∀ r d, k0_pay2 x (ix2 r d) = x (ix3 0 r d) := pay2_apply x
  unfold k0_pay3
  generalize k0_pay2 x = X at hx
  have hs := rows_scale X r
  generalize multiReduction .add [1] S512 (mulf X X) 0x00000000#32 reduces_S512x1024_S512 (.inl rfl) rfl = S at hs
  simp only [pointwise]
  simp [hs, hx, normed, scaleOf]

/-- A product of rows with a matrix of the first layer. -/
theorem rows_up (h : FVec Ideal S512x1024 .bf16) (w : FVec Ideal S1024x2816 .bf16) (r : Fin 512) (f : Fin 2816) :
    matmul dot_S512x1024_S1024x2816_S512x2816_1_0_0_1_n_n none h w (constant S512x2816 .f32 0x00000000#32) (ix2 r f)
      = ∑ d : Fin 1024, (h (ix2 r d) * w (ix2 d f) : EReal) := by
  simp only [pointwise]
  rw [zero_add]

/-- A product of rows with the second layer's matrix. -/
theorem rows_down (h : FVec Ideal S512x2816 .bf16) (w : FVec Ideal S2816x1024 .bf16) (r : Fin 512) (d : Fin 1024) :
    matmul dot_S512x2816_S2816x1024_S512x1024_1_0_0_1_n_n none h w (constant S512x1024 .f32 0x00000000#32) (ix2 r d)
      = ∑ f : Fin 2816, (h (ix2 r f) * w (ix2 f d) : EReal) := by
  simp only [pointwise]
  rw [zero_add]

theorem pay4_apply (x : Vec Ideal S1x512x1024 .f32) (g : Vec Ideal S1x1024 .f32) (sh sc : Vec Ideal S1x1x1024 .f32)
    (w : Vec Ideal S1024x2816 .bf16) (r : Fin 512) (f : Fin 2816) :
    k0_pay4 x g sh sc w (ix2 r f)
      = col (normed (fun k => x (ix3 0 r k)) (fun k => sh (ix3 0 0 k)) (fun k => sc (ix3 0 0 k)) (fun k => g (ix2 0 k)))
          (fun d f => w (ix2 d f)) f := by
  unfold k0_pay4
  refine (rows_up _ _ r f).trans (Finset.sum_congr rfl fun d _ => ?_)
  rw [pay3_apply, shapeCast_id]

theorem pay5_apply (x : Vec Ideal S1x512x1024 .f32) (g : Vec Ideal S1x1024 .f32) (sh sc : Vec Ideal S1x1x1024 .f32)
    (w : Vec Ideal S1024x2816 .bf16) (r : Fin 512) (f : Fin 2816) :
    k0_pay5 x g sh sc w (ix2 r f)
      = col (normed (fun k => x (ix3 0 r k)) (fun k => sh (ix3 0 0 k)) (fun k => sc (ix3 0 0 k)) (fun k => g (ix2 0 k)))
          (fun d f => w (ix2 d f)) f :=
  pay4_apply x g sh sc w r f

theorem pay6_apply (x : Vec Ideal S1x512x1024 .f32) (g : Vec Ideal S1x1024 .f32) (sh sc : Vec Ideal S1x1x1024 .f32)
    (w : Vec Ideal S1024x2816 .bf16) (r : Fin 512) (f : Fin 2816) :
    k0_pay6 x g sh sc w (ix2 r f) = Ideal.exp (-(k0_pay4 x g sh sc w (ix2 r f))) := by
  unfold k0_pay6
  generalize k0_pay4 x g sh sc w = A
  simp only [pointwise]
  rw [zero_sub]

theorem pay1_apply (x : FVec Ideal S512x1024 .f32) (a u e : FVec Ideal S512x2816 .f32) (wd : Vec Ideal S2816x1024 .bf16)
    (gate : Vec Ideal S1x1x1024 .f32) (r : Fin 512) (d : Fin 1024) :
    k0_pay1 x a u e (Scalar.ofBits .f32 0x3F800000#32) wd gate (ix3 0 r d)
      = x (ix2 r d) + word 0x3F000000#32 * gate (ix3 0 0 d)
          * ∑ f : Fin 2816, (a (ix2 r f) * Ideal.div 1 (1 + e (ix2 r f)) * u (ix2 r f) * wd (ix2 f d) : EReal) := by
  unfold k0_pay1
  simp only [pointwise]
  simp

/-- The block a grid point writes, from the blocks it reads. -/
theorem out_apply (x : Vec Ideal S1x512x1024 .f32) (md : Vec Ideal S1x9x1024 .f32) (g : Vec Ideal S1x1024 .f32)
    (wg wu : Vec Ideal S1024x2816 .bf16) (wd : Vec Ideal S2816x1024 .bf16) (r : Fin 512) (d : Fin 1024) :
    out0_6 x md g wg wu wd (ix3 0 r d)
      = step (fun k => x (ix3 0 r k)) (fun k => md (ix3 0 0 k)) (fun k => md (ix3 0 1 k)) (fun k => md (ix3 0 2 k))
          (fun k => g (ix2 0 k)) (fun d f => wg (ix2 d f)) (fun d f => wu (ix2 d f)) (fun f d => wd (ix2 f d)) d := by
  unfold out0_6
  rw [View.canon_unit_zero (by decide), pay1_apply]
  simp only [pay6_apply, pay4_apply, pay5_apply, pay2_apply]
  simp only [pointwise]
  simp [step, hidden, silu, col]

end Cert.FeedForward

end
-- ==== Proof.Ffn3Run.lean ====
/- The run of the feed-forward call: each grid point writes its own block of the result. -/
module

public import proofs.«01_k».proof.Proof.Ffn3Body
public import Idealize.ShloMosaic.Lib.Pipeline.Value
public import Idealize.ShloMosaic.Lib.Pipeline.ValueKit
public import Idealize.ShloMosaic.Lib.StableHlo.ReadAt

@[expose] public section

set_option maxRecDepth 16384

noncomputable section

namespace Cert.FeedForward

open Cert.Kernel3Ideal Cert.Kernel3Ideal.Gen Idealize.ShloMosaic Idealize.ShloMosaic.TcCoe Idealize.SL.Sem
open Idealize.ShloMosaic.Pipeline (Dat)

/-- The grid point of batch `b` and row tile `i`. -/
def pt (b i : Fin 8) : Fin cfg0.N := ⟨8 * b + i, by have : cfg0.N = 64 := rfl; omega⟩

theorem at_0 : ∀ b i : Fin 8, win0_0.index (pt b i) = ![(b : Nat), i, 0] := by decide +kernel
theorem at_1 : ∀ b i : Fin 8, win0_1.index (pt b i) = ![(b : Nat), 0, 0] := by decide +kernel
theorem at_2 : ∀ b i : Fin 8, win0_2.index (pt b i) = ![0, 0] := by decide +kernel
theorem at_3 : ∀ b i : Fin 8, win0_3.index (pt b i) = ![0, 0] := by decide +kernel
theorem at_4 : ∀ b i : Fin 8, win0_4.index (pt b i) = ![0, 0] := by decide +kernel
theorem at_5 : ∀ b i : Fin 8, win0_5.index (pt b i) = ![0, 0] := by decide +kernel
theorem at_6 : ∀ b i : Fin 8, win0_6.index (pt b i) = ![(b : Nat), i, 0] := by decide +kernel

section Blocks

variable (b i : Fin 8)

theorem blk_0 (A : Vec Ideal S8x4096x1024 .f32) (r : Fin 512) (d : Fin 1024) :
    ((cfg0.win 0).blk (pt b i)).view.read (Elt Ideal) A (ix3 0 r d) = A (ix3 b ⟨512 * i + r, by omega⟩ d) := by
  blk_ext [at_0]

theorem blk_1 (A : Vec Ideal S8x9x1024 .f32) (q : Fin 9) (d : Fin 1024) :
    ((cfg0.win 1).blk (pt b i)).view.read (Elt Ideal) A (ix3 0 q d) = A (ix3 b q d) := by
  blk_ext [at_1]

theorem blk_2 (A : Vec Ideal S1x1024 .f32) (d : Fin 1024) :
    ((cfg0.win 2).blk (pt b i)).view.read (Elt Ideal) A (ix2 0 d) = A (ix2 0 d) := by
  blk_ext [at_2]

theorem blk_3 (A : Vec Ideal S1024x2816 .bf16) (d : Fin 1024) (f : Fin 2816) :
    ((cfg0.win 3).blk (pt b i)).view.read (Elt Ideal) A (ix2 d f) = A (ix2 d f) := by
  blk_ext [at_3]

theorem blk_4 (A : Vec Ideal S1024x2816 .bf16) (d : Fin 1024) (f : Fin 2816) :
    ((cfg0.win 4).blk (pt b i)).view.read (Elt Ideal) A (ix2 d f) = A (ix2 d f) := by
  blk_ext [at_4]

theorem blk_5 (A : Vec Ideal S2816x1024 .bf16) (f : Fin 2816) (d : Fin 1024) :
    ((cfg0.win 5).blk (pt b i)).view.read (Elt Ideal) A (ix2 f d) = A (ix2 f d) := by
  blk_ext [at_5]

theorem blk_6 (A : Vec Ideal S8x4096x1024 .f32) (r : Fin 512) (d : Fin 1024) :
    ((cfg0.win 6).blk (pt b i)).view.read (Elt Ideal) A (ix3 0 r d) = A (ix3 b ⟨512 * i + r, by omega⟩ d) := by
  blk_ext [at_6]

end Blocks

variable (m : (ℓ : Loc nD τ sig) → Buf (Elt Ideal) ℓ) (ρ : Dev nD → PrngReg) (c : Dev nD)

theorem V_gate : V m c main_v0 = (truncf .bf16 (m ((c : Thread nD τ).loc main_arg3) : FVec Ideal S1024x2816 .f32) bitsLt_bf16_f32 : FVec Ideal S1024x2816 .bf16) := by
  unfold V
  after_results_simp

theorem V_up : V m c main_v1 = (truncf .bf16 (m ((c : Thread nD τ).loc main_arg4) : FVec Ideal S1024x2816 .f32) bitsLt_bf16_f32 : FVec Ideal S1024x2816 .bf16) := by
  unfold V
  after_results_simp

theorem V_down : V m c main_v2 = (truncf .bf16 (m ((c : Thread nD τ).loc main_arg5) : FVec Ideal S2816x1024 .f32) bitsLt_bf16_f32 : FVec Ideal S2816x1024 .bf16) := by
  unfold V
  after_results_simp

theorem V_norm : V m c main_v3 = (shapeCast S1x1024 (m ((c : Thread nD τ).loc main_arg2) : FVec Ideal S1024 .f32) shapeCasts_S1024_S1x1024 : FVec Ideal S1x1024 .f32) := by
  unfold V
  after_results_simp
  rfl

/-- Two grid points write different blocks of the result. -/
theorem result_index : ∀ t t' : Fin cfg0.N, win0_6.index t = win0_6.index t' → t = t' :=
  (by decide +kernel : ∀ t t' : Fin grid0.N, win0_6.index t = win0_6.index t' → t = t')

/-- Every grid point writes its block back. -/
theorem result_flush : ∀ t : Fin cfg0.N, (cfg0.win 6).flush t = true :=
  (by decide +kernel : ∀ t : Fin grid0.N, win0_6.flush t = true)

/-- A block of the result after the run is what its grid point has written back. -/
theorem result_block (t : Fin cfg0.N) :
    ((cfg0.win 6).blk t).view.read (Elt Ideal) ((dats m 0 c).arrAt 6 cfg0.N) = (dats m 0 c).flushed 6 t :=
  (dats m 0 c).read_blk_arrAt_eq_flushed 6
    (fun t t' _ _ hne => (cfg0.win 6).disjoint_blk fun h => hne (result_index t t' h)) cfg0.N t t.isLt (result_flush t)

/-- A block is written back whole. -/
theorem result_cut (t : Fin cfg0.N) (X : Vec Ideal S1x512x1024 .f32) (r : Fin 512) (d : Fin 1024) :
    (cfg0.win 6).cut (grid0.coords t) X (ix3 0 r d) = X (ix3 0 r d) :=
  congrArg X (funext fun a => by fin_cases a <;> rfl)

/-- What the call computes at an entry of its result, from its arguments. -/
def ffn (x : Vec Ideal S8x4096x1024 .f32) (md : Vec Ideal S8x9x1024 .f32) (g : Vec Ideal S1024 .f32)
    (wg wu : Vec Ideal S1024x2816 .f32) (wd : Vec Ideal S2816x1024 .f32) (b : Fin 8) (t : Fin 4096) (d : Fin 1024) : EReal :=
  step (fun k => x (ix3 b t k)) (fun k => md (ix3 b 0 k)) (fun k => md (ix3 b 1 k)) (fun k => md (ix3 b 2 k))
    (fun k => g (ix1 k)) (fun d f => wg (ix2 d f)) (fun d f => wu (ix2 d f)) (fun f d => wd (ix2 f d)) d

/-- A block of what the call computes, from the arrays its windows read. -/
theorem out_blocks (X : Vec Ideal S8x4096x1024 .f32) (M : Vec Ideal S8x9x1024 .f32) (G : Vec Ideal S1x1024 .f32)
    (WG WU : Vec Ideal S1024x2816 .bf16) (WD : Vec Ideal S2816x1024 .bf16) (b i : Fin 8) (r : Fin 512) (d : Fin 1024) :
    out0_6 (((cfg0.win 0).blk (pt b i)).view.read (Elt Ideal) X) (((cfg0.win 1).blk (pt b i)).view.read (Elt Ideal) M)
        (((cfg0.win 2).blk (pt b i)).view.read (Elt Ideal) G) (((cfg0.win 3).blk (pt b i)).view.read (Elt Ideal) WG)
        (((cfg0.win 4).blk (pt b i)).view.read (Elt Ideal) WU) (((cfg0.win 5).blk (pt b i)).view.read (Elt Ideal) WD) (ix3 0 r d)
      = step (fun k => X (ix3 b ⟨512 * i + r, by omega⟩ k)) (fun k => M (ix3 b 0 k)) (fun k => M (ix3 b 1 k)) (fun k => M (ix3 b 2 k))
          (fun k => G (ix2 0 k)) (fun d f => WG (ix2 d f)) (fun d f => WU (ix2 d f)) (fun f d => WD (ix2 f d)) d := by
  refine (out_apply _ _ _ _ _ _ r d).trans ?_
  exact step_congr (fun k => blk_0 b i X r k) (fun k => blk_1 b i M 0 k) (fun k => blk_1 b i M 1 k) (fun k => blk_1 b i M 2 k)
    (fun k => blk_2 b i G k) (fun k f => blk_3 b i WG k f) (fun k f => blk_4 b i WU k f) (fun f k => blk_5 b i WD f k) d

theorem norm_read (g : FVec Ideal S1024 .f32) (k : Fin 1024) :
    (shapeCast S1x1024 g shapeCasts_S1024_S1x1024 : FVec Ideal S1x1024 .f32) (ix2 0 k) = g (ix1 k) := by
  simp only [pointwise]

/-- What a grid point writes back. -/
theorem result_flushed (b i : Fin 8) (r : Fin 512) (d : Fin 1024) :
    (dats m 0 c).flushed 6 (pt b i) (ix3 0 r d)
      = ffn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          b ⟨512 * i + r, by omega⟩ d := by
  have h : (dats m 0 c).flushed 6 (pt b i) = (cfg0.win 6).cut (grid0.coords (pt b i)) ((dats m 0 c).after 6 (pt b i)) := rfl
  rw [h, after0_6]
  refine (result_cut _ _ r d).trans ?_
  refine (out_blocks (V m c main_arg0) (V m c main_arg1) (V m c main_v3) (V m c main_v0) (V m c main_v1) (V m c main_v2) b i r d).trans ?_
  rw [V_main_arg0, V_main_arg1, V_norm, V_gate, V_up, V_down]
  exact step_congr (fun _ => rfl) (fun _ => rfl) (fun _ => rfl) (fun _ => rfl) (fun k => norm_read _ k) (fun _ _ => rfl)
    (fun _ _ => rfl) (fun _ _ => rfl) d

/-- The result after the run, entry by entry. -/
theorem result_at (b i : Fin 8) (r : Fin 512) (d : Fin 1024) :
    (dats m 0 c).arrAt 6 cfg0.N (ix3 b ⟨512 * i + r, by omega⟩ d)
      = ffn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          b ⟨512 * i + r, by omega⟩ d :=
  ((blk_6 b i ((dats m 0 c).arrAt 6 cfg0.N) r d).symm.trans
    (congrFun (result_block m c (pt b i)) (ix3 0 r d))).trans (result_flushed m c b i r d)

/-- The run: every entry of the result, and the arguments as launched. -/
theorem run_result : θ_run defs (onTc (τ := τ) (main (F := Ideal))) ⟨m, fun _ => 0, ρ⟩ fun r => ∀ c : Dev nD,
      r.2.mem ((c : Thread nD τ).loc main_v4) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

end Cert.FeedForward

end
-- ==== Proof.Ffn3Reference.lean ====
/- The feed-forward of the reference, at an index. -/
module

public import proofs.«01_k».proof.Proof.Gen.Reference3Ideal.Read
public import proofs.«01_k».proof.Proof.Swiglu

@[expose] public section

set_option maxRecDepth 16384

noncomputable section

namespace Cert.FeedForward

open Cert.Reference3Ideal Cert.Reference3Ideal.Gen Cert.Reference3Ideal.Read Idealize.ShloMosaic

variable (x0 : Vec Ideal S8x4096x1024 .f32) (x1 : Vec Ideal S8x9x1024 .f32) (x2 : Vec Ideal S1024 .f32)
  (x3 x4 : Vec Ideal S1024x2816 .f32) (x5 : Vec Ideal S2816x1024 .f32) (b : Fin 8) (t : Fin 4096)

/-- The sum of a token's squares. -/
theorem v6_apply : val_main_v6 (F := Ideal) x0 (ix2 b t) = ∑ d : Fin 1024, (x0 (ix3 b t d) * x0 (ix3 b t d) : EReal) := by
  unfold val_main_v6 val_main_v5 val_main_cst_0
  simp only [pointwise]
  rw [zero_add]

/-- The half of the gate. -/
theorem v35_apply (d : Fin 1024) : val_main_v35 (F := Ideal) x1 (ix3 b t d) = word 0x3F000000#32 * x1 (ix3 b 2 d) := by
  unfold val_main_v35 val_main_v4 val_main_v3 val_main_cst val_main_v2 val_main_v1 val_main_v0
  simp only [pointwise]
  simp

/-- The normalised and modulated token. -/
theorem v29_apply (d : Fin 1024) : val_main_v29 (F := Ideal) x0 x1 x2 (ix3 b t d)
    = normed (fun k => x0 (ix3 b t k)) (fun k => x1 (ix3 b 0 k)) (fun k => x1 (ix3 b 1 k)) (fun k => x2 (ix1 k)) d := by
  have hs := v6_apply x0 b t
  simp only [val_main_v29, val_main_v28, val_main_v27, val_main_v26, val_main_v25, val_main_v24, val_main_v23, val_main_v22,
    val_main_v21, val_main_v20, val_main_v19, val_main_v18, val_main_v17, val_main_v16, val_main_v15, val_main_v14,
    val_main_v13, val_main_v12, val_main_v11, val_main_v10, val_main_v9, val_main_v8, val_main_v7, val_main_cst_1, val_main_cst_2, val_main_cst_3]
  generalize val_main_v6 (F := Ideal) x0 = S at hs
  simp only [pointwise]
  simp [normed, scaleOf, hs, mul_assoc]

/-- A product of tokens with a matrix of the first layer. -/
theorem dot_up (h : FVec Ideal S8x4096x1024 .f32) (w : FVec Ideal S1024x2816 .f32) (f : Fin 2816) :
    Host.dotGeneral dot_S8x4096x1024_S1024x2816_S8x4096x2816_2_0_01_1_n_n none h w (ix3 b t f)
      = ∑ d : Fin 1024, (h (ix3 b t d) * w (ix2 d f) : EReal) := by
  simp only [pointwise]
  rw [zero_add]

/-- A product of tokens with the second layer's matrix. -/
theorem dot_down (h : FVec Ideal S8x4096x2816 .f32) (w : FVec Ideal S2816x1024 .f32) (d : Fin 1024) :
    Host.dotGeneral dot_S8x4096x2816_S2816x1024_S8x4096x1024_2_0_01_1_n_n none h w (ix3 b t d)
      = ∑ f : Fin 2816, (h (ix3 b t f) * w (ix2 f d) : EReal) := by
  simp only [pointwise]
  rw [zero_add]

theorem v30_apply (f : Fin 2816) : val_main_v30 (F := Ideal) x0 x1 x2 x3 (ix3 b t f)
    = col (normed (fun k => x0 (ix3 b t k)) (fun k => x1 (ix3 b 0 k)) (fun k => x1 (ix3 b 1 k)) (fun k => x2 (ix1 k)))
        (fun d f => x3 (ix2 d f)) f := by
  unfold val_main_v30
  refine (dot_up b t _ _ f).trans (Finset.sum_congr rfl fun d _ => ?_)
  rw [v29_apply]

/-- The gated product of a token. -/
theorem v33_apply (f : Fin 2816) : val_main_v33 (F := Ideal) x0 x1 x2 x3 x4 (ix3 b t f)
    = hidden (normed (fun k => x0 (ix3 b t k)) (fun k => x1 (ix3 b 0 k)) (fun k => x1 (ix3 b 1 k)) (fun k => x2 (ix1 k)))
        (fun d f => x3 (ix2 d f)) (fun d f => x4 (ix2 d f)) f := by
  have ha := v30_apply x0 x1 x2 x3 b t f
  have hu : val_main_v32 (F := Ideal) x0 x1 x2 x4 (ix3 b t f) = _ := v30_apply x0 x1 x2 x4 b t f
  unfold val_main_v33 val_main_v31 val_main_call0_v5 val_main_call0_v4 val_main_call0_v3 val_main_call0_v2
    val_main_call0_v1 val_main_call0_v0 val_main_call0_cst val_main_call0_cst_0
  generalize val_main_v30 (F := Ideal) x0 x1 x2 x3 = A at ha
  generalize val_main_v32 (F := Ideal) x0 x1 x2 x4 = U at hu
  simp only [pointwise]
  rw [ha, hu]
  rfl

/-- The reference's result at an index. -/
theorem v37_apply (d : Fin 1024) : val_main_v37 (F := Ideal) x0 x1 x2 x3 x4 x5 (ix3 b t d)
    = step (fun k => x0 (ix3 b t k)) (fun k => x1 (ix3 b 0 k)) (fun k => x1 (ix3 b 1 k)) (fun k => x1 (ix3 b 2 k))
        (fun k => x2 (ix1 k)) (fun d f => x3 (ix2 d f)) (fun d f => x4 (ix2 d f)) (fun f d => x5 (ix2 f d)) d := by
  have hd : val_main_v34 (F := Ideal) x0 x1 x2 x3 x4 x5 (ix3 b t d) = _ := dot_down b t _ _ d
  simp only [v33_apply] at hd
  have hg := v35_apply x1 b t d
  unfold val_main_v37 val_main_v36
  generalize val_main_v34 (F := Ideal) x0 x1 x2 x3 x4 x5 = D at hd
  generalize val_main_v35 (F := Ideal) x1 = G at hg
  simp only [pointwise]
  rw [hd, hg]
  rfl

end Cert.FeedForward

end
-- ==== Proof.Ffn3Value.lean ====
/- The feed-forward call's result is the reference's. -/
module

public import proofs.«01_k».proof.Proof.Ffn3Run
public import proofs.«01_k».proof.Proof.Ffn3Reference

@[expose] public section

set_option maxRecDepth 16384

noncomputable section

namespace Cert.FeedForward

open Cert.Kernel3Ideal Cert.Kernel3Ideal.Gen Idealize.ShloMosaic Idealize.ShloMosaic.TcCoe

variable (m : (ℓ : Loc nD τ sig) → Buf (Elt Ideal) ℓ) (c : Dev nD)

theorem result_value : (dats m 0 c).arrAt 6 cfg0.N
    = Cert.Reference3Ideal.Read.val_main_v37 (F := Ideal) (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5)) := by
  funext j
  idx_vars j
  obtain ⟨i, r, hi⟩ : ∃ (i : Fin 8) (r : Fin 512), j1 = ⟨512 * i + r, by omega⟩ :=
    ⟨⟨j1 / 512, by have := j1.isLt; omega⟩, ⟨j1 % 512, by omega⟩,
      Fin.ext (by show (j1 : Nat) = 512 * (j1 / 512) + j1 % 512; omega)⟩
  subst hi
  exact (result_at m c j0 i r j2).trans (v37_apply _ _ _ _ _ _ j0 _ j2).symm

end Cert.FeedForward

end
-- ==== Proof.ProjBody.lean ====
/- The input projection's grid point, at an index. -/
module

public import proofs.«01_k».proof.Proof.Gen.Kernel4Ideal.Frame
public import proofs.«01_k».proof.Proof.Swiglu

@[expose] public section

set_option maxRecDepth 16384

noncomputable section

namespace Cert.Projection

open Cert.Kernel4Ideal Cert.Kernel4Ideal.Gen Idealize.ShloMosaic Cert.FeedForward

/-- The sum of a row's squares. -/
theorem rows_scale (x : FVec Ideal S512x1024 .f32) (r : Fin 512) :
    multiReduction .add [1] S512 (mulf x x) 0x00000000#32 reduces_S512x1024_S512 (.inl rfl) rfl (ix1 r)
      = ∑ d : Fin 1024, (x (ix2 r d) * x (ix2 r d) : EReal) := by
  simp only [pointwise]

/-- A product of rows with the projection's matrix. -/
theorem rows_project (h : FVec Ideal S512x1024 .bf16) (w : FVec Ideal S1024x2944 .bf16) (r : Fin 512) (f : Fin 2944) :
    matmul dot_S512x1024_S1024x2944_S512x2944_1_0_0_1_n_n none h w (constant S512x2944 .f32 0x00000000#32) (ix2 r f)
      = ∑ d : Fin 1024, (h (ix2 r d) * w (ix2 d f) : EReal) := by
  simp only [pointwise]
  rw [zero_add]

/-- A column of the projection of a normalised and modulated token. -/
def project {n : Nat} (x shift scale g : Fin 1024 → EReal) (w : Fin 1024 → Fin n → EReal) (f : Fin n) : EReal :=
  col (normed x shift scale g) w f

theorem project_congr {n n' : Nat} {x x' sh sh' sc sc' g g' : Fin 1024 → EReal} {w : Fin 1024 → Fin n → EReal}
    {w' : Fin 1024 → Fin n' → EReal} {f : Fin n} {f' : Fin n'} (hx : ∀ k, x k = x' k) (hsh : ∀ k, sh k = sh' k)
    (hsc : ∀ k, sc k = sc' k) (hg : ∀ k, g k = g' k) (hw : ∀ k, w k f = w' k f') :
    project x sh sc g w f = project x' sh' sc' g' w' f' := by
  unfold project col
  rw [funext hx, funext hsh, funext hsc, funext hg]
  exact Finset.sum_congr rfl fun k _ => by rw [hw]

theorem pay4_apply (x : Vec Ideal S1x512x1024 .f32) (g : Vec Ideal S1x1024 .f32) (sh sc : Vec Ideal S1x1x1024 .f32)
    (w : Vec Ideal S1024x2944 .bf16) (r : Fin 512) (f : Fin 2944) :
    k0_pay4 x g sh sc w (ix2 r f)
      = project (fun k => x (ix3 0 r k)) (fun k => sh (ix3 0 0 k)) (fun k => sc (ix3 0 0 k)) (fun k => g (ix2 0 k))
          (fun d f => w (ix2 d f)) f := by
  have hx : ∀ r d, (shapeCast S512x1024 x shapeCasts_S1x512x1024_S512x1024 : FVec Ideal S512x1024 .f32) (ix2 r d)
      = x (ix3 0 r d) := fun r d => by simp only [pointwise]
  unfold k0_pay4 project col
  refine (rows_project _ _ r f).trans (Finset.sum_congr rfl fun d _ => ?_)
  refine congrArg₂ (· * ·) ?_ (congrFun (shapeCast_id w _) (ix2 d f))
  generalize shapeCast S512x1024 x shapeCasts_S1x512x1024_S512x1024 = X at hx
  have hs := rows_scale X r
  generalize multiReduction .add [1] S512
    (mulf (F := Ideal) (φ := .f32) X X) 0x00000000#32 reduces_S512x1024_S512 (.inl rfl) rfl = S at hs
  simp only [pointwise]
  simp [hs, hx, normed, scaleOf]

/-- The columns of the four head groups, cut from a row of the projection. -/
theorem pay1_apply (x : Vec Ideal S1x512x1024 .f32) (g : Vec Ideal S1x1024 .f32) (sh sc : Vec Ideal S1x1x1024 .f32)
    (w : Vec Ideal S1024x2944 .bf16) (r : Fin 512) (f : Fin 512) :
    k0_pay1 (k0_pay6 x g sh sc w) (ix3 0 r f) = k0_pay4 x g sh sc w (ix2 r ⟨768 + f, by omega⟩) := by
  unfold k0_pay1 k0_pay6
  generalize k0_pay4 x g sh sc w = A
  simp only [pointwise]
  simp

theorem pay5_apply (x : Vec Ideal S1x512x1024 .f32) (g : Vec Ideal S1x1024 .f32) (sh sc : Vec Ideal S1x1x1024 .f32)
    (w : Vec Ideal S1024x2944 .bf16) (r : Fin 512) (f : Fin 768) :
    k0_pay5 x g sh sc w (ix3 0 r f) = k0_pay4 x g sh sc w (ix2 r ⟨0 + f, by omega⟩) := by
  unfold k0_pay5
  generalize k0_pay4 x g sh sc w = A
  simp only [pointwise]
  simp

theorem pay2_apply (A : FVec Ideal S512x2944 .f32) (r : Fin 512) (f : Fin 512) :
    k0_pay2 A (ix3 0 r f) = A (ix2 r ⟨1280 + f, by omega⟩) := by
  unfold k0_pay2
  simp only [pointwise]
  simp

theorem pay3_apply (A : FVec Ideal S512x2944 .f32) (r : Fin 512) (f : Fin 1152) :
    k0_pay3 A (ix3 0 r f) = A (ix2 r ⟨1792 + f, by omega⟩) := by
  unfold k0_pay3
  simp only [pointwise]
  simp

section Out

variable (x : Vec Ideal S1x512x1024 .f32) (md : Vec Ideal S1x9x1024 .f32) (g : Vec Ideal S1x1024 .f32)
  (w : Vec Ideal S1024x2944 .bf16) (r : Fin 512)

/-- A row of the projection, from the blocks a grid point reads. -/
def row (f : Fin 2944) : EReal :=
  project (fun k => x (ix3 0 r k)) (fun k => md (ix3 0 3 k)) (fun k => md (ix3 0 4 k)) (fun k => g (ix2 0 k))
    (fun d f => w (ix2 d f)) f

theorem read_apply (f : Fin 2944) :
    k0_pay4 (View.ld x r0_0) (View.ld g r0_1) (View.ld md r0_2) (View.ld md r0_3) (View.ld w r0_4) (ix2 r f) = row x md g w r f := by
  rw [pay4_apply]
  unfold row
  simp only [pointwise]
  simp

theorem out4_apply (f : Fin 768) : out0_4 x md g w (ix3 0 r f) = row x md g w r ⟨0 + f, by omega⟩ := by
  unfold out0_4
  rw [View.canon_unit_zero (by decide), pay5_apply, read_apply]

theorem out5_apply (f : Fin 512) : out0_5 x md g w (ix3 0 r f) = row x md g w r ⟨768 + f, by omega⟩ := by
  unfold out0_5
  rw [View.canon_unit_zero (by decide), pay1_apply, read_apply]

theorem out6_apply (f : Fin 512) : out0_6 x md g w (ix3 0 r f) = row x md g w r ⟨1280 + f, by omega⟩ := by
  unfold out0_6
  rw [View.canon_unit_zero (by decide), pay2_apply]
  exact read_apply x md g w r _

theorem out7_apply (f : Fin 1152) : out0_7 x md g w (ix3 0 r f) = row x md g w r ⟨1792 + f, by omega⟩ := by
  unfold out0_7
  rw [View.canon_unit_zero (by decide), pay3_apply]
  exact read_apply x md g w r _

end Out

end Cert.Projection

end
-- ==== Proof.ProjHost.lean ====
/- The host code around the projection's call: the matrix it passes, with the rotary columns spread over 128. -/
module

public import proofs.«01_k».proof.Proof.ProjBody
public import Idealize.ShloMosaic.Lib.Routing.OpsSet
public import Idealize.ShloMosaic.Lib.StableHlo.ReadAt

@[expose] public section

set_option maxRecDepth 16384

noncomputable section

namespace Cert.Projection

open Cert.Kernel4Ideal Cert.Kernel4Ideal.Gen Idealize.ShloMosaic Idealize.ShloMosaic.TcCoe

/-- Where the host puts rotary column `j`, among the 128. -/
def lanes : IVec S32x1 32 :=
  broadcastInDim S32x1 ![0] bcast_S32_S32x1_0
    (select (constantI S32 1 0#1 : IVec S32 1)
      (addi (fun i => lit0 (S32.rowMajor i) : IVec S32 32) (broadcastInDim S32 ![] bcast_S_S32 (constantI S_ 32 128#32)))
      (fun i => lit0 (S32.rowMajor i)))

/-- The place of rotary column `j`: the even ones from 32 on, the odd ones from 96 on. -/
def place (j : Fin 32) : Fin 128 := ⟨32 + 64 * (j % 2) + j / 2, by omega⟩

theorem lit_eq : ∀ j : Fin 32, (lit0 (S32.rowMajor (ix1 j))).toInt = (place j : Nat) := by decide +kernel

theorem place_inj : ∀ j j' : Fin 32, place j = place j' → j = j' := by decide +kernel

theorem lanes_eq (j : Fin 32) : (lanes (ix2 j 0)).toInt = (place j : Nat) := by
  unfold lanes
  simp only [pointwise]
  simpa using lit_eq j

abbrev dims := scatter_S1024x1x128_S32x1_S1024x1x32_01_2_2_1

/-- Rotary column `j` goes to its place. -/
theorem lands (d d' : Fin 1024) (z z' : Fin 1) (j : Fin 32) (l : Fin 128) :
    dims.resultIdx? (ix3 d z j) lanes = some (ix3 d' z' l) ↔ d = d' ∧ place j = l := by
  have w0 : dims.window (ix3 d z j) 0 = d := rfl
  have w1 : dims.window (ix3 d z j) 1 = z := rfl
  have w2 : dims.window (ix3 d z j) 2 = 0 := rfl
  have s0 : dims.start (ix3 d z j) lanes 0 = 0 := rfl
  have s1 : dims.start (ix3 d z j) lanes 1 = 0 := rfl
  have s2 : dims.start (ix3 d z j) lanes 2 = (place j : Nat) := by
    refine Eq.trans ?_ (lanes_eq j)
    refine congrArg (fun i => (lanes i).toInt) (funext fun a => ?_)
    match a with
    | ⟨0, _⟩ => rfl
    | ⟨1, _⟩ => rfl
  rw [Routing.resultIdx?_eq_some, Fin.ext_iff, Fin.ext_iff]
  constructor
  · intro h
    have h0 : dims.start (ix3 d z j) lanes 0 + (dims.window (ix3 d z j) 0 : Int) = (d' : Nat) := h 0
    have h2 : dims.start (ix3 d z j) lanes 2 + (dims.window (ix3 d z j) 2 : Int) = (l : Nat) := h 2
    rw [s0, w0] at h0
    rw [s2, w2] at h2
    omega
  · intro h a
    match a with
    | ⟨0, _⟩ =>
      show dims.start (ix3 d z j) lanes 0 + (dims.window (ix3 d z j) 0 : Int) = (d' : Nat)
      rw [s0, w0]
      omega
    | ⟨1, _⟩ =>
      show dims.start (ix3 d z j) lanes 1 + (dims.window (ix3 d z j) 1 : Int) = (z' : Nat)
      rw [s1, w1]
      omega
    | ⟨2, _⟩ =>
      show dims.start (ix3 d z j) lanes 2 + (dims.window (ix3 d z j) 2 : Int) = (l : Nat)
      rw [s2, w2]
      omega

/-- The spread columns at a rotary column's place. -/
theorem spread_apply (x : FVec Ideal S1024x1x128 .f32) (u : FVec Ideal S1024x1x32 .f32) (d : Fin 1024) (j : Fin 32) :
    Host.scatter dims (fun _ b => b) x lanes u (ix3 d 0 (place j)) = u (ix3 d 0 j) := by
  refine Routing.scatter_set_hit dims x lanes u _ _ (fun k hk => ?_) (ix3 d 0 j) ((lands d d 0 0 j (place j)).2 ⟨rfl, rfl⟩)
  idx_vars k
  obtain ⟨h0, h2⟩ := (lands k0 d k1 0 k2 (place j)).1 hk
  rw [h0, place_inj _ _ h2, Subsingleton.elim k1 0]

/-- The matrix that the host passes, from the projection's. -/
def padded (w : FVec Ideal S1024x2848 .f32) : FVec Ideal S1024x2944 .f32 :=
  concatenate S1024x2944 1
    [⟨S1024x1664, extractStridedSlice S1024x1664 ![0, 0] w slices_S1024x2848_S1024x1664_0_0⟩,
      ⟨S1024x128, shapeCast S1024x128
        (Host.scatter dims (fun _ b => b) (broadcastInDim S1024x1x128 ![] bcast_S_S1024x1x128 (constant S_ .f32 0x00000000#32)) lanes
          (shapeCast S1024x1x32 (extractStridedSlice S1024x32 ![0, 1664] w slices_S1024x2848_S1024x32_0_1664)
            shapeCasts_S1024x32_S1024x1x32)) shapeCasts_S1024x1x128_S1024x128⟩,
      ⟨S1024x1152, extractStridedSlice S1024x1152 ![0, 1696] w slices_S1024x2848_S1024x1152_0_1696⟩]
    concatenates_S1024x1664_S1024x128_S1024x1152_S1024x2944_d1

variable (w : FVec Ideal S1024x2848 .f32) (d : Fin 1024)

theorem padded_left (f : Nat) (hf : f < 1664) : padded w (ix2 d ⟨f, by omega⟩) = w (ix2 d ⟨f, by omega⟩) := by
  unfold padded
  simp only [pointwise]
  simp [hf]

theorem padded_right (f : Fin 1152) : padded w (ix2 d ⟨1792 + f, by omega⟩) = w (ix2 d ⟨1696 + f, by omega⟩) := by
  unfold padded
  simp only [pointwise]
  simp
  rw [dif_neg (by omega), dif_neg (by omega)]
  exact congrArg (fun n => w (ix2 d n)) (Fin.ext (by show 1696 + (1792 + (f : Nat) - 1664 - 128) = 1696 + f; omega))

theorem padded_rope (j : Fin 32) : padded w (ix2 d ⟨1664 + place j, by omega⟩) = w (ix2 d ⟨1664 + j, by omega⟩) := by
  unfold padded
  have hs := spread_apply (broadcastInDim S1024x1x128 ![] bcast_S_S1024x1x128 (constant S_ .f32 0x00000000#32))
    (shapeCast S1024x1x32 (extractStridedSlice S1024x32 ![0, 1664] w slices_S1024x2848_S1024x32_0_1664)
      shapeCasts_S1024x32_S1024x1x32) d j
  generalize Host.scatter dims (fun _ b => b) (broadcastInDim S1024x1x128 ![] bcast_S_S1024x1x128 (constant S_ .f32 0x00000000#32))
    lanes (shapeCast S1024x1x32 (extractStridedSlice S1024x32 ![0, 1664] w slices_S1024x2848_S1024x32_0_1664)
      shapeCasts_S1024x32_S1024x1x32) = A at hs
  simp only [pointwise] at hs
  simp only [pointwise]
  simp [hs]

variable (m : (ℓ : Loc nD τ sig) → Buf (Elt Ideal) ℓ) (c : Dev nD)

/-- Three equal pieces make equal matrices. -/
theorem pieces_congr {A A' : FVec Ideal S1024x1664 .f32} {B B' : FVec Ideal S1024x128 .f32} {C C' : FVec Ideal S1024x1152 .f32}
    (hA : A = A') (hB : B = B') (hC : C = C') :
    (truncf .bf16 (concatenate S1024x2944 1 [⟨S1024x1664, A⟩, ⟨S1024x128, B⟩, ⟨S1024x1152, C⟩]
        concatenates_S1024x1664_S1024x128_S1024x1152_S1024x2944_d1 : FVec Ideal S1024x2944 .f32) bitsLt_bf16_f32 : FVec Ideal S1024x2944 .bf16)
      = truncf .bf16 (concatenate S1024x2944 1 [⟨S1024x1664, A'⟩, ⟨S1024x128, B'⟩, ⟨S1024x1152, C'⟩]
        concatenates_S1024x1664_S1024x128_S1024x1152_S1024x2944_d1) bitsLt_bf16_f32 := by
  rw [hA, hB, hC]

theorem read_0 (W : Valuation τ sig (Elt Ideal)) :
    W (Proc.tc.devRef (![main_v0, main_v9, main_v10] 0)) = W (Proc.tc.devRef main_v0) := rfl
theorem read_1 (W : Valuation τ sig (Elt Ideal)) :
    W (Proc.tc.devRef (![main_v0, main_v9, main_v10] 1)) = W (Proc.tc.devRef main_v9) := rfl
theorem read_2 (W : Valuation τ sig (Elt Ideal)) :
    W (Proc.tc.devRef (![main_v0, main_v9, main_v10] 2)) = W (Proc.tc.devRef main_v10) := rfl

theorem V_matrix : V m c main_v12 = (truncf .bf16 (padded (m ((c : Thread nD τ).loc main_arg3))) bitsLt_bf16_f32 : FVec Ideal S1024x2944 .bf16) := by
  unfold V V0
  simp only [hostOps0, List.flatten_cons, List.flatten_nil, List.append_nil]
  after_results_simp
  refine pieces_congr ((read_0 _).trans ?_) ((read_1 _).trans ?_) ((read_2 _).trans ?_)
  all_goals
    after_results_simp
    rfl

theorem V_norm : V m c main_v13 = (shapeCast S1x1024 (m ((c : Thread nD τ).loc main_arg2) : FVec Ideal S1024 .f32) shapeCasts_S1024_S1x1024 : FVec Ideal S1x1024 .f32) := by
  unfold V V0
  simp only [hostOps0, List.flatten_cons, List.flatten_nil, List.append_nil]
  after_results_simp
  rfl

/-- The latent attention's columns put back in their own order. -/
def gathered (A : FVec Ideal S8x4096x512 .f32) : FVec Ideal S8x4096x416 .f32 :=
  concatenate S8x4096x416 2
    [⟨S8x4096x384, extractStridedSlice S8x4096x384 ![0, 0, 0] A slices_S8x4096x512_S8x4096x384_0_0_0⟩,
      ⟨S8x4096x32, shapeCast S8x4096x32
        (transpose S8x4096x16x2 [0, 1, 3, 2]
          (extractStridedSlice S8x4096x2x16 ![0, 0, 0, 32]
            (shapeCast S8x4096x2x64 (extractStridedSlice S8x4096x128 ![0, 0, 384] A slices_S8x4096x512_S8x4096x128_0_0_384)
              shapeCasts_S8x4096x128_S8x4096x2x64) slices_S8x4096x2x64_S8x4096x2x16_0_0_0_32)
          transposes_S8x4096x2x16_S8x4096x16x2_0_1_3_2) shapeCasts_S8x4096x16x2_S8x4096x32⟩]
    concatenates_S8x4096x384_S8x4096x32_S8x4096x416_d2

theorem gathered_left (A : FVec Ideal S8x4096x512 .f32) (b : Fin 8) (t : Fin 4096) (f : Nat) (hf : f < 384) :
    gathered A (ix3 b t ⟨f, by omega⟩) = A (ix3 b t ⟨f, by omega⟩) := by
  unfold gathered
  simp only [pointwise]
  simp [hf]

theorem gathered_rope (A : FVec Ideal S8x4096x512 .f32) (b : Fin 8) (t : Fin 4096) (j : Fin 32) :
    gathered A (ix3 b t ⟨384 + j, by omega⟩) = A (ix3 b t ⟨384 + place j, by omega⟩) := by
  unfold gathered
  simp only [pointwise]
  simp [place]
  exact congrArg (fun n => A (ix3 b t n)) (Fin.ext (by
    show 384 + ((j : Nat) % 2 * 64 + (32 + j / 2)) = 384 + (32 + 64 * (j % 2) + j / 2)
    omega))

end Cert.Projection

end
-- ==== Proof.ProjRun.lean ====
/- The run of the projection's call: each grid point writes its own block of the four results. -/
module

public import proofs.«01_k».proof.Proof.ProjHost
public import Idealize.ShloMosaic.Lib.Pipeline.Value
public import Idealize.ShloMosaic.Lib.Pipeline.ValueKit

@[expose] public section

set_option maxRecDepth 16384

noncomputable section

namespace Cert.Projection

open Cert.Kernel4Ideal Cert.Kernel4Ideal.Gen Idealize.ShloMosaic Idealize.ShloMosaic.TcCoe Idealize.SL.Sem
open Idealize.ShloMosaic.Pipeline (Dat)

/-- The grid point of batch `b` and row tile `i`. -/
def pt (b i : Fin 8) : Fin cfg0.N := ⟨8 * b + i, by have : cfg0.N = 64 := rfl; omega⟩

theorem at_0 : ∀ b i : Fin 8, win0_0.index (pt b i) = ![(b : Nat), i, 0] := by decide +kernel
theorem at_1 : ∀ b i : Fin 8, win0_1.index (pt b i) = ![(b : Nat), 0, 0] := by decide +kernel
theorem at_2 : ∀ b i : Fin 8, win0_2.index (pt b i) = ![0, 0] := by decide +kernel
theorem at_3 : ∀ b i : Fin 8, win0_3.index (pt b i) = ![0, 0] := by decide +kernel
theorem at_4 : ∀ b i : Fin 8, win0_4.index (pt b i) = ![(b : Nat), i, 0] := by decide +kernel
theorem at_5 : ∀ b i : Fin 8, win0_5.index (pt b i) = ![(b : Nat), i, 0] := by decide +kernel
theorem at_6 : ∀ b i : Fin 8, win0_6.index (pt b i) = ![(b : Nat), i, 0] := by decide +kernel
theorem at_7 : ∀ b i : Fin 8, win0_7.index (pt b i) = ![(b : Nat), i, 0] := by decide +kernel

section Blocks

variable (b i : Fin 8)

theorem blk_0 (A : Vec Ideal S8x4096x1024 .f32) (r : Fin 512) (d : Fin 1024) :
    ((cfg0.win 0).blk (pt b i)).view.read (Elt Ideal) A (ix3 0 r d) = A (ix3 b ⟨512 * i + r, by omega⟩ d) := by
  blk_ext [at_0]

theorem blk_1 (A : Vec Ideal S8x9x1024 .f32) (q : Fin 9) (d : Fin 1024) :
    ((cfg0.win 1).blk (pt b i)).view.read (Elt Ideal) A (ix3 0 q d) = A (ix3 b q d) := by
  blk_ext [at_1]

theorem blk_2 (A : Vec Ideal S1x1024 .f32) (d : Fin 1024) :
    ((cfg0.win 2).blk (pt b i)).view.read (Elt Ideal) A (ix2 0 d) = A (ix2 0 d) := by
  blk_ext [at_2]

theorem blk_3 (A : Vec Ideal S1024x2944 .bf16) (d : Fin 1024) (f : Fin 2944) :
    ((cfg0.win 3).blk (pt b i)).view.read (Elt Ideal) A (ix2 d f) = A (ix2 d f) := by
  blk_ext [at_3]

theorem blk_4 (A : Vec Ideal S8x4096x768 .f32) (r : Fin 512) (f : Fin 768) :
    ((cfg0.win 4).blk (pt b i)).view.read (Elt Ideal) A (ix3 0 r f) = A (ix3 b ⟨512 * i + r, by omega⟩ f) := by
  blk_ext [at_4]

theorem blk_5 (A : Vec Ideal S8x4096x512 .f32) (r : Fin 512) (f : Fin 512) :
    ((cfg0.win 5).blk (pt b i)).view.read (Elt Ideal) A (ix3 0 r f) = A (ix3 b ⟨512 * i + r, by omega⟩ f) := by
  blk_ext [at_5]

theorem blk_6 (A : Vec Ideal S8x4096x512 .f32) (r : Fin 512) (f : Fin 512) :
    ((cfg0.win 6).blk (pt b i)).view.read (Elt Ideal) A (ix3 0 r f) = A (ix3 b ⟨512 * i + r, by omega⟩ f) := by
  blk_ext [at_6]

theorem blk_7 (A : Vec Ideal S8x4096x1152 .f32) (r : Fin 512) (f : Fin 1152) :
    ((cfg0.win 7).blk (pt b i)).view.read (Elt Ideal) A (ix3 0 r f) = A (ix3 b ⟨512 * i + r, by omega⟩ f) := by
  blk_ext [at_7]

end Blocks

variable (m : (ℓ : Loc nD τ sig) → Buf (Elt Ideal) ℓ) (ρ : Dev nD → PrngReg) (c : Dev nD)

/-- A block of an output whose grid points write different blocks back is what its grid point has written. -/
theorem out_block (w : Fin 8) (hk : (cfg0.win w).kind = .blocked) (hi : ∀ t t' : Fin cfg0.N, (cfg0.win w).index t = (cfg0.win w).index t' → t = t')
    (hf : ∀ t : Fin cfg0.N, (cfg0.win w).flush t = true) (t : Fin cfg0.N) :
    ((cfg0.win w).blk t).view.read (Elt Ideal) ((dats m 0 c).arrAt w cfg0.N) = (dats m 0 c).flushed w t :=
  (dats m 0 c).read_blk_arrAt_eq_flushed w
    (fun t t' _ _ hne => (cfg0.win w).disjoint_blk (fun h => hne (hi t t' h)) hk) cfg0.N t t.isLt (hf t)

theorem block_4 (t : Fin cfg0.N) :
    ((cfg0.win 4).blk t).view.read (Elt Ideal) ((dats m 0 c).arrAt 4 cfg0.N) = (dats m 0 c).flushed 4 t :=
  out_block m c 4 rfl (by decide +kernel : ∀ t t' : Fin grid0.N, win0_4.index t = win0_4.index t' → t = t')
    (by decide +kernel : ∀ t : Fin grid0.N, win0_4.flush t = true) t
theorem block_5 (t : Fin cfg0.N) :
    ((cfg0.win 5).blk t).view.read (Elt Ideal) ((dats m 0 c).arrAt 5 cfg0.N) = (dats m 0 c).flushed 5 t :=
  out_block m c 5 rfl (by decide +kernel : ∀ t t' : Fin grid0.N, win0_5.index t = win0_5.index t' → t = t')
    (by decide +kernel : ∀ t : Fin grid0.N, win0_5.flush t = true) t
theorem block_6 (t : Fin cfg0.N) :
    ((cfg0.win 6).blk t).view.read (Elt Ideal) ((dats m 0 c).arrAt 6 cfg0.N) = (dats m 0 c).flushed 6 t :=
  out_block m c 6 rfl (by decide +kernel : ∀ t t' : Fin grid0.N, win0_6.index t = win0_6.index t' → t = t')
    (by decide +kernel : ∀ t : Fin grid0.N, win0_6.flush t = true) t
theorem block_7 (t : Fin cfg0.N) :
    ((cfg0.win 7).blk t).view.read (Elt Ideal) ((dats m 0 c).arrAt 7 cfg0.N) = (dats m 0 c).flushed 7 t :=
  out_block m c 7 rfl (by decide +kernel : ∀ t t' : Fin grid0.N, win0_7.index t = win0_7.index t' → t = t')
    (by decide +kernel : ∀ t : Fin grid0.N, win0_7.flush t = true) t

/-- The blocks are written back whole. -/
theorem cut_4 (t : Fin cfg0.N) (X : Vec Ideal S1x512x768 .f32) (r : Fin 512) (f : Fin 768) :
    (cfg0.win 4).cut (grid0.coords t) X (ix3 0 r f) = X (ix3 0 r f) :=
  congrArg X (funext fun a => by fin_cases a <;> rfl)
theorem cut_5 (t : Fin cfg0.N) (X : Vec Ideal S1x512x512 .f32) (r : Fin 512) (f : Fin 512) :
    (cfg0.win 5).cut (grid0.coords t) X (ix3 0 r f) = X (ix3 0 r f) :=
  congrArg X (funext fun a => by fin_cases a <;> rfl)
theorem cut_6 (t : Fin cfg0.N) (X : Vec Ideal S1x512x512 .f32) (r : Fin 512) (f : Fin 512) :
    (cfg0.win 6).cut (grid0.coords t) X (ix3 0 r f) = X (ix3 0 r f) :=
  congrArg X (funext fun a => by fin_cases a <;> rfl)
theorem cut_7 (t : Fin cfg0.N) (X : Vec Ideal S1x512x1152 .f32) (r : Fin 512) (f : Fin 1152) :
    (cfg0.win 7).cut (grid0.coords t) X (ix3 0 r f) = X (ix3 0 r f) :=
  congrArg X (funext fun a => by fin_cases a <;> rfl)

/-- A column of a token's projection in the kernel's layout, from the arguments. -/
def laid (b : Fin 8) (t : Fin 4096) (f : Fin 2944) : EReal :=
  project (fun k => (m ((c : Thread nD τ).loc main_arg0) : Vec Ideal S8x4096x1024 .f32) (ix3 b t k))
    (fun k => (m ((c : Thread nD τ).loc main_arg1) : Vec Ideal S8x9x1024 .f32) (ix3 b 3 k))
    (fun k => (m ((c : Thread nD τ).loc main_arg1) : Vec Ideal S8x9x1024 .f32) (ix3 b 4 k))
    (fun k => (m ((c : Thread nD τ).loc main_arg2) : Vec Ideal S1024 .f32) (ix1 k))
    (fun d f => padded (m ((c : Thread nD τ).loc main_arg3)) (ix2 d f)) f

theorem norm_read (g : FVec Ideal S1024 .f32) (k : Fin 1024) :
    (shapeCast S1x1024 g shapeCasts_S1024_S1x1024 : FVec Ideal S1x1024 .f32) (ix2 0 k) = g (ix1 k) := by
  simp only [pointwise]

/-- A row of the projection from a grid point's blocks. -/
theorem row_laid (b i : Fin 8) (r : Fin 512) (f : Fin 2944) :
    row (iblk m c 0 (pt b i)) (iblk m c 1 (pt b i)) (iblk m c 2 (pt b i)) (iblk m c 3 (pt b i)) r f
      = laid m c b ⟨512 * i + r, by omega⟩ f := by
  refine (project_congr (f := f) (w' := fun d f => V m c main_v12 (ix2 d f)) (f' := f) (fun k => blk_0 b i (V m c main_arg0) r k) (fun k => blk_1 b i (V m c main_arg1) 3 k)
    (fun k => blk_1 b i (V m c main_arg1) 4 k) (fun k => blk_2 b i (V m c main_v13) k)
    (fun k => blk_3 b i (V m c main_v12) k f)).trans ?_
  rw [V_main_arg0, V_main_arg1, V_norm, V_matrix]
  exact project_congr (fun _ => rfl) (fun _ => rfl) (fun _ => rfl) (fun k => norm_read _ k) (fun _ => rfl)

section Results

variable (b i : Fin 8) (r : Fin 512)

theorem result_4 (f : Fin 768) : (dats m 0 c).arrAt 4 cfg0.N (ix3 b ⟨512 * i + r, by omega⟩ f)
    = laid m c b ⟨512 * i + r, by omega⟩ ⟨0 + f, by omega⟩ := by
  have h : (dats m 0 c).flushed 4 (pt b i) = (cfg0.win 4).cut (grid0.coords (pt b i)) ((dats m 0 c).after 4 (pt b i)) := rfl
  refine ((blk_4 b i _ r f).symm.trans (congrFun (block_4 m c (pt b i)) (ix3 0 r f))).trans ?_
  rw [h, after0_4]
  exact ((cut_4 _ _ r f).trans (out4_apply _ _ _ _ r f)).trans (row_laid m c b i r _)

theorem result_5 (f : Fin 512) : (dats m 0 c).arrAt 5 cfg0.N (ix3 b ⟨512 * i + r, by omega⟩ f)
    = laid m c b ⟨512 * i + r, by omega⟩ ⟨768 + f, by omega⟩ := by
  have h : (dats m 0 c).flushed 5 (pt b i) = (cfg0.win 5).cut (grid0.coords (pt b i)) ((dats m 0 c).after 5 (pt b i)) := rfl
  refine ((blk_5 b i _ r f).symm.trans (congrFun (block_5 m c (pt b i)) (ix3 0 r f))).trans ?_
  rw [h, after0_5]
  exact ((cut_5 _ _ r f).trans (out5_apply _ _ _ _ r f)).trans (row_laid m c b i r _)

theorem result_6 (f : Fin 512) : (dats m 0 c).arrAt 6 cfg0.N (ix3 b ⟨512 * i + r, by omega⟩ f)
    = laid m c b ⟨512 * i + r, by omega⟩ ⟨1280 + f, by omega⟩ := by
  have h : (dats m 0 c).flushed 6 (pt b i) = (cfg0.win 6).cut (grid0.coords (pt b i)) ((dats m 0 c).after 6 (pt b i)) := rfl
  refine ((blk_6 b i _ r f).symm.trans (congrFun (block_6 m c (pt b i)) (ix3 0 r f))).trans ?_
  rw [h, after0_6]
  exact ((cut_6 _ _ r f).trans (out6_apply _ _ _ _ r f)).trans (row_laid m c b i r _)

theorem result_7 (f : Fin 1152) : (dats m 0 c).arrAt 7 cfg0.N (ix3 b ⟨512 * i + r, by omega⟩ f)
    = laid m c b ⟨512 * i + r, by omega⟩ ⟨1792 + f, by omega⟩ := by
  have h : (dats m 0 c).flushed 7 (pt b i) = (cfg0.win 7).cut (grid0.coords (pt b i)) ((dats m 0 c).after 7 (pt b i)) := rfl
  refine ((blk_7 b i _ r f).symm.trans (congrFun (block_7 m c (pt b i)) (ix3 0 r f))).trans ?_
  rw [h, after0_7]
  exact ((cut_7 _ _ r f).trans (out7_apply _ _ _ _ r f)).trans (row_laid m c b i r _)

end Results

/-- Two equal parts make equal columns. -/
theorem parts_congr {A A' : FVec Ideal S8x4096x384 .f32} {B B' : FVec Ideal S8x4096x32 .f32} (hA : A = A') (hB : B = B') :
    concatenate S8x4096x416 2 [⟨S8x4096x384, A⟩, ⟨S8x4096x32, B⟩] concatenates_S8x4096x384_S8x4096x32_S8x4096x416_d2
      = concatenate S8x4096x416 2 [⟨S8x4096x384, A'⟩, ⟨S8x4096x32, B'⟩] concatenates_S8x4096x384_S8x4096x32_S8x4096x416_d2 := by
  rw [hA, hB]

/-- The latent attention's columns as the host code after the call leaves them. -/
theorem tail_value : Pipeline.afterTail₀ cfgs (dats m) 0 (V0 m) [hostOps1] c main_v21
    = gathered ((dats m 0 c).arrAt 6 cfg0.N) := by
  have h6 : Pipeline.withArrays spec0 c (V0 m c) (fun w => (dats m 0 c).arrAt w cfg0.N) (Proc.devRef .tc main_v14_2)
      = (dats m 0 c).arrAt 6 cfg0.N :=
    Pipeline.withArrays_arr spec0 (by decide : Function.Injective (Pipeline.arrRef spec0)) c (V0 m c)
      (fun w => (dats m 0 c).arrAt w cfg0.N) 6
  unfold Pipeline.afterTail₀
  show StableHlo.after (List.flatten [hostOps1])
    (Pipeline.withArrays spec0 c (V0 m c) fun w => (dats m 0 c).arrAt w cfg0.N) (Proc.devRef .tc main_v21) = _
  generalize Pipeline.withArrays spec0 c (V0 m c) (fun w => (dats m 0 c).arrAt w cfg0.N) = W at h6
  simp only [hostOps1, List.flatten_cons, List.flatten_nil, List.append_nil]
  after_results_simp
  refine parts_congr ?_ ?_
  all_goals
    after_results_simp
    rw [h6]
    try rfl

/-- The run: the four results, and the arguments as launched. -/
theorem run_result : θ_run defs (onTc (τ := τ) (main (F := Ideal))) ⟨m, fun _ => 0, ρ⟩ fun r => ∀ c : Dev nD,
      r.2.mem ((c : Thread nD τ).loc main_v14_0) = (dats m 0 c).arrAt 4 cfg0.N
      ∧ r.2.mem ((c : Thread nD τ).loc main_v14_1) = (dats m 0 c).arrAt 5 cfg0.N
      ∧ r.2.mem ((c : Thread nD τ).loc main_v21) = gathered ((dats m 0 c).arrAt 6 cfg0.N)
      ∧ r.2.mem ((c : Thread nD τ).loc main_v14_3) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1 4, (h c).1 5,
      ((h c).2 main_v21 (Pipeline.mem_restRefs_of main_v21 (by decide) (by decide))).trans (tail_value m c),
      (h c).1 7,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Projection

end
-- ==== Proof.ProjReference.lean ====
/- The input projection of the reference, at an index. -/
module

public import proofs.«01_k».proof.Proof.Gen.Reference4Ideal.Read
public import proofs.«01_k».proof.Proof.ProjBody

@[expose] public section

set_option maxRecDepth 16384

noncomputable section

namespace Cert.Projection

open Cert.Reference4Ideal Cert.Reference4Ideal.Gen Cert.Reference4Ideal.Read Idealize.ShloMosaic Cert.FeedForward

variable (x0 : Vec Ideal S8x4096x1024 .f32) (x1 : Vec Ideal S8x9x1024 .f32) (x2 : Vec Ideal S1024 .f32)
  (x3 : Vec Ideal S1024x2848 .f32) (b : Fin 8) (t : Fin 4096)

/-- A column of a token's projection. -/
def column (f : Fin 2848) : EReal :=
  project (fun k => x0 (ix3 b t k)) (fun k => x1 (ix3 b 3 k)) (fun k => x1 (ix3 b 4 k)) (fun k => x2 (ix1 k))
    (fun d f => x3 (ix2 d f)) f

/-- A product of tokens with the projection's matrix. -/
theorem dot_project (h : FVec Ideal S8x4096x1024 .f32) (w : FVec Ideal S1024x2848 .f32) (f : Fin 2848) :
    Host.dotGeneral dot_S8x4096x1024_S1024x2848_S8x4096x2848_2_0_01_1_n_n none h w (ix3 b t f)
      = ∑ d : Fin 1024, (h (ix3 b t d) * w (ix2 d f) : EReal) := by
  simp only [pointwise]
  rw [zero_add]

/-- The sum of a token's squares. -/
theorem v1_apply : val_main_v1 (F := Ideal) x0 (ix2 b t) = ∑ d : Fin 1024, (x0 (ix3 b t d) * x0 (ix3 b t d) : EReal) := by
  unfold val_main_v1 val_main_v0 val_main_cst
  simp only [pointwise]
  rw [zero_add]

/-- The normalised and modulated token. -/
theorem v24_apply (d : Fin 1024) : val_main_v24 (F := Ideal) x0 x1 x2 (ix3 b t d)
    = normed (fun k => x0 (ix3 b t k)) (fun k => x1 (ix3 b 3 k)) (fun k => x1 (ix3 b 4 k)) (fun k => x2 (ix1 k)) d := by
  have hs := v1_apply x0 b t
  simp only [val_main_v24, val_main_v23, val_main_v22, val_main_v21, val_main_v20, val_main_v19, val_main_v18, val_main_v17,
    val_main_v16, val_main_v15, val_main_v14, val_main_v13, val_main_v12, val_main_v11, val_main_v10, val_main_v9,
    val_main_v8, val_main_v7, val_main_v6, val_main_v5, val_main_v4, val_main_v3, val_main_v2, val_main_cst_0, val_main_cst_1,
    val_main_cst_2]
  generalize val_main_v1 (F := Ideal) x0 = S at hs
  simp only [pointwise]
  simp [normed, scaleOf, hs, mul_assoc]

theorem v25_apply (f : Fin 2848) : val_main_v25 (F := Ideal) x0 x1 x2 x3 (ix3 b t f) = column x0 x1 x2 x3 b t f := by
  unfold val_main_v25 column project col
  refine (dot_project b t _ _ f).trans (Finset.sum_congr rfl fun d _ => ?_)
  rw [v24_apply]

/-- The four head groups' columns. -/
theorem v26_apply (f : Fin 768) : val_main_v26 (F := Ideal) x0 x1 x2 x3 (ix3 b t f)
    = column x0 x1 x2 x3 b t ⟨0 + f, by omega⟩ := by
  rw [← v25_apply]
  unfold val_main_v26
  generalize val_main_v25 (F := Ideal) x0 x1 x2 x3 = A
  simp only [pointwise]
  simp

theorem v27_apply (f : Fin 512) : val_main_v27 (F := Ideal) x0 x1 x2 x3 (ix3 b t f)
    = column x0 x1 x2 x3 b t ⟨768 + f, by omega⟩ := by
  rw [← v25_apply]
  unfold val_main_v27
  generalize val_main_v25 (F := Ideal) x0 x1 x2 x3 = A
  simp only [pointwise]
  simp

theorem v28_apply (f : Fin 416) : val_main_v28 (F := Ideal) x0 x1 x2 x3 (ix3 b t f)
    = column x0 x1 x2 x3 b t ⟨1280 + f, by omega⟩ := by
  rw [← v25_apply]
  unfold val_main_v28
  generalize val_main_v25 (F := Ideal) x0 x1 x2 x3 = A
  simp only [pointwise]
  simp

theorem v29_apply (f : Fin 1152) : val_main_v29 (F := Ideal) x0 x1 x2 x3 (ix3 b t f)
    = column x0 x1 x2 x3 b t ⟨1696 + f, by omega⟩ := by
  rw [← v25_apply]
  unfold val_main_v29
  generalize val_main_v25 (F := Ideal) x0 x1 x2 x3 = A
  simp only [pointwise]
  simp

end Cert.Projection

end
-- ==== Proof.ProjValue.lean ====
/- The projection's four results are the reference's. -/
module

public import proofs.«01_k».proof.Proof.ProjRun
public import proofs.«01_k».proof.Proof.ProjReference

@[expose] public section

set_option maxRecDepth 16384

noncomputable section

namespace Cert.Projection

open Cert.Kernel4Ideal Cert.Kernel4Ideal.Gen Idealize.ShloMosaic Idealize.ShloMosaic.TcCoe

variable (m : (ℓ : Loc nD τ sig) → Buf (Elt Ideal) ℓ) (c : Dev nD)

/-- The projection's column of the arguments. -/
abbrev wanted (b : Fin 8) (t : Fin 4096) (f : Fin 2848) : EReal :=
  column (m ((c : Thread nD τ).loc main_arg0)) (m ((c : Thread nD τ).loc main_arg1)) (m ((c : Thread nD τ).loc main_arg2))
    (m ((c : Thread nD τ).loc main_arg3)) b t f

/-- Equal columns of the two matrices give equal entries. -/
theorem laid_eq (b : Fin 8) (t : Fin 4096) (f : Fin 2944) (f' : Fin 2848)
    (h : ∀ d, padded (m ((c : Thread nD τ).loc main_arg3)) (ix2 d f)
      = (m ((c : Thread nD τ).loc main_arg3) : Vec Ideal S1024x2848 .f32) (ix2 d f')) :
    laid m c b t f = wanted m c b t f' :=
  project_congr (fun _ => rfl) (fun _ => rfl) (fun _ => rfl) (fun _ => rfl) h

/-- A token's batch, tile and row. -/
theorem tile_row (t : Fin 4096) : ∃ (i : Fin 8) (r : Fin 512), t = ⟨512 * i + r, by omega⟩ :=
  ⟨⟨t / 512, by have := t.isLt; omega⟩, ⟨t % 512, by omega⟩, Fin.ext (by show (t : Nat) = 512 * (t / 512) + t % 512; omega)⟩

theorem value_0 : (dats m 0 c).arrAt 4 cfg0.N
    = Cert.Reference4Ideal.Read.val_main_v26 (F := Ideal) (m ((c : Thread nD τ).loc main_arg0))
        (m ((c : Thread nD τ).loc main_arg1)) (m ((c : Thread nD τ).loc main_arg2)) (m ((c : Thread nD τ).loc main_arg3)) := by
  funext j
  idx_vars j
  obtain ⟨i, r, rfl⟩ := tile_row j1
  refine ((result_4 m c j0 i r j2).trans (laid_eq m c _ _ _ _ fun d => ?_)).trans (v26_apply _ _ _ _ j0 _ j2).symm
  exact padded_left _ d (0 + j2) (by omega)

theorem value_1 : (dats m 0 c).arrAt 5 cfg0.N
    = Cert.Reference4Ideal.Read.val_main_v27 (F := Ideal) (m ((c : Thread nD τ).loc main_arg0))
        (m ((c : Thread nD τ).loc main_arg1)) (m ((c : Thread nD τ).loc main_arg2)) (m ((c : Thread nD τ).loc main_arg3)) := by
  funext j
  idx_vars j
  obtain ⟨i, r, rfl⟩ := tile_row j1
  refine ((result_5 m c j0 i r j2).trans (laid_eq m c _ _ _ _ fun d => ?_)).trans (v27_apply _ _ _ _ j0 _ j2).symm
  exact padded_left _ d (768 + j2) (by omega)

/-- Rotary column `k`, among the latent attention's columns. -/
def rotary (k : Fin 32) : Fin 416 := ⟨384 + k, by omega⟩

theorem value_2 : gathered ((dats m 0 c).arrAt 6 cfg0.N)
    = Cert.Reference4Ideal.Read.val_main_v28 (F := Ideal) (m ((c : Thread nD τ).loc main_arg0))
        (m ((c : Thread nD τ).loc main_arg1)) (m ((c : Thread nD τ).loc main_arg2)) (m ((c : Thread nD τ).loc main_arg3)) := by
  funext j
  idx_vars j
  obtain ⟨i, r, rfl⟩ := tile_row j1
  refine Eq.trans ?_ (v28_apply _ _ _ _ j0 _ j2).symm
  by_cases hf : (j2 : Nat) < 384
  · refine ((gathered_left _ j0 _ j2 hf).trans (result_6 m c j0 i r ⟨j2, by omega⟩)).trans (laid_eq m c _ _ _ _ fun d => ?_)
    exact padded_left _ d (1280 + j2) (by omega)
  · obtain ⟨k, hk⟩ : ∃ k : Fin 32, j2 = rotary k :=
      ⟨⟨j2 - 384, by omega⟩, Fin.ext (by show (j2 : Nat) = 384 + (j2 - 384); omega)⟩
    subst hk
    refine ((gathered_rope _ j0 _ k).trans (result_6 m c j0 i r ⟨384 + place k, by omega⟩)).trans (laid_eq m c _ _ _ _ fun d => ?_)
    have e : ∀ n : Nat, 1280 + (384 + n) = 1664 + n := fun n => by omega
    simp only [e]
    exact (padded_rope _ d k).trans (congrArg (fun n => (m ((c : Thread nD τ).loc main_arg3) : Vec Ideal S1024x2848 .f32) (ix2 d n))
      (Fin.ext (by show 1664 + (k : Nat) = 1280 + (384 + k); omega)))

theorem value_3 : (dats m 0 c).arrAt 7 cfg0.N
    = Cert.Reference4Ideal.Read.val_main_v29 (F := Ideal) (m ((c : Thread nD τ).loc main_arg0))
        (m ((c : Thread nD τ).loc main_arg1)) (m ((c : Thread nD τ).loc main_arg2)) (m ((c : Thread nD τ).loc main_arg3)) := by
  funext j
  idx_vars j
  obtain ⟨i, r, rfl⟩ := tile_row j1
  refine ((result_7 m c j0 i r j2).trans (laid_eq m c _ _ _ _ fun d => ?_)).trans (v29_apply _ _ _ _ j0 _ j2).symm
  exact padded_right _ d j2

end Cert.Projection

end
-- ==== Proof.MlaBody.lean ====
/- The body of the latent attention (MLA). It is the grouped-query attention's body with another scale, so its result is the
   same formula `attn` of the loaded chunks. -/
module

public import proofs.«01_k».proof.Proof.Gen.Kernel5Ideal.Frame
public import proofs.«01_k».proof.Proof.Chunks

@[expose] public section

set_option maxRecDepth 16384

noncomputable section

namespace Cert.Latent

open Cert.Kernel5Ideal Cert.Kernel5Ideal.Gen Idealize.ShloMosaic Cert.Attention

set_option maxHeartbeats 4000000 in
/-- The generated result of the body is `attn` of the scaled queries and the chunks. -/
theorem out_eq (x0 : Vec Ideal S1x256x512 .f32) (x1 x2 x3 x4 : Vec Ideal S1x256x128 .bf16)
    (x5 x6 x7 x8 : Vec Ideal S1x1x128x256 .bf16) (x9 x10 x11 x12 : Vec Ideal S1x4096x128 .bf16)
    (x13 x14 x15 x16 : Vec Ideal S1x1x128x4096 .bf16) :
    out0_17 x0 x1 x2 x3 x4 x5 x6 x7 x8 x9 x10 x11 x12 x13 x14 x15 x16
      = View.canon [⟨r0_35, attn (k0_pay2 (View.ld x0 r0_0))
          ![keyChunks x1 x9, keyChunks x2 x10, keyChunks x3 x11, keyChunks x4 x12]
          ![valueChunks x5 x13, valueChunks x6 x14, valueChunks x7 x15, valueChunks x8 x16]⟩] := by
  unfold_out out0_17
  simp only [
    k0_pay1, k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32, k0_pay33, k0_pay34, k0_pay35,
    k0_pay36, k0_pay37, k0_pay38, k0_pay39, k0_pay40, k0_pay41, k0_pay42, k0_pay43, k0_pay44, k0_pay45, k0_pay46,
    k0_pay47, k0_pay48, k0_pay49, k0_pay50, k0_pay51, k0_pay52, k0_pay53, k0_pay54, k0_pay55, k0_pay56, k0_pay57,
    k0_pay58, k0_pay59, k0_pay60, k0_pay61, k0_pay62, k0_pay63, k0_pay64, k0_pay65, k0_pay66, k0_pay67, k0_pay68,
    k0_pay69, k0_pay70, k0_pay71, k0_pay72, k0_pay73, k0_pay74, k0_pay75, k0_pay76, k0_pay77, k0_pay78, k0_pay79,
    k0_pay80, k0_pay81, k0_pay82, k0_pay83, k0_pay84, k0_pay85, k0_pay86, k0_pay87, k0_pay88, k0_pay89, k0_pay90,
    k0_pay91, k0_pay92, k0_pay93, k0_pay94, k0_pay95, k0_pay96, k0_pay97, k0_pay98, k0_pay99, k0_pay100, k0_pay101,
    k0_pay102, k0_pay103, k0_pay104, k0_pay105, k0_pay106, k0_pay107, k0_pay108, k0_pay109, k0_pay110, k0_pay111,
    k0_pay112, k0_pay113, k0_pay114, k0_pay115, k0_pay116, k0_pay117, k0_pay118, k0_pay119, k0_pay120, k0_pay121,
    k0_pay122, k0_pay123, k0_pay124, k0_pay125, k0_pay126, k0_pay127, k0_pay128, k0_pay129, k0_pay130, k0_pay131,
    k0_pay132, k0_pay133, k0_pay134, k0_pay135, k0_pay136, k0_pay137, k0_pay138, k0_pay139, k0_pay140, k0_pay141,
    k0_pay142, k0_pay143, k0_pay144, k0_pay145, k0_pay146, k0_pay147, k0_pay148, k0_pay149, k0_pay150, k0_pay151,
    k0_pay152, k0_pay153, k0_pay154, k0_pay155, k0_pay156, k0_pay157, k0_pay158, k0_pay159, k0_pay160, k0_pay161,
    k0_pay162, k0_pay163, k0_pay164, k0_pay165, k0_pay166, k0_pay167, k0_pay168, k0_pay169, k0_pay170, k0_pay171,
    k0_pay172, k0_pay173, k0_pay174, k0_pay175, k0_pay176, k0_pay177, k0_pay178, k0_pay179, k0_pay180, k0_pay181,
    k0_pay182, k0_pay183, k0_pay184, k0_pay185, k0_pay186, k0_pay187, k0_pay188, k0_pay189, k0_pay190, k0_pay191,
    k0_pay192, k0_pay193, k0_pay194, k0_pay195, k0_pay196, k0_pay197, k0_pay198, k0_pay199, k0_pay200, k0_pay201,
    k0_pay202, k0_pay203, k0_pay204, k0_pay205, k0_pay206, k0_pay207, k0_pay208, k0_pay209, k0_pay210, k0_pay211,
    k0_pay212, k0_pay213, k0_pay214, k0_pay215, k0_pay216, k0_pay217, k0_pay218, k0_pay219, k0_pay220, k0_pay221,
    k0_pay222, k0_pay223, k0_pay224, k0_pay225, k0_pay226, k0_pay227, k0_pay228, k0_pay229, k0_pay230, k0_pay231,
    k0_pay232, k0_pay233, k0_pay234, k0_pay235, k0_pay236, k0_pay237, k0_pay238, k0_pay239, k0_pay240, k0_pay241,
    k0_pay242, k0_pay243, k0_pay244, k0_pay245, k0_pay246, k0_pay247, k0_pay248, k0_pay249, k0_pay250, k0_pay251,
    k0_pay252, k0_pay253, k0_pay254, k0_pay255, k0_pay256, k0_pay257, k0_pay258, k0_pay259, k0_pay260, k0_pay261,
    k0_pay262, k0_pay263, k0_pay264, k0_pay265, k0_pay266, k0_pay267, k0_pay268, k0_pay269, k0_pay270, k0_pay271,
    k0_pay272, k0_pay273, k0_pay274, k0_pay275, k0_pay276, k0_pay277, k0_pay278, k0_pay279, k0_pay280, k0_pay281,
    k0_pay282, k0_pay283, k0_pay284, k0_pay285, k0_pay286, k0_pay287, k0_pay288, k0_pay289, k0_pay290, k0_pay291,
    k0_pay292, k0_pay293, k0_pay294, k0_pay295, k0_pay296, k0_pay297, k0_pay298, k0_pay299, k0_pay300, k0_pay301,
    k0_pay302, k0_pay303, k0_pay304, k0_pay305, k0_pay306, k0_pay307, k0_pay308, k0_pay309, k0_pay310, k0_pay311,
    k0_pay312, k0_pay313, k0_pay314, k0_pay315, k0_pay316, k0_pay317, k0_pay318, k0_pay319, k0_pay320, k0_pay321,
    k0_pay322, k0_pay323, k0_pay324, k0_pay325, k0_pay326, k0_pay327, k0_pay328, k0_pay329, k0_pay330, k0_pay331,
    k0_pay332, k0_pay333, k0_pay334, k0_pay335, k0_pay336, k0_pay337, k0_pay338, k0_pay339, k0_pay340, k0_pay341,
    k0_pay342, k0_pay343,
    attn, head, joined, level, chain, share, weighed, peak, scores, keyChunks, valueChunks, Matrix.cons_val]
  rfl

/-- A scaled query. -/
theorem query (x : Vec Ideal S1x256x512 .f32) (r : Fin 256) (d : Fin 512) :
    k0_pay2 (View.ld x r0_0) (ix2 r d) = x (ix3 0 r d) * (((3424635 / 33554432) * (Real.log 2)⁻¹ : ℝ) : EReal) := by
  unfold k0_pay2
  simp only [pointwise]
  exact congrArg₂ _ (congrArg x (ix3_congr rfl (by simp) (by simp))) rfl

end Cert.Latent

end
-- ==== Proof.MlaBlocks.lean ====
/- The latent attention's blocks: what each window of the point of batch `b` and query tile `i` reads. -/
module

public import proofs.«01_k».proof.Proof.MlaBody
public import Idealize.ShloMosaic.Lib.Pipeline.ValueKit

@[expose] public section

set_option maxRecDepth 16384

noncomputable section

namespace Cert.Latent

open Cert.Kernel5Ideal Cert.Kernel5Ideal.Gen Idealize.ShloMosaic Idealize.ShloMosaic.TcCoe Cert.Softmax

/-- The grid point of batch `b` and query tile `i`. -/
def pt (b : Fin 8) (i : Fin 16) : Fin cfg0.N := ⟨16 * b + i, by have : cfg0.N = 128 := rfl; omega⟩

theorem at_queries : ∀ (b : Fin 8) (i : Fin 16), win0_0.index (pt b i) = ![(b : Nat), i, 0] := by decide +kernel
theorem at_1 : ∀ (b : Fin 8) (i : Fin 16), win0_1.index (pt b i) = ![(b : Nat), 0, 0] := by decide +kernel
theorem at_2 : ∀ (b : Fin 8) (i : Fin 16), win0_2.index (pt b i) = ![(b : Nat), 0, 1] := by decide +kernel
theorem at_3 : ∀ (b : Fin 8) (i : Fin 16), win0_3.index (pt b i) = ![(b : Nat), 0, 2] := by decide +kernel
theorem at_4 : ∀ (b : Fin 8) (i : Fin 16), win0_4.index (pt b i) = ![(b : Nat), 0, 3] := by decide +kernel
theorem at_5 : ∀ (b : Fin 8) (i : Fin 16), win0_5.index (pt b i) = ![(b : Nat), 0, 0, 0] := by decide +kernel
theorem at_6 : ∀ (b : Fin 8) (i : Fin 16), win0_6.index (pt b i) = ![(b : Nat), 1, 0, 0] := by decide +kernel
theorem at_7 : ∀ (b : Fin 8) (i : Fin 16), win0_7.index (pt b i) = ![(b : Nat), 2, 0, 0] := by decide +kernel
theorem at_8 : ∀ (b : Fin 8) (i : Fin 16), win0_8.index (pt b i) = ![(b : Nat), 3, 0, 0] := by decide +kernel
theorem at_9 : ∀ (b : Fin 8) (i : Fin 16), win0_9.index (pt b i) = ![(b : Nat), 0, 0] := by decide +kernel
theorem at_10 : ∀ (b : Fin 8) (i : Fin 16), win0_10.index (pt b i) = ![(b : Nat), 0, 1] := by decide +kernel
theorem at_11 : ∀ (b : Fin 8) (i : Fin 16), win0_11.index (pt b i) = ![(b : Nat), 0, 2] := by decide +kernel
theorem at_12 : ∀ (b : Fin 8) (i : Fin 16), win0_12.index (pt b i) = ![(b : Nat), 0, 3] := by decide +kernel
theorem at_13 : ∀ (b : Fin 8) (i : Fin 16), win0_13.index (pt b i) = ![(b : Nat), 0, 0, 0] := by decide +kernel
theorem at_14 : ∀ (b : Fin 8) (i : Fin 16), win0_14.index (pt b i) = ![(b : Nat), 1, 0, 0] := by decide +kernel
theorem at_15 : ∀ (b : Fin 8) (i : Fin 16), win0_15.index (pt b i) = ![(b : Nat), 2, 0, 0] := by decide +kernel
theorem at_16 : ∀ (b : Fin 8) (i : Fin 16), win0_16.index (pt b i) = ![(b : Nat), 3, 0, 0] := by decide +kernel
theorem at_result : ∀ (b : Fin 8) (i : Fin 16), win0_17.index (pt b i) = ![(b : Nat), i, 0] := by decide +kernel

variable (b : Fin 8) (i : Fin 16)

theorem queries_blk (A : Vec Ideal S8x4096x512 .f32) (r : Fin 256) (l : Fin 512) :
    ((cfg0.win 0).blk (pt b i)).view.read (Elt Ideal) A (ix3 0 r l) = A (ix3 b ⟨256 * i + r, by omega⟩ l) := by
  blk_ext [at_queries]

theorem blk_1 (A : Vec Ideal S8x256x512 .bf16) (j : Fin 256) (d : Fin 128) :
    ((cfg0.win 1).blk (pt b i)).view.read (Elt Ideal) A (ix3 0 j d) = A (ix3 b j ⟨0 + d, by omega⟩) := by
  blk_ext [at_1]

theorem blk_2 (A : Vec Ideal S8x256x512 .bf16) (j : Fin 256) (d : Fin 128) :
    ((cfg0.win 2).blk (pt b i)).view.read (Elt Ideal) A (ix3 0 j d) = A (ix3 b j ⟨128 + d, by omega⟩) := by
  blk_ext [at_2]

theorem blk_3 (A : Vec Ideal S8x256x512 .bf16) (j : Fin 256) (d : Fin 128) :
    ((cfg0.win 3).blk (pt b i)).view.read (Elt Ideal) A (ix3 0 j d) = A (ix3 b j ⟨256 + d, by omega⟩) := by
  blk_ext [at_3]

theorem blk_4 (A : Vec Ideal S8x256x512 .bf16) (j : Fin 256) (d : Fin 128) :
    ((cfg0.win 4).blk (pt b i)).view.read (Elt Ideal) A (ix3 0 j d) = A (ix3 b j ⟨384 + d, by omega⟩) := by
  blk_ext [at_4]

theorem blk_5 (A : Vec Ideal S8x4x128x256 .bf16) (d : Fin 128) (j : Fin 256) :
    ((cfg0.win 5).blk (pt b i)).view.read (Elt Ideal) A (ix4 0 0 d j) = A (ix4 b 0 d j) := by
  blk_ext [at_5]

theorem blk_6 (A : Vec Ideal S8x4x128x256 .bf16) (d : Fin 128) (j : Fin 256) :
    ((cfg0.win 6).blk (pt b i)).view.read (Elt Ideal) A (ix4 0 0 d j) = A (ix4 b 1 d j) := by
  blk_ext [at_6]

theorem blk_7 (A : Vec Ideal S8x4x128x256 .bf16) (d : Fin 128) (j : Fin 256) :
    ((cfg0.win 7).blk (pt b i)).view.read (Elt Ideal) A (ix4 0 0 d j) = A (ix4 b 2 d j) := by
  blk_ext [at_7]

theorem blk_8 (A : Vec Ideal S8x4x128x256 .bf16) (d : Fin 128) (j : Fin 256) :
    ((cfg0.win 8).blk (pt b i)).view.read (Elt Ideal) A (ix4 0 0 d j) = A (ix4 b 3 d j) := by
  blk_ext [at_8]

theorem blk_9 (A : Vec Ideal S8x4096x512 .bf16) (j : Fin 4096) (d : Fin 128) :
    ((cfg0.win 9).blk (pt b i)).view.read (Elt Ideal) A (ix3 0 j d) = A (ix3 b j ⟨0 + d, by omega⟩) := by
  blk_ext [at_9]

theorem blk_10 (A : Vec Ideal S8x4096x512 .bf16) (j : Fin 4096) (d : Fin 128) :
    ((cfg0.win 10).blk (pt b i)).view.read (Elt Ideal) A (ix3 0 j d) = A (ix3 b j ⟨128 + d, by omega⟩) := by
  blk_ext [at_10]

theorem blk_11 (A : Vec Ideal S8x4096x512 .bf16) (j : Fin 4096) (d : Fin 128) :
    ((cfg0.win 11).blk (pt b i)).view.read (Elt Ideal) A (ix3 0 j d) = A (ix3 b j ⟨256 + d, by omega⟩) := by
  blk_ext [at_11]

theorem blk_12 (A : Vec Ideal S8x4096x512 .bf16) (j : Fin 4096) (d : Fin 128) :
    ((cfg0.win 12).blk (pt b i)).view.read (Elt Ideal) A (ix3 0 j d) = A (ix3 b j ⟨384 + d, by omega⟩) := by
  blk_ext [at_12]

theorem blk_13 (A : Vec Ideal S8x4x128x4096 .bf16) (d : Fin 128) (j : Fin 4096) :
    ((cfg0.win 13).blk (pt b i)).view.read (Elt Ideal) A (ix4 0 0 d j) = A (ix4 b 0 d j) := by
  blk_ext [at_13]

theorem blk_14 (A : Vec Ideal S8x4x128x4096 .bf16) (d : Fin 128) (j : Fin 4096) :
    ((cfg0.win 14).blk (pt b i)).view.read (Elt Ideal) A (ix4 0 0 d j) = A (ix4 b 1 d j) := by
  blk_ext [at_14]

theorem blk_15 (A : Vec Ideal S8x4x128x4096 .bf16) (d : Fin 128) (j : Fin 4096) :
    ((cfg0.win 15).blk (pt b i)).view.read (Elt Ideal) A (ix4 0 0 d j) = A (ix4 b 2 d j) := by
  blk_ext [at_15]

theorem blk_16 (A : Vec Ideal S8x4x128x4096 .bf16) (d : Fin 128) (j : Fin 4096) :
    ((cfg0.win 16).blk (pt b i)).view.read (Elt Ideal) A (ix4 0 0 d j) = A (ix4 b 3 d j) := by
  blk_ext [at_16]

theorem result_emb (r : Fin 256) (col : Fin 256) :
    ((cfg0.win 17).blk (pt b i)).view.emb (ix3 0 r col) = ix3 b ⟨256 * i + r, by omega⟩ col := by
  blk_ext [at_result]

end Cert.Latent

end
-- ==== Proof.MlaPoint.lean ====
/- The latent attention: what the body leaves at one grid point, from the arrays that the windows cut: the softmax of the point's scores. -/
module

public import proofs.«01_k».proof.Proof.MlaBlocks

@[expose] public section

set_option maxRecDepth 16384

noncomputable section

namespace Cert.Latent

open Cert.Kernel5Ideal Cert.Kernel5Ideal.Gen Idealize.ShloMosaic Cert.Softmax
open Cert.Attention (attn attn_apply head_soft scores_apply keyChunks valueChunks
  keyChunks_apply valueChunks_apply keyAt valueAt)

/-- Lane `x` of key `k` of batch `b`: the context's keys, then the latents'. -/
def keyAll (KC : Vec Ideal S8x256x512 .bf16) (KL : Vec Ideal S8x4096x512 .bf16) (b : Fin 8) (k : Fin 4352) (x : Fin 512) :
    EReal :=
  if h : (k : Nat) < 256 then KC (ix3 b ⟨k, h⟩ x) else KL (ix3 b ⟨k - 256, by omega⟩ x)

/-- Row `e` of the value of key `k` of batch `b`, key head `g`. -/
def valueAll (VC : Vec Ideal S8x4x128x256 .bf16) (VL : Vec Ideal S8x4x128x4096 .bf16) (b : Fin 8) (g : Fin 4) (e : Fin 128)
    (k : Fin 4352) : EReal :=
  if h : (k : Nat) < 256 then VC (ix4 b g e ⟨k, h⟩) else VL (ix4 b g e ⟨k - 256, by omega⟩)

variable (Q : Vec Ideal S8x4096x512 .f32) (KC : Vec Ideal S8x256x512 .bf16) (VC : Vec Ideal S8x4x128x256 .bf16)
  (KL : Vec Ideal S8x4096x512 .bf16) (VL : Vec Ideal S8x4x128x4096 .bf16) (b : Fin 8) (i : Fin 16)

/-- The chunks of keys of the four heads at the point. -/
def keys : Fin 4 → Fin 17 → Vec Ideal S1x256x128 .bf16 :=
  ![keyChunks (((cfg0.win 1).blk (pt b i)).view.read (Elt Ideal) KC) (((cfg0.win 9).blk (pt b i)).view.read (Elt Ideal) KL),
    keyChunks (((cfg0.win 2).blk (pt b i)).view.read (Elt Ideal) KC) (((cfg0.win 10).blk (pt b i)).view.read (Elt Ideal) KL),
    keyChunks (((cfg0.win 3).blk (pt b i)).view.read (Elt Ideal) KC) (((cfg0.win 11).blk (pt b i)).view.read (Elt Ideal) KL),
    keyChunks (((cfg0.win 4).blk (pt b i)).view.read (Elt Ideal) KC) (((cfg0.win 12).blk (pt b i)).view.read (Elt Ideal) KL)]

/-- The chunks of values of the four heads at the point. -/
def values : Fin 4 → Fin 17 → Vec Ideal S1x1x128x256 .bf16 :=
  ![valueChunks (((cfg0.win 5).blk (pt b i)).view.read (Elt Ideal) VC) (((cfg0.win 13).blk (pt b i)).view.read (Elt Ideal) VL),
    valueChunks (((cfg0.win 6).blk (pt b i)).view.read (Elt Ideal) VC) (((cfg0.win 14).blk (pt b i)).view.read (Elt Ideal) VL),
    valueChunks (((cfg0.win 7).blk (pt b i)).view.read (Elt Ideal) VC) (((cfg0.win 15).blk (pt b i)).view.read (Elt Ideal) VL),
    valueChunks (((cfg0.win 8).blk (pt b i)).view.read (Elt Ideal) VC) (((cfg0.win 16).blk (pt b i)).view.read (Elt Ideal) VL)]

theorem keys_apply (h : Fin 4) (n : Fin 17) (j : Fin 256) (d : Fin 128) :
    keys KC KL b i h n (ix3 0 j d)
      = keyAll KC KL b ⟨256 * n + j, by omega⟩ ⟨128 * h + d, by omega⟩ := by
  rcases (by decide : ∀ h : Fin 4, h = 0 ∨ h = 1 ∨ h = 2 ∨ h = 3) h with rfl | rfl | rfl | rfl
  · refine (keyChunks_apply _ _ n j d).trans ?_
    unfold keyAt keyAll
    split
    · exact blk_1 b i KC _ d
    · exact blk_9 b i KL _ d
  · refine (keyChunks_apply _ _ n j d).trans ?_
    unfold keyAt keyAll
    split
    · exact blk_2 b i KC _ d
    · exact blk_10 b i KL _ d
  · refine (keyChunks_apply _ _ n j d).trans ?_
    unfold keyAt keyAll
    split
    · exact blk_3 b i KC _ d
    · exact blk_11 b i KL _ d
  · refine (keyChunks_apply _ _ n j d).trans ?_
    unfold keyAt keyAll
    split
    · exact blk_4 b i KC _ d
    · exact blk_12 b i KL _ d

theorem values_apply (h : Fin 4) (n : Fin 17) (j : Fin 256) (e : Fin 128) :
    values VC VL b i h n (ix4 0 0 e j) = valueAll VC VL b h e ⟨256 * n + j, by omega⟩ := by
  rcases (by decide : ∀ h : Fin 4, h = 0 ∨ h = 1 ∨ h = 2 ∨ h = 3) h with rfl | rfl | rfl | rfl
  · refine (valueChunks_apply _ _ n j e).trans ?_
    unfold valueAt valueAll
    split
    · exact blk_5 b i VC e _
    · exact blk_13 b i VL e _
  · refine (valueChunks_apply _ _ n j e).trans ?_
    unfold valueAt valueAll
    split
    · exact blk_6 b i VC e _
    · exact blk_14 b i VL e _
  · refine (valueChunks_apply _ _ n j e).trans ?_
    unfold valueAt valueAll
    split
    · exact blk_7 b i VC e _
    · exact blk_15 b i VL e _
  · refine (valueChunks_apply _ _ n j e).trans ?_
    unfold valueAt valueAll
    split
    · exact blk_8 b i VC e _
    · exact blk_16 b i VL e _

/-- What the body leaves at the point's row `r`, head `h`, entry `d`. -/
theorem point_eq (r : Fin 256) (h : Fin 4) (d : Fin 64) (T : Fin 4352 → ℝ) (v : Fin 4352 → EReal)
    (hT : ∀ k, ∑ l : Fin 128, (keyAll KC KL b k ⟨128 * h + l, by omega⟩
        * (Q (ix3 b ⟨256 * i + r, by omega⟩ ⟨128 * h + l, by omega⟩) * (((3424635 / 33554432) * (Real.log 2)⁻¹ : ℝ) : EReal)) : EReal)
      = ((T k * (Real.log 2)⁻¹ : ℝ) : EReal))
    (h1 : ∀ k, valueAll VC VL b h 64 k = 1)
    (hv : ∀ k, valueAll VC VL b h ⟨d, by omega⟩ k = v k) :
    attn (k0_pay2 (View.ld (((cfg0.win 0).blk (pt b i)).view.read (Elt Ideal) Q) r0_0)) (keys KC KL b i) (values VC VL b i)
      (ix3 0 r ⟨64 * h + d, by omega⟩) = soft T v := by
  rw [attn_apply]
  refine head_soft _ _ _ r d T v (fun n j => ?_) (fun n j => ?_) fun n j => ?_
  · rw [scores_apply, ← hT]
    refine Finset.sum_congr rfl fun l _ => ?_
    rw [keys_apply]
    refine congrArg _ ((query _ r _).trans ?_)
    exact congrArg (· * _) (queries_blk b i Q r _)
  · rw [values_apply, h1]
  · rw [values_apply, hv]

end Cert.Latent

end
-- ==== Proof.MlaRun.lean ====
/-
  The run of the latent attention: each grid point writes its own block of the result, so an entry of the result is the
  attention of the blocks that point has read.
-/
module

public import proofs.«01_k».proof.Proof.Gen.Kernel5Ideal.Frame
public import proofs.«01_k».proof.Proof.MlaPoint
public import Idealize.ShloMosaic.Lib.Pipeline.Value

@[expose] public section

set_option maxRecDepth 16384

noncomputable section

namespace Cert.Latent

open Cert.Kernel5Ideal Cert.Kernel5Ideal.Gen Idealize.ShloMosaic Idealize.ShloMosaic.TcCoe Idealize.SL.Sem
open Idealize.ShloMosaic.Pipeline (Dat)
open Cert.Attention (attn)

variable (m : (ℓ : Loc nD τ sig) → Buf (Elt Ideal) ℓ) (ρ : Dev nD → PrngReg) (c : Dev nD)

/-- Two grid points write different blocks of the result. -/
theorem result_index : ∀ t t' : Fin cfg0.N, win0_17.index t = win0_17.index t' → t = t' :=
  (by decide +kernel : ∀ t t' : Fin grid0.N, win0_17.index t = win0_17.index t' → t = t')

/-- Every grid point writes its block back. -/
theorem result_flush : ∀ t : Fin cfg0.N, (cfg0.win 17).flush t = true :=
  (by decide +kernel : ∀ t : Fin grid0.N, win0_17.flush t = true)

/-- A block of the result after the run is what its grid point has written back. -/
theorem result_block (t : Fin cfg0.N) :
    ((cfg0.win 17).blk t).view.read (Elt Ideal) ((dats m 0 c).arrAt 17 cfg0.N) = (dats m 0 c).flushed 17 t :=
  (dats m 0 c).read_blk_arrAt_eq_flushed 17
    (fun t t' _ _ hne => (cfg0.win 17).disjoint_blk fun h => hne (result_index t t' h)) cfg0.N t t.isLt (result_flush t)

/-- A block is written back whole. -/
theorem result_cut (t : Fin cfg0.N) (X : Vec Ideal S1x256x256 .f32) (r col : Fin 256) :
    (cfg0.win 17).cut (grid0.coords t) X (ix3 0 r col) = X (ix3 0 r col) :=
  congrArg X (funext fun a => by fin_cases a <;> rfl)

/-- A block of an array of the result's shape. -/
theorem result_read (b : Fin 8) (i : Fin 16) (A : Vec Ideal S8x4096x256 .f32) (r col : Fin 256) :
    ((cfg0.win 17).blk (pt b i)).view.read (Elt Ideal) A (ix3 0 r col) = A (ix3 b ⟨256 * i + r, by omega⟩ col) :=
  congrArg A (result_emb b i r col)

/-- What a grid point writes back. -/
theorem result_flushed (b : Fin 8) (i : Fin 16) (r col : Fin 256) :
    (dats m 0 c).flushed 17 (pt b i) (ix3 0 r col)
      = attn (k0_pay2 (View.ld (((cfg0.win 0).blk (pt b i)).view.read (Elt Ideal) (V m c main_v3)) r0_0))
          (keys (V m c main_v7) (V m c main_v16) b i) (values (V m c main_v12) (V m c main_v21) b i) (ix3 0 r col) := by
  have h : (dats m 0 c).flushed 17 (pt b i) = (cfg0.win 17).cut (grid0.coords (pt b i)) ((dats m 0 c).after 17 (pt b i)) := rfl
  rw [h, after0_17, out_eq, View.canon_unit_zero (by decide)]
  exact result_cut _ _ _ _

/-- The result after the run, entry by entry. -/
theorem result_at (b : Fin 8) (i : Fin 16) (r col : Fin 256) :
    (dats m 0 c).arrAt 17 cfg0.N (ix3 b ⟨256 * i + r, by omega⟩ col)
      = attn (k0_pay2 (View.ld (((cfg0.win 0).blk (pt b i)).view.read (Elt Ideal) (V m c main_v3)) r0_0))
          (keys (V m c main_v7) (V m c main_v16) b i) (values (V m c main_v12) (V m c main_v21) b i) (ix3 0 r col) :=
  ((result_read b i ((dats m 0 c).arrAt 17 cfg0.N) r col).symm.trans
    (congrFun (result_block m c (pt b i)) (ix3 0 r col))).trans (result_flushed m c b i r col)

/-- A buffer no window writes is left as launched by the region. -/
theorem arg_kept (r : PUnit × MemSt nD τ sig (Elt Ideal)) (h : Pipeline.FramePost cfgs (dats m) 0 (V m) r) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The run: the result is the array the grid has written, and the arguments are as launched. -/
theorem run_result : θ_run defs (onTc (τ := τ) (main (F := Ideal))) ⟨m, fun _ => 0, ρ⟩ fun r => ∀ c : Dev nD,
      r.2.mem ((c : Thread nD τ).loc main_v22) = (dats m 0 c).arrAt 17 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 17, arg_kept m c r h⟩) (run_main m ρ)

end Cert.Latent

end
-- ==== Proof.MlaHost.lean ====
/- The latent attention: the host's layout of queries, keys and values, at an index. -/
module

public import proofs.«01_k».proof.Proof.MlaBody
public import Idealize.ShloMosaic.Lib.StableHlo.ReadAt

@[expose] public section

set_option maxRecDepth 16384

noncomputable section

namespace Cert.Latent

open Cert.Kernel5Ideal Cert.Kernel5Ideal.Gen Idealize.ShloMosaic Idealize.ShloMosaic.TcCoe Cert.Attention

/-- The queries, one head per 128 lanes, zeros past the head's 96. -/
def layQ (x : Vec Ideal S8x4096x4x1x96 .f32) : Vec Ideal S8x4096x512 .f32 :=
  shapeCast S8x4096x512 (concatenate S8x4096x4x128 3
    [⟨S8x4096x4x96, shapeCast S8x4096x4x96 x shapeCasts_S8x4096x4x1x96_S8x4096x4x96⟩,
     ⟨S8x4096x4x32, broadcastInDim S8x4096x4x32 ![] bcast_S_S8x4096x4x32 (constant (F := Ideal) S_ .f32 0x00000000#32)⟩]
    concatenates_S8x4096x4x96_S8x4096x4x32_S8x4096x4x128_d3) shapeCasts_S8x4096x4x128_S8x4096x512

/-- The context's keys in the same layout. -/
def layKC (x : FVec Ideal S8x256x4x96 .f32) : FVec Ideal S8x256x512 .bf16 :=
  truncf .bf16 (shapeCast S8x256x512 (concatenate S8x256x4x128 3
    [⟨S8x256x4x96, x⟩,
     ⟨S8x256x4x32, broadcastInDim S8x256x4x32 ![] bcast_S_S8x256x4x32 (constant (F := Ideal) S_ .f32 0x00000000#32)⟩]
    concatenates_S8x256x4x96_S8x256x4x32_S8x256x4x128_d3) shapeCasts_S8x256x4x128_S8x256x512 : FVec Ideal S8x256x512 .f32)
    bitsLt_bf16_f32

/-- The latents' keys in the same layout. -/
def layKL (x : FVec Ideal S8x4096x4x96 .f32) : FVec Ideal S8x4096x512 .bf16 :=
  truncf .bf16 (shapeCast S8x4096x512 (concatenate S8x4096x4x128 3
    [⟨S8x4096x4x96, x⟩,
     ⟨S8x4096x4x32, broadcastInDim S8x4096x4x32 ![] bcast_S_S8x4096x4x32 (constant (F := Ideal) S_ .f32 0x00000000#32)⟩]
    concatenates_S8x4096x4x96_S8x4096x4x32_S8x4096x4x128_d3) shapeCasts_S8x4096x4x128_S8x4096x512 : FVec Ideal S8x4096x512 .f32)
    bitsLt_bf16_f32

/-- The context's values, keys along the lanes, with a row of ones and rows of zeros. -/
def layVC (x : FVec Ideal S8x256x4x64 .f32) : FVec Ideal S8x4x128x256 .bf16 :=
  truncf .bf16 (concatenate S8x4x128x256 2
    [⟨S8x4x64x256, transpose S8x4x64x256 [0, 2, 3, 1] x transposes_S8x256x4x64_S8x4x64x256_0_2_3_1⟩,
     ⟨S8x4x1x256, broadcastInDim S8x4x1x256 ![] bcast_S_S8x4x1x256 (constant (F := Ideal) S_ .f32 0x3F800000#32)⟩,
     ⟨S8x4x63x256, broadcastInDim S8x4x63x256 ![] bcast_S_S8x4x63x256 (constant (F := Ideal) S_ .f32 0x00000000#32)⟩]
    concatenates_S8x4x64x256_S8x4x1x256_S8x4x63x256_S8x4x128x256_d2 : FVec Ideal S8x4x128x256 .f32) bitsLt_bf16_f32

/-- The latents' values in the same layout. -/
def layVL (x : FVec Ideal S8x4096x4x64 .f32) : FVec Ideal S8x4x128x4096 .bf16 :=
  truncf .bf16 (concatenate S8x4x128x4096 2
    [⟨S8x4x64x4096, transpose S8x4x64x4096 [0, 2, 3, 1] x transposes_S8x4096x4x64_S8x4x64x4096_0_2_3_1⟩,
     ⟨S8x4x1x4096, broadcastInDim S8x4x1x4096 ![] bcast_S_S8x4x1x4096 (constant (F := Ideal) S_ .f32 0x3F800000#32)⟩,
     ⟨S8x4x63x4096, broadcastInDim S8x4x63x4096 ![] bcast_S_S8x4x63x4096 (constant (F := Ideal) S_ .f32 0x00000000#32)⟩]
    concatenates_S8x4x64x4096_S8x4x1x4096_S8x4x63x4096_S8x4x128x4096_d2 : FVec Ideal S8x4x128x4096 .f32) bitsLt_bf16_f32

variable (m : (ℓ : Loc nD τ sig) → Buf (Elt Ideal) ℓ) (c : Dev nD)

theorem V_q : V m c main_v3 = layQ (m ((c : Thread nD τ).loc main_arg0)) := by
  unfold V
  after_results_simp
  rfl

theorem V_kc : V m c main_v7 = layKC (m ((c : Thread nD τ).loc main_arg1)) := by
  unfold V
  after_results_simp
  rfl

theorem V_vc : V m c main_v12 = layVC (m ((c : Thread nD τ).loc main_arg2)) := by
  unfold V
  after_results_simp
  rfl

theorem V_kl : V m c main_v16 = layKL (m ((c : Thread nD τ).loc main_arg3)) := by
  unfold V
  after_results_simp
  rfl

theorem V_vl : V m c main_v21 = layVL (m ((c : Thread nD τ).loc main_arg4)) := by
  unfold V
  after_results_simp
  rfl

/-- The queries laid out, at an index. -/
theorem layQ_apply (x : Vec Ideal S8x4096x4x1x96 .f32) (b : Fin 8) (q : Fin 4096) (h : Fin 4) (l : Fin 128) (y : Fin 512)
    (hy : (y : Nat) = 128 * h + l) :
    layQ x (ix3 b q y)
      = if hl : (l : Nat) < 96 then x (ix5 b q h 0 ⟨l, hl⟩) else (0 : EReal) := by
  unfold layQ
  simp only [pointwise]
  have e : (y : Nat) % 128 = l := by omega
  have e2 : (y : Nat) / 128 = h := by omega
  simp only [e, e2]

/-- The context's keys laid out, at an index. -/
theorem layKC_apply (x : FVec Ideal S8x256x4x96 .f32) (b : Fin 8) (k : Fin 256) (g : Fin 4) (l : Fin 128) (y : Fin 512)
    (hy : (y : Nat) = 128 * g + l) :
    layKC x (ix3 b k y) = if hl : (l : Nat) < 96 then x (ix4 b k g ⟨l, hl⟩) else (0 : EReal) := by
  unfold layKC
  simp only [pointwise]
  have e : (y : Nat) % 128 = l := by omega
  have e2 : (y : Nat) / 128 = g := by omega
  simp only [e, e2, Fin.eta]

/-- The latents' keys laid out, at an index. -/
theorem layKL_apply (x : FVec Ideal S8x4096x4x96 .f32) (b : Fin 8) (k : Fin 4096) (g : Fin 4) (l : Fin 128) (y : Fin 512)
    (hy : (y : Nat) = 128 * g + l) :
    layKL x (ix3 b k y) = if hl : (l : Nat) < 96 then x (ix4 b k g ⟨l, hl⟩) else (0 : EReal) := by
  unfold layKL
  simp only [pointwise]
  have e : (y : Nat) % 128 = l := by omega
  have e2 : (y : Nat) / 128 = g := by omega
  simp only [e, e2, Fin.eta]

/-- Row 64 of the context's values laid out is one. -/
theorem layVC_one (x : FVec Ideal S8x256x4x64 .f32) (b : Fin 8) (k : Fin 256) (g : Fin 4) (e : Fin 128)
    (he : (e : Nat) = 64) : layVC x (ix4 b g e k) = 1 := by
  unfold layVC
  simp only [pointwise]
  rw [dif_neg (by simp [he]), dif_pos (by simp [he])]

/-- Rows 0 to 63 of the context's values laid out. -/
theorem layVC_apply (x : FVec Ideal S8x256x4x64 .f32) (b : Fin 8) (k : Fin 256) (g : Fin 4) (d : Fin 64) (e : Fin 128)
    (he : (e : Nat) = d) : layVC x (ix4 b g e k) = x (ix4 b k g d) := by
  unfold layVC
  simp only [pointwise]
  rw [dif_pos (by simp [he])]
  exact congrArg x (ix4_congr (by simp) (by simp) (by simp) (by simp [he]))

/-- Row 64 of the latents' values laid out is one. -/
theorem layVL_one (x : FVec Ideal S8x4096x4x64 .f32) (b : Fin 8) (k : Fin 4096) (g : Fin 4) (e : Fin 128)
    (he : (e : Nat) = 64) : layVL x (ix4 b g e k) = 1 := by
  unfold layVL
  simp only [pointwise]
  rw [dif_neg (by simp [he]), dif_pos (by simp [he])]

/-- Rows 0 to 63 of the latents' values laid out. -/
theorem layVL_apply (x : FVec Ideal S8x4096x4x64 .f32) (b : Fin 8) (k : Fin 4096) (g : Fin 4) (d : Fin 64) (e : Fin 128)
    (he : (e : Nat) = d) : layVL x (ix4 b g e k) = x (ix4 b k g d) := by
  unfold layVL
  simp only [pointwise]
  rw [dif_pos (by simp [he])]
  exact congrArg x (ix4_congr (by simp) (by simp) (by simp) (by simp [he]))

end Cert.Latent

end
-- ==== Proof.MlaReference.lean ====
/- The latent attention's reference at an index: the softmax of its real scores applied to the values. -/
module

public import proofs.«01_k».proof.Proof.Gen.Reference5Ideal.Read
public import proofs.«01_k».proof.Proof.Reference
public import Idealize.ShloMosaic.Lib.Pointwise

@[expose] public section

set_option maxRecDepth 16384

noncomputable section

namespace Cert.LatentReference

open Cert.Reference5Ideal Cert.Reference5Ideal.Gen Cert.Reference5Ideal.Read Idealize.ShloMosaic Cert.Softmax
open Cert.Reference (ix4_congr ix5_congr bits_bot)

/-- Entry `l` of key or value `k` of batch `b` and key head `g`: the context's, then the latents'. -/
def joint {n : Nat} (c : Vec Ideal ⟨4, ![8, 256, 4, n]⟩ .f32) (x : Vec Ideal ⟨4, ![8, 4096, 4, n]⟩ .f32) (b : Fin 8)
    (k : Fin 4352) (g : Fin 4) (l : Fin n) : EReal :=
  if h : (k : Nat) < 256 then c (ix4 b ⟨k, h⟩ g l) else x (ix4 b ⟨k - 256, by omega⟩ g l)

variable (x0 : Vec Ideal S8x4096x4x1x96 .f32) (x1 : Vec Ideal S8x256x4x96 .f32) (x2 : Vec Ideal S8x256x4x64 .f32)
  (x3 : Vec Ideal S8x4096x4x96 .f32) (x4 : Vec Ideal S8x4096x4x64 .f32) (b : Fin 8) (q : Fin 4096) (g : Fin 4)

/-- The joined keys at an index. -/
theorem v0_apply (k : Fin 4352) (l : Fin 96) : val_main_v0 (F := Ideal) x1 x3 (ix4 b k g l) = joint x1 x3 b k g l := by
  unfold val_main_v0 joint
  simp only [pointwise]
  split
  · rfl
  · exact congrArg x3 (ix4_congr (by simp) (by simp) (by simp) (by simp))

/-- The joined values at an index. -/
theorem v1_apply (k : Fin 4352) (l : Fin 64) : val_main_v1 (F := Ideal) x2 x4 (ix4 b k g l) = joint x2 x4 b k g l := by
  unfold val_main_v1 joint
  simp only [pointwise]
  split
  · rfl
  · exact congrArg x4 (ix4_congr (by simp) (by simp) (by simp) (by simp))

theorem bits_scale : Ideal.ofBits .f32 0x3DD105EC#32 = ((3424635 / 33554432 : ℝ) : EReal) := by
  simp [Ideal.ofBits, Ideal.ieee, -EReal.coe_mul]
  norm_num

/-- A scaled score. -/
theorem v5_apply (k : Fin 4352) : val_main_v5 (F := Ideal) x0 x1 x3 (ix5 b g 0 q k)
    = (∑ l, (joint x1 x3 b k g l * x0 (ix5 b q g 0 l) : EReal)) * ((3424635 / 33554432 : ℝ) : EReal) := by
  unfold val_main_v5 val_main_v3 val_main_v2 val_main_v4 val_main_cst
  simp only [pointwise]
  rw [zero_add, bits_scale]
  simp only [v0_apply]

/-- The maximum over the keys of any array of scores. -/
theorem maximum_apply (x : FVec Ideal S8x4x1x4096x4352 .f32) :
    Host.reduce FloatOps.maximumf x (val_main_cst_0 (F := Ideal)) reducesTo_S8x4x1x4096x4352_S8x4x1x4096_d4 h_S_ (ix4 b g 0 q)
      = (Finset.univ : Finset (Fin 4352)).fold max (⊥ : EReal) fun k => x (ix5 b g 0 q k) := by
  unfold val_main_cst_0
  simp only [pointwise]
  rw [← bits_bot]

/-- The subtracted maximum, along the keys. -/
theorem v10_apply (k : Fin 4352) : val_main_v10 (F := Ideal) x0 x1 x3 (ix5 b g 0 q k)
    = val_main_v8 (F := Ideal) x0 x1 x3 (ix4 b g 0 q) := by
  rw [val_main_v10_apply, val_main_v9_apply]
  refine congrArg _ (funext fun a => ?_)
  match a with
  | ⟨0, _⟩ => rfl
  | ⟨1, _⟩ => rfl
  | ⟨2, _⟩ => exact Subsingleton.elim (α := Fin 1) _ _
  | ⟨3, _⟩ => rfl

/-- The weight of a key before division. -/
theorem v12_apply (k : Fin 4352) : val_main_v12 (F := Ideal) x0 x1 x3 (ix5 b g 0 q k)
    = Ideal.exp (val_main_v5 (F := Ideal) x0 x1 x3 (ix5 b g 0 q k) - val_main_v8 (F := Ideal) x0 x1 x3 (ix4 b g 0 q)) := by
  rw [val_main_v12_apply, val_main_v11_apply, v10_apply]
  rfl

/-- The sum of the weights, along the keys. -/
theorem v15_apply (k : Fin 4352) : val_main_v15 (F := Ideal) x0 x1 x3 (ix5 b g 0 q k)
    = ∑ k', (val_main_v12 (F := Ideal) x0 x1 x3 (ix5 b g 0 q k') : EReal) := by
  rw [val_main_v15_apply, val_main_v14_apply, val_main_v13_apply, val_main_cst_2_apply]
  have h0 : (FloatOps.ofBits .f32 0x00000000#32 : Ideal .f32) = (0 : EReal) := by
    show Ideal.ofBits .f32 0x00000000#32 = 0
    simp [Ideal.ofBits, Ideal.ieee]
  rw [h0]
  refine (zero_add _).trans (Finset.sum_congr rfl fun k' _ => congrArg _ (funext fun a => ?_))
  match a with
  | ⟨0, _⟩ => rfl
  | ⟨1, _⟩ => rfl
  | ⟨2, _⟩ => exact Subsingleton.elim (α := Fin 1) _ _
  | ⟨3, _⟩ => rfl
  | ⟨4, _⟩ => rfl

/-- The subtracted maximum is real when the scores are. -/
theorem v8_real (T : Fin 4352 → ℝ) (hT : ∀ k, val_main_v5 (F := Ideal) x0 x1 x3 (ix5 b g 0 q k) = (T k : EReal)) :
    ∃ m : ℝ, val_main_v8 (F := Ideal) x0 x1 x3 (ix4 b g 0 q) = (m : EReal) := by
  obtain ⟨m, hm⟩ := fold_max_real (n := 4351) T
  refine ⟨m, ?_⟩
  rw [val_main_v8_apply, val_main_v7_apply, val_main_cst_1_apply]
  unfold val_main_v6
  rw [maximum_apply]
  simp only [hT]
  have hb : (FloatOps.ofBits .f32 0xFF800000#32 : Ideal .f32) = (⊥ : EReal) := bits_bot
  rw [hb]
  refine (max_eq_right bot_le).trans hm

/-- The softmax times the values, summed. -/
theorem v17_apply (d : Fin 64) : val_main_v17 (F := Ideal) x0 x1 x2 x3 x4 (ix5 b g d 0 q)
    = ∑ k, (joint x2 x4 b k g d * val_main_v16 (F := Ideal) x0 x1 x3 (ix5 b g 0 q k) : EReal) := by
  unfold val_main_v17
  simp only [pointwise]
  rw [zero_add]
  simp only [v1_apply]

/-- The result: entry `d` of query head `g` at query `q`. -/
theorem v20_apply (d : Fin 64) (y : Fin 256) (hy : (y : Nat) = 64 * g + d) :
    val_main_v20 (F := Ideal) x0 x1 x2 x3 x4 (ix3 b q y) = val_main_v17 (F := Ideal) x0 x1 x2 x3 x4 (ix5 b g d 0 q) := by
  have hd := d.isLt
  unfold val_main_v20 val_main_v19 val_main_v18
  simp only [pointwise]
  exact congrArg (val_main_v17 (F := Ideal) x0 x1 x2 x3 x4)
    (ix5_congr rfl (by show (y : Nat) / 64 = g; omega) (by show (y : Nat) % 64 = d; omega) rfl rfl)

/-- The reference with real scores. -/
theorem result_eq (d : Fin 64) (y : Fin 256) (hy : (y : Nat) = 64 * g + d) (T : Fin 4352 → ℝ)
    (hT : ∀ k, (∑ l, (joint x1 x3 b k g l * x0 (ix5 b q g 0 l) : EReal)) * ((3424635 / 33554432 : ℝ) : EReal) = (T k : EReal)) :
    val_main_v20 (F := Ideal) x0 x1 x2 x3 x4 (ix3 b q y) = soft T fun k => joint x2 x4 b k g d := by
  have hT' : ∀ k, val_main_v5 (F := Ideal) x0 x1 x3 (ix5 b g 0 q k) = (T k : EReal) := fun k =>
    (v5_apply x0 x1 x3 b q g k).trans (hT k)
  obtain ⟨m, hm⟩ := v8_real x0 x1 x3 b q g T hT'
  rw [v20_apply x0 x1 x2 x3 x4 b q g d y hy, v17_apply, ← soft_eq (n := 4351) T _ m]
  refine Finset.sum_congr rfl fun k _ => ?_
  rw [mul_comm, val_main_v16_apply, v15_apply]
  simp only [v12_apply, hT', hm]
  rfl

end Cert.LatentReference

end
-- ==== Proof.MlaValue.lean ====
/-
  The latent attention's result is the reference's: with finite queries and keys both are the softmax of the same real scores,
  applied to the same values.
-/
module

public import proofs.«01_k».proof.Proof.MlaRun
public import proofs.«01_k».proof.Proof.MlaHost
public import proofs.«01_k».proof.Proof.MlaReference
public import proofs.«01_k».proof.Proof.Value
public import proofs.«01_k».proof.Defs
public import Idealize.ShloMosaic.Lib.ReduceAll

@[expose] public section

set_option maxRecDepth 16384

noncomputable section

namespace Cert.Latent

open Cert.Kernel5Ideal Cert.Kernel5Ideal.Gen Idealize.ShloMosaic Idealize.ShloMosaic.TcCoe Cert.Softmax
open Cert.LatentReference (joint result_eq)
open Cert.Attention (real_of_abs bits_inf)

/-! ## Finite entries -/

/-- The precondition: every query and key is a real number. -/
theorem finite [Cert.Pre_finite_mla_scores.Facts] (x0 : Vec Ideal S8x4096x4x1x96 .f32) (x1 : Vec Ideal S8x256x4x96 .f32)
    (x2 : Vec Ideal S8x256x4x64 .f32) (x3 : Vec Ideal S8x4096x4x96 .f32) (x4 : Vec Ideal S8x4096x4x64 .f32)
    (h : Cert.Pre_finite_mla_scores.fn (F := Ideal) x0 x1 x2 x3 x4 = fun _ => 1#1) :
    (∀ i, (((x0 i : EReal).toReal : ℝ) : EReal) = x0 i) ∧ (∀ i, (((x1 i : EReal).toReal : ℝ) : EReal) = x1 i)
      ∧ (∀ i, (((x3 i : EReal).toReal : ℝ) : EReal) = x3 i) := by
  have h0 := congrFun h ix0
  unfold Cert.Pre_finite_mla_scores.fn at h0
  obtain ⟨h01, h3⟩ := IntOp.andi_eq_one.1 h0
  obtain ⟨h0, h1⟩ := IntOp.andi_eq_one.1 h01
  have : Subsingleton (Cert.Pre_finite_mla_scores.S_).Idx := ⟨fun a b => funext fun k => k.elim0⟩
  refine ⟨fun i => real_of_abs ?_, fun i => real_of_abs ?_, fun i => real_of_abs ?_⟩
  · exact (congrArg (Ideal.cmp .olt _) bits_inf.symm).trans (Host.reduce_andi_all _ _ _ _ _ h0 i)
  · exact (congrArg (Ideal.cmp .olt _) bits_inf.symm).trans (Host.reduce_andi_all _ _ _ _ _ h1 i)
  · exact (congrArg (Ideal.cmp .olt _) bits_inf.symm).trans (Host.reduce_andi_all _ _ _ _ _ h3 i)

/-! ## The kernel's result -/

section

variable (x0 : Vec Ideal S8x4096x4x1x96 .f32) (x1 : Vec Ideal S8x256x4x96 .f32)
    (x2 : Vec Ideal S8x256x4x64 .f32) (x3 : Vec Ideal S8x4096x4x96 .f32) (x4 : Vec Ideal S8x4096x4x64 .f32) (b : Fin 8)

/-- A lane of the laid out keys: the joined keys, then zeros. -/
theorem keyAll_apply (k : Fin 4352) (g : Fin 4) (l : Fin 128) :
    keyAll (layKC x1) (layKL x3) b k ⟨128 * g + l, by omega⟩
      = if hl : (l : Nat) < 96 then joint x1 x3 b k g ⟨l, hl⟩ else 0 := by
  unfold keyAll joint
  by_cases hk : (k : Nat) < 256
  · rw [dif_pos hk, layKC_apply x1 b ⟨k, hk⟩ g l ⟨128 * g + l, by omega⟩ rfl]
    simp only [dif_pos hk]
  · rw [dif_neg hk, layKL_apply x3 b ⟨k - 256, by omega⟩ g l ⟨128 * g + l, by omega⟩ rfl]
    simp only [dif_neg hk]

/-- Row 64 of the laid out values: ones. -/
theorem valueAll_one (k : Fin 4352) (g : Fin 4) (e : Fin 128) (he : (e : Nat) = 64) :
    valueAll (layVC x2) (layVL x4) b g e k = 1 := by
  unfold valueAll
  split
  · exact layVC_one x2 b _ g e he
  · exact layVL_one x4 b _ g e he

/-- The rows below 64 of the laid out values: the joined values. -/
theorem valueAll_apply (k : Fin 4352) (g : Fin 4) (d : Fin 64) (e : Fin 128) (he : (e : Nat) = d) :
    valueAll (layVC x2) (layVL x4) b g e k = joint x2 x4 b k g d := by
  unfold valueAll joint
  split
  · exact layVC_apply x2 b _ g d e he
  · exact layVL_apply x4 b _ g d e he

variable (h0 : ∀ i, (((x0 i : EReal).toReal : ℝ) : EReal) = x0 i) (h1 : ∀ i, (((x1 i : EReal).toReal : ℝ) : EReal) = x1 i)
  (h3 : ∀ i, (((x3 i : EReal).toReal : ℝ) : EReal) = x3 i)

include h1 h3 in
theorem joint_real (k : Fin 4352) (g : Fin 4) (l : Fin 96) :
    (((joint x1 x3 b k g l).toReal : ℝ) : EReal) = joint x1 x3 b k g l := by
  unfold joint
  split
  · exact h1 _
  · exact h3 _

/-- The real score of key `k` for query head `h` at query `q`. -/
def score (q : Fin 4096) (g : Fin 4) (k : Fin 4352) : ℝ :=
  (∑ l : Fin 96, (joint x1 x3 b k g l).toReal * (x0 (ix5 b q g 0 l) : EReal).toReal) * (3424635 / 33554432)

include h0 h1 h3 in
/-- The reference's score. -/
theorem score_reference (q : Fin 4096) (g : Fin 4) (k : Fin 4352) :
    (∑ l, (joint x1 x3 b k g l * x0 (ix5 b q g 0 l) : EReal)) * ((3424635 / 33554432 : ℝ) : EReal)
      = (score x0 x1 x3 b q g k : EReal) := by
  unfold score
  rw [EReal.coe_mul, coe_sum]
  refine congrArg (· * _) (Finset.sum_congr rfl fun l _ => ?_)
  rw [EReal.coe_mul, joint_real x1 x3 b h1 h3, h0]

include h0 h1 h3 in
/-- The kernel's score: over the laid out lanes, with the scale in the query and base two. -/
theorem score_kernel (q : Fin 4096) (h : Fin 4) (k : Fin 4352) :
    (∑ l : Fin 128, (keyAll (layKC x1) (layKL x3) b k ⟨128 * h + l, by omega⟩
        * (layQ x0 (ix3 b q ⟨128 * h + l, by omega⟩) * (((3424635 / 33554432) * (Real.log 2)⁻¹ : ℝ) : EReal)) : EReal))
      = ((score x0 x1 x3 b q h k * (Real.log 2)⁻¹ : ℝ) : EReal) := by
  have hl : ∀ l : Fin 128, (keyAll (layKC x1) (layKL x3) b k ⟨128 * h + l, by omega⟩
        * (layQ x0 (ix3 b q ⟨128 * h + l, by omega⟩) * (((3424635 / 33554432) * (Real.log 2)⁻¹ : ℝ) : EReal)) : EReal)
      = if hl : (l : Nat) < 96 then (joint x1 x3 b k h ⟨l, hl⟩
          * (x0 (ix5 b q h 0 ⟨l, hl⟩) * (((3424635 / 33554432) * (Real.log 2)⁻¹ : ℝ) : EReal)) : EReal) else 0 := by
    intro l
    rw [keyAll_apply, layQ_apply x0 b q h l ⟨128 * h + l, by omega⟩ rfl]
    split
    · rfl
    · simp only [zero_mul]
  rw [Finset.sum_congr rfl fun l _ => hl l, Fin.sum_univ_add (a := 96) (b := 32)]
  unfold score
  refine (congrArg (_ + ·) (Finset.sum_eq_zero fun i _ => dif_neg (by simp))).trans ?_
  rw [add_zero, Finset.sum_mul, Finset.sum_mul, coe_sum]
  refine Finset.sum_congr rfl fun l _ => ?_
  rw [dif_pos (by simp)]
  show (joint x1 x3 b k h l * (x0 (ix5 b q h 0 l) * _) : EReal) = _
  rw [← joint_real x1 x3 b h1 h3, ← h0, ← EReal.coe_mul, ← EReal.coe_mul]
  simp only [EReal.toReal_coe]
  exact congrArg (fun x : ℝ => (x : EReal)) (by ring)

end

variable (m : (ℓ : Loc nD τ sig) → Buf (Elt Ideal) ℓ) (c : Dev nD)

/-- The kernel's result is the reference's. -/
theorem result_value [Cert.Pre_finite_mla_scores.Facts] (hm : Cert.Pre_Kernel5Ideal_finite_mla_scores m) :
    (dats m 0 c).arrAt 17 cfg0.N = Cert.Reference5Ideal.Read.val_main_v20 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) := by
  obtain ⟨h0, h1, h3⟩ := finite _ _ _ _ _ (hm c)
  funext j
  idx_vars j
  obtain ⟨i, r, hi⟩ : ∃ (i : Fin 16) (r : Fin 256), j1 = ⟨256 * i + r, by omega⟩ :=
    ⟨⟨j1 / 256, by have := j1.isLt; omega⟩, ⟨j1 % 256, by omega⟩, Fin.ext (by show (j1 : Nat) = 256 * (j1 / 256) + j1 % 256; omega)⟩
  obtain ⟨h, d, hd⟩ : ∃ (h : Fin 4) (d : Fin 64), j2 = ⟨64 * h + d, by omega⟩ :=
    ⟨⟨j2 / 64, by have := j2.isLt; omega⟩, ⟨j2 % 64, by omega⟩, Fin.ext (by show (j2 : Nat) = 64 * (j2 / 64) + j2 % 64; omega)⟩
  subst hi hd
  rw [result_at, V_q, V_kc, V_kl, V_vc, V_vl]
  refine (point_eq _ _ _ _ _ j0 i r h d _ _ (fun k => score_kernel _ _ _ j0 h0 h1 h3 _ h k)
    (fun k => valueAll_one _ _ j0 k _ _ rfl) fun k => valueAll_apply _ _ j0 k _ d _ rfl).trans ?_
  exact (result_eq _ _ _ _ _ j0 _ h d _ rfl _ fun k => score_reference _ _ _ j0 h0 h1 h3 _ _ k).symm

end Cert.Latent

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Pre_finite_states
public import proofs.«01_k».proof.Proof.Gen.Pre_finite_mla_scores
public import proofs.«01_k».proof.Proof.Gen.ReferenceIdeal.Run
public import proofs.«01_k».proof.Proof.Gen.ReferenceIdeal.Read
public import proofs.«01_k».proof.Proof.Value
public import proofs.«01_k».proof.Proof.MixValue
public import proofs.«01_k».proof.Proof.Ffn3Value
public import proofs.«01_k».proof.Proof.ProjValue
public import proofs.«01_k».proof.Proof.MlaValue
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The reference leaves its arguments as launched, and has no semaphores. -/
theorem reference_frame : Cert.quiescent_ReferenceIdeal (hReferenceIdeal := Cert.ReferenceIdeal.Gen.facts) := fun m g _ =>
  (θ_run (Cert.ReferenceIdeal.defs (F := Ideal)) _ _).mono
    (fun r h => And.intro (fun c => (h c).2) (sem_eq_zero_of_no_sems rfl r.2)) (Cert.ReferenceIdeal.Value.run m g)

theorem reference2_frame : Cert.quiescent_Reference2Ideal (hReference2Ideal := Cert.Reference2Ideal.Gen.facts) := fun m g _ =>
  (θ_run (Cert.Reference2Ideal.defs (F := Ideal)) _ _).mono
    (fun r h => And.intro (fun c => (h c).2) (sem_eq_zero_of_no_sems rfl r.2)) (Cert.Reference2Ideal.Value.run m g)

theorem reference3_frame : Cert.quiescent_Reference3Ideal (hReference3Ideal := Cert.Reference3Ideal.Gen.facts) := fun m g _ =>
  (θ_run (Cert.Reference3Ideal.defs (F := Ideal)) _ _).mono
    (fun r h => And.intro (fun c => (h c).2) (sem_eq_zero_of_no_sems rfl r.2)) (Cert.Reference3Ideal.Value.run m g)

theorem reference4_frame : Cert.quiescent_Reference4Ideal (hReference4Ideal := Cert.Reference4Ideal.Gen.facts) := fun m g _ =>
  (θ_run (Cert.Reference4Ideal.defs (F := Ideal)) _ _).mono
    (fun r h => And.intro (fun c => (h c).2.2.2.2) (sem_eq_zero_of_no_sems rfl r.2)) (Cert.Reference4Ideal.Value.run m g)

theorem reference5_frame : Cert.quiescent_Reference5Ideal (hReference5Ideal := Cert.Reference5Ideal.Gen.facts) := fun m g _ =>
  (θ_run (Cert.Reference5Ideal.defs (F := Ideal)) _ _).mono
    (fun r h => And.intro (fun c => (h c).2) (sem_eq_zero_of_no_sems rfl r.2)) (Cert.Reference5Ideal.Value.run m g)

/-- The attention's value. -/
theorem attention_value : Cert.algebraic_KernelIdeal_ReferenceIdeal_pre_finite_scores (hKernelIdeal := Cert.KernelIdeal.Gen.facts) (hReferenceIdeal := Cert.ReferenceIdeal.Gen.facts) (hPre_finite_scores := Cert.Pre_finite_scores.Gen.facts) := by
  have := Cert.Pre_finite_scores.Gen.facts
  intro m g m' g' hm hag
  refine ⟨fun c => Cert.ReferenceIdeal.Read.val_main_v20 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run _ _ _).mono (fun r h c => ⟨(h c).1.trans (Cert.Attention.result_value m c hm), (h c).2⟩)
      (Cert.Attention.run_result m g)
  · refine (θ_run _ _ _).mono (fun r h c => ⟨(h c).1.trans ?_, (h c).2⟩) (Cert.ReferenceIdeal.Value.run m' g')
    obtain ⟨e0, e1, e2, e3, e4⟩ := hag c
    rw [Cert.ReferenceIdeal.Read.val_main_v20_eq, e0, e1, e2, e3, e4]

/-- The mixing's value. -/
theorem mix_value : Cert.algebraic_Kernel2Ideal_Reference2Ideal_pre_finite_states (hKernel2Ideal := Cert.Kernel2Ideal.Gen.facts) (hReference2Ideal := Cert.Reference2Ideal.Gen.facts) (hPre_finite_states := Cert.Pre_finite_states.Gen.facts) := by
  have := Cert.Pre_finite_states.Gen.facts
  intro m g m' g' hm hag
  refine ⟨fun c => Cert.Reference2Ideal.Read.val_main_v74 (F := Ideal)
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5))
      (m ((c.tc : Thread Cert.Kernel2Ideal.nD Cert.Kernel2Ideal.τ).loc Cert.Kernel2Ideal.main_arg6))
      (m ((c.tc : Thread Cert.Kernel2Ideal.nD Cert.Kernel2Ideal.τ).loc Cert.Kernel2Ideal.main_arg7))
      (m ((c.tc : Thread Cert.Kernel2Ideal.nD Cert.Kernel2Ideal.τ).loc Cert.Kernel2Ideal.main_arg8))
      (m ((c.tc : Thread Cert.Kernel2Ideal.nD Cert.Kernel2Ideal.τ).loc Cert.Kernel2Ideal.main_arg9))
      (m ((c.tc : Thread Cert.Kernel2Ideal.nD Cert.Kernel2Ideal.τ).loc Cert.Kernel2Ideal.main_arg10))
      (m ((c.tc : Thread Cert.Kernel2Ideal.nD Cert.Kernel2Ideal.τ).loc Cert.Kernel2Ideal.main_arg11))
      (m ((c.tc : Thread Cert.Kernel2Ideal.nD Cert.Kernel2Ideal.τ).loc Cert.Kernel2Ideal.main_arg12))
      (m ((c.tc : Thread Cert.Kernel2Ideal.nD Cert.Kernel2Ideal.τ).loc Cert.Kernel2Ideal.main_arg13))
      (m ((c.tc : Thread Cert.Kernel2Ideal.nD Cert.Kernel2Ideal.τ).loc Cert.Kernel2Ideal.main_arg14))
      (m ((c.tc : Thread Cert.Kernel2Ideal.nD Cert.Kernel2Ideal.τ).loc Cert.Kernel2Ideal.main_arg15)), ?_, ?_⟩
  · exact (θ_run _ _ _).mono (fun r h c => ⟨(h c).1.trans (Cert.Mix.result_value m c hm), (h c).2⟩)
      (Cert.Mix.run_result m g)
  · refine (θ_run _ _ _).mono (fun r h c => ⟨(h c).1.trans ?_, (h c).2⟩) (Cert.Reference2Ideal.Value.run m' g')
    obtain ⟨e0, e1, e2, e3, e4, e5, e6, e7, e8, e9, e10, e11, e12, e13, e14, e15⟩ := hag c
    rw [Cert.Reference2Ideal.Read.val_main_v74_eq, e0, e1, e2, e3, e4, e5, e6, e7, e8, e9, e10, e11, e12, e13, e14, e15]

/-- The first feed-forward's value. -/
theorem ffn_value : Cert.algebraic_Kernel3Ideal_Reference3Ideal (hKernel3Ideal := Cert.Kernel3Ideal.Gen.facts) (hReference3Ideal := Cert.Reference3Ideal.Gen.facts) := by
  intro m g m' g' hm hag
  refine ⟨fun c => Cert.Reference3Ideal.Read.val_main_v37 (F := Ideal)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5)), ?_, ?_⟩
  · exact (θ_run _ _ _).mono (fun r h c => ⟨(h c).1.trans (Cert.FeedForward.result_value m c), (h c).2⟩)
      (Cert.FeedForward.run_result m g)
  · refine (θ_run _ _ _).mono (fun r h c => ⟨(h c).1.trans ?_, (h c).2⟩) (Cert.Reference3Ideal.Value.run m' g')
    obtain ⟨e0, e1, e2, e3, e4, e5⟩ := hag c
    rw [Cert.Reference3Ideal.Read.val_main_v37_eq, e0, e1, e2, e3, e4, e5]

/-- The input projection's four values. -/
theorem projection_value : Cert.algebraic_Kernel4Ideal_Reference4Ideal (hKernel4Ideal := Cert.Kernel4Ideal.Gen.facts) (hReference4Ideal := Cert.Reference4Ideal.Gen.facts) := by
  intro m g m' g' hm hag
  refine ⟨fun c => Cert.Reference4Ideal.Read.val_main_v26 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3)),
    fun c => Cert.Reference4Ideal.Read.val_main_v27 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3)),
    fun c => Cert.Reference4Ideal.Read.val_main_v28 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3)),
    fun c => Cert.Reference4Ideal.Read.val_main_v29 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3)), ?_, ?_⟩
  · exact (θ_run _ _ _).mono (fun r h c => ⟨(h c).1.trans (Cert.Projection.value_0 m c), (h c).2.1.trans (Cert.Projection.value_1 m c),
      (h c).2.2.1.trans (Cert.Projection.value_2 m c), (h c).2.2.2.1.trans (Cert.Projection.value_3 m c), (h c).2.2.2.2⟩)
      (Cert.Projection.run_result m g)
  · refine (θ_run _ _ _).mono (fun r h c => ⟨(h c).1.trans ?_, (h c).2.1.trans ?_, (h c).2.2.1.trans ?_, (h c).2.2.2.1.trans ?_,
      (h c).2.2.2.2⟩) (Cert.Reference4Ideal.Value.run m' g')
    all_goals obtain ⟨e0, e1, e2, e3⟩ := hag c
    · rw [Cert.Reference4Ideal.Read.val_main_v26_eq, e0, e1, e2, e3]
    · rw [Cert.Reference4Ideal.Read.val_main_v27_eq, e0, e1, e2, e3]
    · rw [Cert.Reference4Ideal.Read.val_main_v28_eq, e0, e1, e2, e3]
    · rw [Cert.Reference4Ideal.Read.val_main_v29_eq, e0, e1, e2, e3]

/-- The latent attention's value. -/
theorem latent_value : Cert.algebraic_Kernel5Ideal_Reference5Ideal_pre_finite_mla_scores (hKernel5Ideal := Cert.Kernel5Ideal.Gen.facts) (hReference5Ideal := Cert.Reference5Ideal.Gen.facts) (hPre_finite_mla_scores := Cert.Pre_finite_mla_scores.Gen.facts) := by
  have := Cert.Pre_finite_mla_scores.Gen.facts
  intro m g m' g' hm hag
  refine ⟨fun c => Cert.Reference5Ideal.Read.val_main_v20 (F := Ideal)
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4)), ?_, ?_⟩
  · exact (θ_run _ _ _).mono (fun r h c => ⟨(h c).1.trans (Cert.Latent.result_value m c hm), (h c).2⟩)
      (Cert.Latent.run_result m g)
  · refine (θ_run _ _ _).mono (fun r h c => ⟨(h c).1.trans ?_, (h c).2⟩) (Cert.Reference5Ideal.Value.run m' g')
    obtain ⟨e0, e1, e2, e3, e4⟩ := hag c
    rw [Cert.Reference5Ideal.Read.val_main_v20_eq, e0, e1, e2, e3, e4]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite_scores.Gen.facts, Cert.Pre_finite_states.Gen.facts, Cert.Pre_finite_mla_scores.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Kernel2.Gen.frame m ρ, fun m ρ _ => Cert.Kernel2Ideal.Gen.frame m ρ, fun m ρ _ => Cert.Kernel2Ideal.Gen.frame m ρ,
    reference2_frame, fun m ρ _ => reference2_frame m ρ trivial,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ, reference4_frame,
    fun m ρ _ => Cert.Kernel5.Gen.frame m ρ, fun m ρ _ => Cert.Kernel5Ideal.Gen.frame m ρ, fun m ρ _ => Cert.Kernel5Ideal.Gen.frame m ρ,
    reference5_frame, fun m ρ _ => reference5_frame m ρ trivial,
    IdealRules.named_const.statement Cert.KernelIdeal.κ "scale" .f32 0x3E38AA3B#32 (((1 / 8) * (Real.log 2)⁻¹ : ℝ) : EReal) rfl,
    attention_value, trivial, mix_value, trivial, ffn_value, trivial, projection_value,
    IdealRules.named_const.statement Cert.Kernel5Ideal.κ "scale" .f32 0x3E16C740#32 (((3424635 / 33554432) * (Real.log 2)⁻¹ : ℝ) : EReal) rfl,
    latent_value⟩

end Cert.Proof

end
